-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v3) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v18) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v5) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v24) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v3) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v24_0)) (v1 : (c : Dev Cert.Kernel6Ideal.nD) → Buf (Elt Ideal) ((c.tc : Thread Cert.Kernel6Ideal.nD Cert.Kernel6Ideal.τ).loc Cert.Kernel6Ideal.main_v24_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v24_0) = v0 c
          ∧ r.2.mem ((c.tc : Thread Cert.Kernel6Ideal.nD Cert.Kernel6Ideal.τ).loc Cert.Kernel6Ideal.main_v24_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v42) = v0 c
          ∧ r.2.mem ((c.tc : Thread Cert.Reference6Ideal.nD Cert.Reference6Ideal.τ).loc Cert.Reference6Ideal.main_v43) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_finite.lean ====
abbrev S4x4096x17408 : Shape := ⟨3, ![4, 4096, 17408]⟩
abbrev S4x4096x768 : Shape := ⟨3, ![4, 4096, 768]⟩
abbrev S4x6144 : Shape := ⟨2, ![4, 6144]⟩
abbrev S16 : Shape := ⟨1, ![16]⟩
abbrev S128 : Shape := ⟨1, ![128]⟩
abbrev S_ : Shape := ⟨0, ![]⟩

class Facts : Prop where
  bcast_S_S4x4096x17408 : S_.BroadcastsInDim S4x4096x17408 (![] : Fin 0 → Fin S4x4096x17408.rank)
  bcast_S_S4x4096x768 : S_.BroadcastsInDim S4x4096x768 (![] : Fin 0 → Fin S4x4096x768.rank)
  bcast_S_S4x6144 : S_.BroadcastsInDim S4x6144 (![] : Fin 0 → Fin S4x6144.rank)
  bcast_S_S16 : S_.BroadcastsInDim S16 (![] : Fin 0 → Fin S16.rank)
  bcast_S_S128 : S_.BroadcastsInDim S128 (![] : Fin 0 → Fin S128.rank)

variable [Facts]

def fn {F : FTy → Type} [FloatOps F] (main_arg0 : FVec F S4x4096x17408 .bf16) (main_arg1 : FVec F S4x4096x768 .f32) (main_arg2 : FVec F S4x6144 .f32) (main_arg3 : FVec F S16 .f32) (main_arg4 : FVec F S16 .f32) (main_arg5 : FVec F S128 .f32) : IVec S4x4096x17408 1 × IVec S4x4096x768 1 × IVec S4x6144 1 × IVec S16 1 × IVec S16 1 × IVec S128 1 :=
  let main_v0 : FVec F S4x4096x17408 .bf16 := Host.absf main_arg0
  let main_cst : FVec F S_ .bf16 := constant S_ .bf16 0x7F80#16
  let main_v1 : FVec F S4x4096x17408 .bf16 := broadcastInDim S4x4096x17408 ![] bcast_S_S4x4096x17408 main_cst
  let main_v2 : IVec S4x4096x17408 1 := cmpf .olt main_v0 main_v1
  let main_v3 : FVec F S4x4096x768 .f32 := Host.absf main_arg1
  let main_cst_0 : FVec F S_ .f32 := constant S_ .f32 0x7F800000#32
  let main_v4 : FVec F S4x4096x768 .f32 := broadcastInDim S4x4096x768 ![] bcast_S_S4x4096x768 main_cst_0
  let main_v5 : IVec S4x4096x768 1 := cmpf .olt main_v3 main_v4
  let main_v6 : FVec F S4x6144 .f32 := Host.absf main_arg2
  let main_cst_1 : FVec F S_ .f32 := constant S_ .f32 0x7F800000#32
  let main_v7 : FVec F S4x6144 .f32 := broadcastInDim S4x6144 ![] bcast_S_S4x6144 main_cst_1
  let main_v8 : IVec S4x6144 1 := cmpf .olt main_v6 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_v12 : FVec F S16 .f32 := Host.absf main_arg4
  let main_cst_3 : FVec F S_ .f32 := constant S_ .f32 0x7F800000#32
  let main_v13 : FVec F S16 .f32 := broadcastInDim S16 ![] bcast_S_S16 main_cst_3
  let main_v14 : IVec S16 1 := cmpf .olt main_v12 main_v13
  let main_v15 : FVec F S128 .f32 := Host.absf main_arg5
  let main_cst_4 : FVec F S_ .f32 := constant S_ .f32 0x7F800000#32
  let main_v16 : FVec F S128 .f32 := broadcastInDim S128 ![] bcast_S_S128 main_cst_4
  let main_v17 : IVec S128 1 := cmpf .olt main_v15 main_v16
  (main_v2, main_v5, main_v8, main_v11, main_v14, main_v17)
-- ==== Kernel.lean ====
abbrev S4x4096x17408 : Shape := ⟨3, ![4, 4096, 17408]⟩
abbrev S4x4096x768 : Shape := ⟨3, ![4, 4096, 768]⟩
abbrev S4x6144 : Shape := ⟨2, ![4, 6144]⟩
abbrev S16 : Shape := ⟨1, ![16]⟩
abbrev S128 : Shape := ⟨1, ![128]⟩
abbrev S4x3x2048 : Shape := ⟨3, ![4, 3, 2048]⟩
abbrev S3x4x2048 : Shape := ⟨3, ![3, 4, 2048]⟩
abbrev S2x1x8 : Shape := ⟨3, ![2, 1, 8]⟩
abbrev S_ : Shape := ⟨0, ![]⟩
abbrev S2x1x128 : Shape := ⟨3, ![2, 1, 128]⟩
abbrev S1x128 : Shape := ⟨2, ![1, 128]⟩
abbrev S3x256x256 : Shape := ⟨3, ![3, 256, 256]⟩
abbrev S4x4096x2048 : Shape := ⟨3, ![4, 4096, 2048]⟩
abbrev S1x256x1024 : Shape := ⟨3, ![1, 256, 1024]⟩
abbrev S1x256x128 : Shape := ⟨3, ![1, 256, 128]⟩
abbrev S3x4x1024 : Shape := ⟨3, ![3, 4, 1024]⟩
abbrev S1x1x128 : Shape := ⟨3, ![1, 1, 128]⟩
abbrev S3x8x1024 : Shape := ⟨3, ![3, 8, 1024]⟩
abbrev S8x128x128 : Shape := ⟨3, ![8, 128, 128]⟩
abbrev S8x1024 : Shape := ⟨2, ![8, 1024]⟩
abbrev S256x1024 : Shape := ⟨2, ![256, 1024]⟩
abbrev S1x8x1024 : Shape := ⟨3, ![1, 8, 1024]⟩
abbrev S1x1x1024 : Shape := ⟨3, ![1, 1, 1024]⟩
abbrev S1x1024 : Shape := ⟨2, ![1, 1024]⟩
abbrev S1x256x256 : Shape := ⟨3, ![1, 256, 256]⟩
abbrev S256x256 : Shape := ⟨2, ![256, 256]⟩
abbrev S248x1024 : Shape := ⟨2, ![248, 1024]⟩
abbrev S256x128 : Shape := ⟨2, ![256, 128]⟩
abbrev S64x128 : Shape := ⟨2, ![64, 128]⟩
abbrev S128x256 : Shape := ⟨2, ![128, 256]⟩
abbrev S128x128 : Shape := ⟨2, ![128, 128]⟩
abbrev S256 : Shape := ⟨1, ![256]⟩
abbrev S256x1 : Shape := ⟨2, ![256, 1]⟩
abbrev S1x256 : Shape := ⟨2, ![1, 256]⟩
abbrev S64x256 : Shape := ⟨2, ![64, 256]⟩
abbrev S1x128x128 : Shape := ⟨3, ![1, 128, 128]⟩
abbrev S192x128 : Shape := ⟨2, ![192, 128]⟩
abbrev S1x1 : Shape := ⟨2, ![1, 1]⟩

abbrev nBuf : Space → Nat
  | .hbm => 32
  | .vmem => 22
  | .smem => 0
  | _ => 0

abbrev bufTy : (tb : Table) → Fin (tcTables nBuf tb) → BufTy
  | .hbm, ⟨0, _⟩ => ⟨S4x4096x17408, .bf16⟩
  | .hbm, ⟨1, _⟩ => ⟨S4x4096x768, .f32⟩
  | .hbm, ⟨2, _⟩ => ⟨S4x6144, .f32⟩
  | .hbm, ⟨3, _⟩ => ⟨S16, .f32⟩
  | .hbm, ⟨4, _⟩ => ⟨S16, .f32⟩
  | .hbm, ⟨5, _⟩ => ⟨S128, .f32⟩
  | .hbm, ⟨6, _⟩ => ⟨S4x3x2048, .f32⟩
  | .hbm, ⟨7, _⟩ => ⟨S3x4x2048, .f32⟩
  | .hbm, ⟨8, _⟩ => ⟨S2x1x8, .f32⟩
  | .hbm, ⟨9, _⟩ => ⟨S_, .i32⟩
  | .hbm, ⟨10, _⟩ => ⟨S_, .f32⟩
  | .hbm, ⟨11, _⟩ => ⟨S2x1x128, .f32⟩
  | .hbm, ⟨12, _⟩ => ⟨S2x1x8, .f32⟩
  | .hbm, ⟨13, _⟩ => ⟨S_, .i32⟩
  | .hbm, ⟨14, _⟩ => ⟨S_, .f32⟩
  | .hbm, ⟨15, _⟩ => ⟨S2x1x128, .f32⟩
  | .hbm, ⟨16, _⟩ => ⟨S1x128, .f32⟩
  | .hbm, ⟨17, _⟩ => ⟨S3x256x256, .i32⟩
  | .hbm, ⟨18, _⟩ => ⟨S3x256x256, .i32⟩
  | .hbm, ⟨19, _⟩ => ⟨S3x256x256, .i32⟩
  | .hbm, ⟨20, _⟩ => ⟨S_, .i32⟩
  | .hbm, ⟨21, _⟩ => ⟨S3x256x256, .i32⟩
  | .hbm, ⟨22, _⟩ => ⟨S3x256x256, .i32⟩
  | .hbm, ⟨23, _⟩ => ⟨S3x256x256, .i32⟩
  | .hbm, ⟨24, _⟩ => ⟨S3x256x256, .i1⟩
  | .hbm, ⟨25, _⟩ => ⟨S_, .f32⟩
  | .hbm, ⟨26, _⟩ => ⟨S_, .f32⟩
  | .hbm, ⟨27, _⟩ => ⟨S3x256x256, .f32⟩
  | .hbm, ⟨28, _⟩ => ⟨S3x256x256, .f32⟩
  | .hbm, ⟨29, _⟩ => ⟨S3x256x256, .f32⟩
  | .hbm, ⟨30, _⟩ => ⟨S3x256x256, .bf16⟩
  | .hbm, ⟨31, _⟩ => ⟨S4x4096x2048, .bf16⟩
  | .local _ .vmem, ⟨0, _⟩ => ⟨S1x256x1024, .bf16⟩
  | .local _ .vmem, ⟨1, _⟩ => ⟨S1x256x1024, .bf16⟩
  | .local _ .vmem, ⟨2, _⟩ => ⟨S1x256x1024, .bf16⟩
  | .local _ .vmem, ⟨3, _⟩ => ⟨S1x256x1024, .bf16⟩
  | .local _ .vmem, ⟨4, _⟩ => ⟨S1x256x1024, .bf16⟩
  | .local _ .vmem, ⟨5, _⟩ => ⟨S1x256x1024, .bf16⟩
  | .local _ .vmem, ⟨6, _⟩ => ⟨S1x256x1024, .bf16⟩
  | .local _ .vmem, ⟨7, _⟩ => ⟨S1x256x1024, .bf16⟩
  | .local _ .vmem, ⟨8, _⟩ => ⟨S1x256x128, .f32⟩
  | .local _ .vmem, ⟨9, _⟩ => ⟨S1x256x128, .f32⟩
  | .local _ .vmem, ⟨10, _⟩ => ⟨S3x4x1024, .f32⟩
  | .local _ .vmem, ⟨11, _⟩ => ⟨S3x4x1024, .f32⟩
  | .local _ .vmem, ⟨12, _⟩ => ⟨S1x1x128, .f32⟩
  | .local _ .vmem, ⟨13, _⟩ => ⟨S1x1x128, .f32⟩
  | .local _ .vmem, ⟨14, _⟩ => ⟨S1x1x128, .f32⟩
  | .local _ .vmem, ⟨15, _⟩ => ⟨S1x1x128, .f32⟩
  | .local _ .vmem, ⟨16, _⟩ => ⟨S1x128, .f32⟩
  | .local _ .vmem, ⟨17, _⟩ => ⟨S3x256x256, .bf16⟩
  | .local _ .vmem, ⟨18, _⟩ => ⟨S1x256x1024, .bf16⟩
  | .local _ .vmem, ⟨19, _⟩ => ⟨S1x256x1024, .bf16⟩
  | .local _ .vmem, ⟨20, _⟩ => ⟨S3x8x1024, .f32⟩
  | .local _ .vmem, ⟨21, _⟩ => ⟨S8x128x128, .f32⟩
  | _, _ => ⟨S4x4096x17408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_call0_v0 : Ref sig .tc := ⟨.hbm, 10, rfl⟩
abbrev main_v3 : Ref sig .tc := ⟨.hbm, 11, rfl⟩
abbrev main_v4 : Ref sig .tc := ⟨.hbm, 12, rfl⟩
abbrev main_c_0 : Ref sig .tc := ⟨.hbm, 13, rfl⟩
abbrev main_call1_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst : Ref sig .tc := ⟨.hbm, 25, rfl⟩
abbrev main_cst_2 : Ref sig .tc := ⟨.hbm, 26, rfl⟩
abbrev main_call2_v0 : Ref sig .tc := ⟨.hbm, 27, rfl⟩
abbrev main_call2_v1 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨3, ![4, 2, 16], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c5_i32 : BitVec 32 := 5#32
  let v0 : BitVec 32 := Scalar.addi c5_i32 arg1
  let c0_i32 : BitVec 32 := 0#32
  ![arg0.toNat, arg2.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c7_i32 : BitVec 32 := 7#32
  let v0 : BitVec 32 := Scalar.addi c7_i32 arg1
  let c0_i32 : BitVec 32 := 0#32
  ![arg0.toNat, arg2.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c9_i32 : BitVec 32 := 9#32
  let v0 : BitVec 32 := Scalar.addi c9_i32 arg1
  let c0_i32 : BitVec 32 := 0#32
  ![arg0.toNat, arg2.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.addi c11_i32 arg1
  let c0_i32 : BitVec 32 := 0#32
  ![arg0.toNat, arg2.toNat, v0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, arg2.toNat, v0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S3x4x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S1x1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S1x1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 1 → Memref sig .tc .vmem S3x256x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]

abbrev stage0_10 : Fin 2 → Memref sig .tc .vmem S1x256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]
-- ==== ReferenceIdeal.lean ====
abbrev S4x4096x17408 : Shape := ⟨3, ![4, 4096, 17408]⟩
abbrev S4x4096x768 : Shape := ⟨3, ![4, 4096, 768]⟩
abbrev S4x6144 : Shape := ⟨2, ![4, 6144]⟩
abbrev S16 : Shape := ⟨1, ![16]⟩
abbrev S128 : Shape := ⟨1, ![128]⟩
abbrev S4x4096x6144 : Shape := ⟨3, ![4, 4096, 6144]⟩
abbrev S4x4096x8 : Shape := ⟨3, ![4, 4096, 8]⟩
abbrev S4x4096x16 : Shape := ⟨3, ![4, 4096, 16]⟩
abbrev S_ : Shape := ⟨0, ![]⟩
abbrev S4x4099x6144 : Shape := ⟨3, ![4, 4099, 6144]⟩
abbrev S1x6144 : Shape := ⟨2, ![1, 6144]⟩
abbrev S6144 : Shape := ⟨1, ![6144]⟩
abbrev S1x1x6144 : Shape := ⟨3, ![1, 1, 6144]⟩
abbrev S4x4096x2048 : Shape := ⟨3, ![4, 4096, 2048]⟩
abbrev S4x4096x16x128 : Shape := ⟨4, ![4, 4096, 16, 128]⟩
abbrev S4x4096x16x1 : Shape := ⟨4, ![4, 4096, 16, 1]⟩
abbrev S1x1x16 : Shape := ⟨3, ![1, 1, 16]⟩
abbrev S4096x4x16x128 : Shape := ⟨4, ![4096, 4, 16, 128]⟩
abbrev S4096x4x16 : Shape := ⟨3, ![4096, 4, 16]⟩
abbrev S4x16x128x128 : Shape := ⟨4, ![4, 16, 128, 128]⟩
abbrev S1x4x16x128 : Shape := ⟨4, ![1, 4, 16, 128]⟩
abbrev S4x16x128 : Shape := ⟨3, ![4, 16, 128]⟩
abbrev S1x4x16 : Shape := ⟨3, ![1, 4, 16]⟩
abbrev S4x16 : Shape := ⟨2, ![4, 16]⟩
abbrev S4x16x1x1 : Shape := ⟨4, ![4, 16, 1, 1]⟩
abbrev S4x16x1 : Shape := ⟨3, ![4, 16, 1]⟩
abbrev S4x16x128x1 : Shape := ⟨4, ![4, 16, 128, 1]⟩
abbrev S4x16x1x128 : Shape := ⟨4, ![4, 16, 1, 128]⟩
abbrev S1x1x1x128 : Shape := ⟨4, ![1, 1, 1, 128]⟩

abbrev nBuf : Space → Nat
  | .hbm => 210
  | .vmem => 0
  | .smem => 0
  | _ => 0

abbrev hbmTy0_0 (i : Nat) : BufTy := match i % 128 with
  | 0 => ⟨S4x4096x17408, .bf16⟩
  | 1 => ⟨S4x4096x768, .f32⟩
  | 2 => ⟨S4x6144, .f32⟩
  | 3 => ⟨S16, .f32⟩
  | 4 => ⟨S16, .f32⟩
  | 5 => ⟨S128, .f32⟩
  | 6 => ⟨S4x4096x6144, .bf16⟩
  | 7 => ⟨S4x4096x6144, .f32⟩
  | 8 => ⟨S4x4096x8, .f32⟩
  | 9 => ⟨S4x4096x8, .f32⟩
  | 10 => ⟨S4x4096x16, .f32⟩
  | 11 => ⟨S4x4096x8, .f32⟩
  | 12 => ⟨S4x4096x8, .f32⟩
  | 13 => ⟨S4x4096x16, .f32⟩
  | 14 => ⟨S_, .i32⟩
  | 15 => ⟨S_, .f32⟩
  | 16 => ⟨S4x4099x6144, .f32⟩
  | 17 => ⟨S1x6144, .f32⟩
  | 18 => ⟨S6144, .f32⟩
  | 19 => ⟨S4x4096x6144, .f32⟩
  | 20 => ⟨S1x1x6144, .f32⟩
  | 21 => ⟨S4x4096x6144, .f32⟩
  | 22 => ⟨S4x4096x6144, .f32⟩
  | 23 => ⟨S1x6144, .f32⟩
  | 24 => ⟨S6144, .f32⟩
  | 25 => ⟨S4x4096x6144, .f32⟩
  | 26 => ⟨S1x1x6144, .f32⟩
  | 27 => ⟨S4x4096x6144, .f32⟩
  | 28 => ⟨S4x4096x6144, .f32⟩
  | 29 => ⟨S4x4096x6144, .f32⟩
  | 30 => ⟨S1x6144, .f32⟩
  | 31 => ⟨S6144, .f32⟩
  | 32 => ⟨S4x4096x6144, .f32⟩
  | 33 => ⟨S1x1x6144, .f32⟩
  | 34 => ⟨S4x4096x6144, .f32⟩
  | 35 => ⟨S4x4096x6144, .f32⟩
  | 36 => ⟨S4x4096x6144, .f32⟩
  | 37 => ⟨S1x6144, .f32⟩
  | 38 => ⟨S6144, .f32⟩
  | 39 => ⟨S4x4096x6144, .f32⟩
  | 40 => ⟨S1x1x6144, .f32⟩
  | 41 => ⟨S4x4096x6144, .f32⟩
  | 42 => ⟨S4x4096x6144, .f32⟩
  | 43 => ⟨S4x4096x6144, .f32⟩
  | 44 => ⟨S4x4096x6144, .f32⟩
  | 45 => ⟨S4x4096x6144, .f32⟩
  | 46 => ⟨S_, .f32⟩
  | 47 => ⟨S4x4096x6144, .f32⟩
  | 48 => ⟨S4x4096x6144, .f32⟩
  | 49 => ⟨S_, .f32⟩
  | 50 => ⟨S4x4096x6144, .f32⟩
  | 51 => ⟨S4x4096x6144, .f32⟩
  | 52 => ⟨S4x4096x6144, .f32⟩
  | 53 => ⟨S4x4096x2048, .f32⟩
  | 54 => ⟨S4x4096x2048, .f32⟩
  | 55 => ⟨S4x4096x2048, .f32⟩
  | 56 => ⟨S4x4096x16x128, .f32⟩
  | 57 => ⟨S4x4096x16x128, .f32⟩
  | 58 => ⟨S_, .f32⟩
  | 59 => ⟨S4x4096x16, .f32⟩
  | 60 => ⟨S4x4096x16x1, .f32⟩
  | 61 => ⟨S_, .f32⟩
  | 62 => ⟨S4x4096x16x1, .f32⟩
  | 63 => ⟨S4x4096x16x1, .f32⟩
  | 64 => ⟨S4x4096x16x1, .f32⟩
  | 65 => ⟨S4x4096x16x128, .f32⟩
  | 66 => ⟨S4x4096x16x128, .f32⟩
  | 67 => ⟨S_, .f32⟩
  | 68 => ⟨S4x4096x16x128, .f32⟩
  | 69 => ⟨S4x4096x16x128, .f32⟩
  | 70 => ⟨S4x4096x16x128, .f32⟩
  | 71 => ⟨S4x4096x16x128, .f32⟩
  | 72 => ⟨S_, .f32⟩
  | 73 => ⟨S4x4096x16, .f32⟩
  | 74 => ⟨S4x4096x16x1, .f32⟩
  | 75 => ⟨S_, .f32⟩
  | 76 => ⟨S4x4096x16x1, .f32⟩
  | 77 => ⟨S4x4096x16x1, .f32⟩
  | 78 => ⟨S4x4096x16x1, .f32⟩
  | 79 => ⟨S4x4096x16x128, .f32⟩
  | 80 => ⟨S4x4096x16x128, .f32⟩
  | 81 => ⟨S4x4096x16x128, .f32⟩
  | 82 => ⟨S4x4096x16, .f32⟩
  | 83 => ⟨S4x4096x16, .f32⟩
  | 84 => ⟨S_, .f32⟩
  | 85 => ⟨S4x4096x16, .f32⟩
  | 86 => ⟨S4x4096x16, .f32⟩
  | 87 => ⟨S_, .f32⟩
  | 88 => ⟨S4x4096x16, .f32⟩
  | 89 => ⟨S4x4096x16, .f32⟩
  | 90 => ⟨S16, .f32⟩
  | 91 => ⟨S16, .f32⟩
  | 92 => ⟨S1x1x16, .f32⟩
  | 93 => ⟨S4x4096x16, .f32⟩
  | 94 => ⟨S4x4096x16, .f32⟩
  | 95 => ⟨S_, .f32⟩
  | 96 => ⟨S4x4096x16, .f32⟩
  | 97 => ⟨S4x4096x16, .f32⟩
  | 98 => ⟨S4x4096x16, .f32⟩
  | 99 => ⟨S4x4096x16, .f32⟩
  | 100 => ⟨S4x4096x16, .i1⟩
  | 101 => ⟨S4x4096x16, .f32⟩
  | 102 => ⟨S4x4096x16, .f32⟩
  | 103 => ⟨S4x4096x16, .f32⟩
  | 104 => ⟨S4x4096x16, .f32⟩
  | 105 => ⟨S4x4096x16, .f32⟩
  | 106 => ⟨S4x4096x16, .f32⟩
  | 107 => ⟨S4x4096x16, .f32⟩
  | 108 => ⟨S4x4096x16, .f32⟩
  | 109 => ⟨S1x1x16, .f32⟩
  | 110 => ⟨S4x4096x16, .f32⟩
  | 111 => ⟨S4x4096x16, .f32⟩
  | 112 => ⟨S4x4096x16, .f32⟩
  | 113 => ⟨S4096x4x16x128, .f32⟩
  | 114 => ⟨S4096x4x16x128, .f32⟩
  | 115 => ⟨S4096x4x16x128, .f32⟩
  | 116 => ⟨S4096x4x16, .f32⟩
  | 117 => ⟨S4096x4x16, .f32⟩
  | 118 => ⟨S_, .f32⟩
  | 119 => ⟨S4x16x128x128, .f32⟩
  | 120 => ⟨S_, .f32⟩
  | 121 => ⟨S4096x4x16x128, .f32⟩
  | 122 => ⟨S_, .i32⟩
  | 123 => ⟨S4096x4x16x128, .f32⟩
  | 124 => ⟨S4096x4x16x128, .f32⟩
  | 125 => ⟨S4096x4x16x128, .f32⟩
  | 126 => ⟨S4096x4x16, .f32⟩
  | 127 => ⟨S4096x4x16, .f32⟩
  | _ => ⟨S4x4096x17408, .bf16⟩

abbrev hbmTy0_1 (i : Nat) : BufTy := match i % 128 with
  | 0 => ⟨S_, .i32⟩
  | 1 => ⟨S4x16x128x128, .f32⟩
  | 2 => ⟨S4096x4x16x128, .f32⟩
  | 3 => ⟨S_, .i32⟩
  | 4 => ⟨S_, .i1⟩
  | 5 => ⟨S_, .i32⟩
  | 6 => ⟨S_, .i32⟩
  | 7 => ⟨S_, .i32⟩
  | 8 => ⟨S1x4x16x128, .f32⟩
  | 9 => ⟨S4x16x128, .f32⟩
  | 10 => ⟨S_, .i32⟩
  | 11 => ⟨S_, .i32⟩
  | 12 => ⟨S_, .i32⟩
  | 13 => ⟨S1x4x16x128, .f32⟩
  | 14 => ⟨S4x16x128, .f32⟩
  | 15 => ⟨S_, .i32⟩
  | 16 => ⟨S_, .i32⟩
  | 17 => ⟨S_, .i32⟩
  | 18 => ⟨S1x4x16x128, .f32⟩
  | 19 => ⟨S4x16x128, .f32⟩
  | 20 => ⟨S_, .i32⟩
  | 21 => ⟨S_, .i32⟩
  | 22 => ⟨S1x4x16, .f32⟩
  | 23 => ⟨S4x16, .f32⟩
  | 24 => ⟨S_, .i32⟩
  | 25 => ⟨S_, .i32⟩
  | 26 => ⟨S1x4x16, .f32⟩
  | 27 => ⟨S4x16, .f32⟩
  | 28 => ⟨S4x16x1x1, .f32⟩
  | 29 => ⟨S4x16x128x128, .f32⟩
  | 30 => ⟨S4x16x128x128, .f32⟩
  | 31 => ⟨S4x16x1, .f32⟩
  | 32 => ⟨S4x16x128, .f32⟩
  | 33 => ⟨S4x16x128, .f32⟩
  | 34 => ⟨S4x16x128, .f32⟩
  | 35 => ⟨S4x16x128, .f32⟩
  | 36 => ⟨S4x16x128x1, .f32⟩
  | 37 => ⟨S4x16x1x128, .f32⟩
  | 38 => ⟨S4x16x128x128, .f32⟩
  | 39 => ⟨S4x16x128x128, .f32⟩
  | 40 => ⟨S4x16x128x128, .f32⟩
  | 41 => ⟨S4x16x128x128, .f32⟩
  | 42 => ⟨S4x16x128, .f32⟩
  | 43 => ⟨S1x4x16x128, .f32⟩
  | 44 => ⟨S_, .i32⟩
  | 45 => ⟨S_, .i32⟩
  | 46 => ⟨S_, .i32⟩
  | 47 => ⟨S4096x4x16x128, .f32⟩
  | 48 => ⟨S_, .i32⟩
  | 49 => ⟨S_, .i32⟩
  | 50 => ⟨S4x4096x16x128, .f32⟩
  | 51 => ⟨S4x4096x2048, .bf16⟩
  | 52 => ⟨S4x4096x2048, .f32⟩
  | 53 => ⟨S4x4096x16x128, .f32⟩
  | 54 => ⟨S_, .f32⟩
  | 55 => ⟨S4x4096x16, .f32⟩
  | 56 => ⟨S4x4096x16x1, .f32⟩
  | 57 => ⟨S_, .f32⟩
  | 58 => ⟨S4x4096x16x1, .f32⟩
  | 59 => ⟨S4x4096x16x1, .f32⟩
  | 60 => ⟨S_, .f32⟩
  | 61 => ⟨S4x4096x16x1, .f32⟩
  | 62 => ⟨S4x4096x16x1, .f32⟩
  | 63 => ⟨S4x4096x16x1, .f32⟩
  | 64 => ⟨S4x4096x16x128, .f32⟩
  | 65 => ⟨S4x4096x16x128, .f32⟩
  | 66 => ⟨S1x1x1x128, .f32⟩
  | 67 => ⟨S4x4096x16x128, .f32⟩
  | 68 => ⟨S4x4096x16x128, .f32⟩
  | 69 => ⟨S4x4096x16x128, .f32⟩
  | 70 => ⟨S4x4096x16x128, .f32⟩
  | 71 => ⟨S4x4096x16x128, .f32⟩
  | 72 => ⟨S_, .f32⟩
  | 73 => ⟨S4x4096x16x128, .f32⟩
  | 74 => ⟨S4x4096x16x128, .f32⟩
  | 75 => ⟨S_, .f32⟩
  | 76 => ⟨S4x4096x16x128, .f32⟩
  | 77 => ⟨S4x4096x16x128, .f32⟩
  | 78 => ⟨S4x4096x16x128, .f32⟩
  | 79 => ⟨S4x4096x16x128, .f32⟩
  | 80 => ⟨S4x4096x2048, .f32⟩
  | 81 => ⟨S4x4096x2048, .bf16⟩
  | _ => ⟨S4x4096x17408, .bf16⟩

abbrev hbmTy (i : Nat) : BufTy := match i / 128 with
  | 0 => hbmTy0_0 i
  | 1 => hbmTy0_1 i
  | _ => ⟨S4x4096x17408, .bf16⟩

abbrev bufTy : (tb : Table) → Fin (tcTables nBuf tb) → BufTy
  | .hbm, ⟨i, _⟩ => hbmTy i
  | _, _ => ⟨S4x4096x17408, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_call0_v0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_call1_v0 : Ref sig .tc := ⟨.hbm, 44, rfl⟩
abbrev main_call1_v1 : Ref sig .tc := ⟨.hbm, 45, rfl⟩
abbrev main_call1_cst : Ref sig .tc := ⟨.hbm, 46, rfl⟩
abbrev main_call1_v2 : Ref sig .tc := ⟨.hbm, 47, rfl⟩
abbrev main_call1_v3 : Ref sig .tc := ⟨.hbm, 48, rfl⟩
abbrev main_call1_cst_0 : Ref sig .tc := ⟨.hbm, 49, rfl⟩
abbrev main_call1_v4 : Ref sig .tc := ⟨.hbm, 50, rfl⟩
abbrev main_call1_v5 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst : Ref sig .tc := ⟨.hbm, 58, rfl⟩
abbrev main_v42 : Ref sig .tc := ⟨.hbm, 59, rfl⟩
abbrev main_v43 : Ref sig .tc := ⟨.hbm, 60, rfl⟩
abbrev main_cst_0 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_1 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_2 : Ref sig .tc := ⟨.hbm, 72, rfl⟩
abbrev main_v53 : Ref sig .tc := ⟨.hbm, 73, rfl⟩
abbrev main_v54 : Ref sig .tc := ⟨.hbm, 74, rfl⟩
abbrev main_cst_3 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_cst_4 : Ref sig .tc := ⟨.hbm, 84, rfl⟩
abbrev main_v63 : Ref sig .tc := ⟨.hbm, 85, rfl⟩
abbrev main_v64 : Ref sig .tc := ⟨.hbm, 86, rfl⟩
abbrev main_cst_5 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_call2_cst : Ref sig .tc := ⟨.hbm, 95, rfl⟩
abbrev main_call2_v0 : Ref sig .tc := ⟨.hbm, 96, rfl⟩
abbrev main_call2_v1 : Ref sig .tc := ⟨.hbm, 97, rfl⟩
abbrev main_call2_v2 : Ref sig .tc := ⟨.hbm, 98, rfl⟩
abbrev main_call2_v3 : Ref sig .tc := ⟨.hbm, 99, rfl⟩
abbrev main_call2_v4 : Ref sig .tc := ⟨.hbm, 100, rfl⟩
abbrev main_call2_v5 : Ref sig .tc := ⟨.hbm, 101, rfl⟩
abbrev main_call2_v6 : Ref sig .tc := ⟨.hbm, 102, rfl⟩
abbrev main_call2_v7 : Ref sig .tc := ⟨.hbm, 103, rfl⟩
abbrev main_call2_v8 : Ref sig .tc := ⟨.hbm, 104, rfl⟩
abbrev main_call2_v9 : Ref sig .tc := ⟨.hbm, 105, rfl⟩
abbrev main_call2_v10 : Ref sig .tc := ⟨.hbm, 106, rfl⟩
abbrev main_call2_v11 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_cst_6 : Ref sig .tc := ⟨.hbm, 118, rfl⟩
abbrev main_v82 : Ref sig .tc := ⟨.hbm, 119, rfl⟩
abbrev main_cst_7 : Ref sig .tc := ⟨.hbm, 120, rfl⟩
abbrev main_v83 : Ref sig .tc := ⟨.hbm, 121, rfl⟩
abbrev main_c_8 : Ref sig .tc := ⟨.hbm, 122, rfl⟩
abbrev main_v84_0 : Ref sig .tc := ⟨.hbm, 123, rfl⟩
abbrev main_v84_1 : Ref sig .tc := ⟨.hbm, 124, rfl⟩
abbrev main_v84_2 : Ref sig .tc := ⟨.hbm, 125, rfl⟩
abbrev main_v84_3 : Ref sig .tc := ⟨.hbm, 126, rfl⟩
abbrev main_v84_4 : Ref sig .tc := ⟨.hbm, 127, rfl⟩
abbrev main_v84_5 : Ref sig .tc := ⟨.hbm, 128, rfl⟩
abbrev main_v84_6 : Ref sig .tc := ⟨.hbm, 129, rfl⟩
abbrev main_v84_7 : Ref sig .tc := ⟨.hbm, 130, rfl⟩
abbrev main_while0c_c_19 : Ref sig .tc := ⟨.hbm, 131, rfl⟩
abbrev main_while0c_v106 : Ref sig .tc := ⟨.hbm, 132, rfl⟩
abbrev main_while0b_call3_c : Ref sig .tc := ⟨.hbm, 133, rfl⟩
abbrev main_while0b_call3_c_0 : Ref sig .tc := ⟨.hbm, 134, rfl⟩
abbrev main_while0b_call3_c_1 : Ref sig .tc := ⟨.hbm, 135, rfl⟩
abbrev main_while0b_call3_v0 : Ref sig .tc := ⟨.hbm, 136, rfl⟩
abbrev main_while0b_v106 : Ref sig .tc := ⟨.hbm, 137, rfl⟩
abbrev main_while0b_call4_c : Ref sig .tc := ⟨.hbm, 138, rfl⟩
abbrev main_while0b_call4_c_0 : Ref sig .tc := ⟨.hbm, 139, rfl⟩
abbrev main_while0b_call4_c_1 : Ref sig .tc := ⟨.hbm, 140, rfl⟩
abbrev main_while0b_call4_v0 : Ref sig .tc := ⟨.hbm, 141, rfl⟩
abbrev main_while0b_v107 : Ref sig .tc := ⟨.hbm, 142, rfl⟩
abbrev main_while0b_call5_c : Ref sig .tc := ⟨.hbm, 143, rfl⟩
abbrev main_while0b_call5_c_0 : Ref sig .tc := ⟨.hbm, 144, rfl⟩
abbrev main_while0b_call5_c_1 : Ref sig .tc := ⟨.hbm, 145, rfl⟩
abbrev main_while0b_call5_v0 : Ref sig .tc := ⟨.hbm, 146, rfl⟩
abbrev main_while0b_v108 : Ref sig .tc := ⟨.hbm, 147, rfl⟩
abbrev main_while0b_call6_c : Ref sig .tc := ⟨.hbm, 148, rfl⟩
abbrev main_while0b_call6_c_0 : Ref sig .tc := ⟨.hbm, 149, rfl⟩
abbrev main_while0b_call6_v0 : Ref sig .tc := ⟨.hbm, 150, rfl⟩
abbrev main_while0b_v109 : Ref sig .tc := ⟨.hbm, 151, rfl⟩
abbrev main_while0b_call7_c : Ref sig .tc := ⟨.hbm, 152, rfl⟩
abbrev main_while0b_call7_c_0 : Ref sig .tc := ⟨.hbm, 153, rfl⟩
abbrev main_while0b_call7_v0 : Ref sig .tc := ⟨.hbm, 154, rfl⟩
abbrev main_while0b_v110 : Ref sig .tc := ⟨.hbm, 155, rfl⟩
abbrev main_while0b_v111 : Ref sig .tc := ⟨.hbm, 156, rfl⟩
abbrev main_while0b_v112 : Ref sig .tc := ⟨.hbm, 157, rfl⟩
abbrev main_while0b_v113 : Ref sig .tc := ⟨.hbm, 158, rfl⟩
abbrev main_while0b_v114 : Ref sig .tc := ⟨.hbm, 159, rfl⟩
abbrev main_while0b_v115 : Ref sig .tc := ⟨.hbm, 160, rfl⟩
abbrev main_while0b_v116 : Ref sig .tc := ⟨.hbm, 161, rfl⟩
abbrev main_while0b_v117 : Ref sig .tc := ⟨.hbm, 162, rfl⟩
abbrev main_while0b_v118 : Ref sig .tc := ⟨.hbm, 163, rfl⟩
abbrev main_while0b_v119 : Ref sig .tc := ⟨.hbm, 164, rfl⟩
abbrev main_while0b_v120 : Ref sig .tc := ⟨.hbm, 165, rfl⟩
abbrev main_while0b_v121 : Ref sig .tc := ⟨.hbm, 166, rfl⟩
abbrev main_while0b_v122 : Ref sig .tc := ⟨.hbm, 167, rfl⟩
abbrev main_while0b_v123 : Ref sig .tc := ⟨.hbm, 168, rfl⟩
abbrev main_while0b_v124 : Ref sig .tc := ⟨.hbm, 169, rfl⟩
abbrev main_while0b_v125 : Ref sig .tc := ⟨.hbm, 170, rfl⟩
abbrev main_while0b_call8_v0 : Ref sig .tc := ⟨.hbm, 171, rfl⟩
abbrev main_while0b_call8_c : Ref sig .tc := ⟨.hbm, 172, rfl⟩
abbrev main_while0b_call8_c_0 : Ref sig .tc := ⟨.hbm, 173, rfl⟩
abbrev main_while0b_call8_c_1 : Ref sig .tc := ⟨.hbm, 174, rfl⟩
abbrev main_while0b_v126 : Ref sig .tc := ⟨.hbm, 175, rfl⟩
abbrev main_while0b_c_19 : Ref sig .tc := ⟨.hbm, 176, rfl⟩
abbrev main_while0b_v127 : Ref sig .tc := ⟨.hbm, 177, rfl⟩
abbrev main_v85 : Ref sig .tc := ⟨.hbm, 178, rfl⟩
abbrev main_v86 : Ref sig .tc := ⟨.hbm, 179, rfl⟩
abbrev main_v87 : Ref sig .tc := ⟨.hbm, 180, rfl⟩
abbrev main_v88 : Ref sig .tc := ⟨.hbm, 181, rfl⟩
abbrev main_cst_9 : Ref sig .tc := ⟨.hbm, 182, rfl⟩
abbrev main_v89 : Ref sig .tc := ⟨.hbm, 183, rfl⟩
abbrev main_v90 : Ref sig .tc := ⟨.hbm, 184, rfl⟩
abbrev main_cst_10 : Ref sig .tc := ⟨.hbm, 185, rfl⟩
abbrev main_v91 : Ref sig .tc := ⟨.hbm, 186, rfl⟩
abbrev main_v92 : Ref sig .tc := ⟨.hbm, 187, rfl⟩
abbrev main_cst_11 : Ref sig .tc := ⟨.hbm, 188, rfl⟩
abbrev main_v93 : Ref sig .tc := ⟨.hbm, 189, rfl⟩
abbrev main_v94 : Ref sig .tc := ⟨.hbm, 190, rfl⟩
abbrev main_v95 : Ref sig .tc := ⟨.hbm, 191, rfl⟩
abbrev main_v96 : Ref sig .tc := ⟨.hbm, 192, rfl⟩
abbrev main_v97 : Ref sig .tc := ⟨.hbm, 193, rfl⟩
abbrev main_v98 : Ref sig .tc := ⟨.hbm, 194, rfl⟩
abbrev main_v99 : Ref sig .tc := ⟨.hbm, 195, rfl⟩
abbrev main_v100 : Ref sig .tc := ⟨.hbm, 196, rfl⟩
abbrev main_v101 : Ref sig .tc := ⟨.hbm, 197, rfl⟩
abbrev main_call9_v0 : Ref sig .tc := ⟨.hbm, 198, rfl⟩
abbrev main_call9_v1 : Ref sig .tc := ⟨.hbm, 199, rfl⟩
abbrev main_call9_cst : Ref sig .tc := ⟨.hbm, 200, rfl⟩
abbrev main_call9_v2 : Ref sig .tc := ⟨.hbm, 201, rfl⟩
abbrev main_call9_v3 : Ref sig .tc := ⟨.hbm, 202, rfl⟩
abbrev main_call9_cst_0 : Ref sig .tc := ⟨.hbm, 203, rfl⟩
abbrev main_call9_v4 : Ref sig .tc := ⟨.hbm, 204, rfl⟩
abbrev main_call9_v5 : Ref sig .tc := ⟨.hbm, 205, rfl⟩
abbrev main_v102 : Ref sig .tc := ⟨.hbm, 206, rfl⟩
abbrev main_v103 : Ref sig .tc := ⟨.hbm, 207, rfl⟩
abbrev main_v104 : Ref sig .tc := ⟨.hbm, 208, rfl⟩
abbrev main_v105 : Ref sig .tc := ⟨.hbm, 209, rfl⟩

abbrev nD : Nat := 1
abbrev τ : Topo := Topo.v7x

variable {F : FTy → Type} [FloatOps F]

abbrev main_while0_count : Scf.Loop 32 := ⟨0#32, 4096#32, 1#32⟩
-- ==== Kernel2.lean ====
abbrev S4x4096x5632 : Shape := ⟨3, ![4, 4096, 5632]⟩
abbrev S5632x2048 : Shape := ⟨2, ![5632, 2048]⟩
abbrev S4x4096x2048 : Shape := ⟨3, ![4, 4096, 2048]⟩
abbrev S16384x5632 : Shape := ⟨2, ![16384, 5632]⟩
abbrev S16384x2048 : Shape := ⟨2, ![16384, 2048]⟩
abbrev S512x5632 : Shape := ⟨2, ![512, 5632]⟩
abbrev S5632x1024 : Shape := ⟨2, ![5632, 1024]⟩
abbrev S512x1024 : Shape := ⟨2, ![512, 1024]⟩

abbrev nBuf : Space → Nat
  | .hbm => 7
  | .vmem => 8
  | .smem => 0
  | _ => 0

abbrev bufTy : (tb : Table) → Fin (tcTables nBuf tb) → BufTy
  | .hbm, ⟨0, _⟩ => ⟨S4x4096x5632, .bf16⟩
  | .hbm, ⟨1, _⟩ => ⟨S5632x2048, .f32⟩
  | .hbm, ⟨2, _⟩ => ⟨S4x4096x2048, .f32⟩
  | .hbm, ⟨3, _⟩ => ⟨S16384x5632, .bf16⟩
  | .hbm, ⟨4, _⟩ => ⟨S5632x2048, .bf16⟩
  | .hbm, ⟨5, _⟩ => ⟨S16384x2048, .f32⟩
  | .hbm, ⟨6, _⟩ => ⟨S16384x2048, .f32⟩
  | .local _ .vmem, ⟨0, _⟩ => ⟨S512x5632, .bf16⟩
  | .local _ .vmem, ⟨1, _⟩ => ⟨S512x5632, .bf16⟩
  | .local _ .vmem, ⟨2, _⟩ => ⟨S5632x1024, .bf16⟩
  | .local _ .vmem, ⟨3, _⟩ => ⟨S5632x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S4x4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S5632x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S4x4096x5632 : Shape := ⟨3, ![4, 4096, 5632]⟩
abbrev S5632x2048 : Shape := ⟨2, ![5632, 2048]⟩
abbrev S4x4096x2048 : Shape := ⟨3, ![4, 4096, 2048]⟩
abbrev S16384x2048 : Shape := ⟨2, ![16384, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4x4096x5632, .bf16⟩
  | .hbm, ⟨1, _⟩ => ⟨S5632x2048, .f32⟩
  | .hbm, ⟨2, _⟩ => ⟨S4x4096x2048, .f32⟩
  | .hbm, ⟨3, _⟩ => ⟨S4x4096x5632, .f32⟩
  | .hbm, ⟨4, _⟩ => ⟨S4x4096x2048, .f32⟩
  | .hbm, ⟨5, _⟩ => ⟨S4x4096x2048, .f32⟩
  | .hbm, ⟨6, _⟩ => ⟨S16384x2048, .f32⟩
  | _, _ => ⟨S4x4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel3.lean ====
abbrev S4x4096x2048 : Shape := ⟨3, ![4, 4096, 2048]⟩
abbrev S2048 : Shape := ⟨1, ![2048]⟩
abbrev S2048x5632 : Shape := ⟨2, ![2048, 5632]⟩
abbrev S16384x2048 : Shape := ⟨2, ![16384, 2048]⟩
abbrev S1x2048 : Shape := ⟨2, ![1, 2048]⟩
abbrev S16384x5632 : Shape := ⟨2, ![16384, 5632]⟩
abbrev S1024x2048 : Shape := ⟨2, ![1024, 2048]⟩
abbrev S2048x512 : Shape := ⟨2, ![2048, 512]⟩
abbrev S1024x512 : Shape := ⟨2, ![1024, 512]⟩
abbrev S1024 : Shape := ⟨1, ![1024]⟩
abbrev S1024x1 : Shape := ⟨2, ![1024, 1]⟩

abbrev nBuf : Space → Nat
  | .hbm => 7
  | .vmem => 10
  | .smem => 0
  | _ => 0

abbrev bufTy : (tb : Table) → Fin (tcTables nBuf tb) → BufTy
  | .hbm, ⟨0, _⟩ => ⟨S4x4096x2048, .f32⟩
  | .hbm, ⟨1, _⟩ => ⟨S2048, .f32⟩
  | .hbm, ⟨2, _⟩ => ⟨S2048x5632, .f32⟩
  | .hbm, ⟨3, _⟩ => ⟨S2048x5632, .f32⟩
  | .hbm, ⟨4, _⟩ => ⟨S16384x2048, .f32⟩
  | .hbm, ⟨5, _⟩ => ⟨S1x2048, .f32⟩
  | .hbm, ⟨6, _⟩ => ⟨S16384x5632, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .f32⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | .local _ .vmem, ⟨7, _⟩ => ⟨S1024x512, .bf16⟩
  | .local _ .vmem, ⟨8, _⟩ => ⟨S1024x512, .bf16⟩
  | .local _ .vmem, ⟨9, _⟩ => ⟨S1024x2048, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference3Ideal.lean ====
abbrev S4x4096x2048 : Shape := ⟨3, ![4, 4096, 2048]⟩
abbrev S2048 : Shape := ⟨1, ![2048]⟩
abbrev S2048x5632 : Shape := ⟨2, ![2048, 5632]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S4x4096x5632 : Shape := ⟨3, ![4, 4096, 5632]⟩
abbrev S16384x5632 : Shape := ⟨2, ![16384, 5632]⟩

abbrev nBuf : Space → Nat
  | .hbm => 34
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048, .f32⟩
  | .hbm, ⟨2, _⟩ => ⟨S2048x5632, .f32⟩
  | .hbm, ⟨3, _⟩ => ⟨S2048x5632, .f32⟩
  | .hbm, ⟨4, _⟩ => ⟨S4x4096x2048, .f32⟩
  | .hbm, ⟨5, _⟩ => ⟨S_, .f32⟩
  | .hbm, ⟨6, _⟩ => ⟨S4x4096, .f32⟩
  | .hbm, ⟨7, _⟩ => ⟨S4x4096x1, .f32⟩
  | .hbm, ⟨8, _⟩ => ⟨S_, .f32⟩
  | .hbm, ⟨9, _⟩ => ⟨S4x4096x1, .f32⟩
  | .hbm, ⟨10, _⟩ => ⟨S4x4096x1, .f32⟩
  | .hbm, ⟨11, _⟩ => ⟨S_, .f32⟩
  | .hbm, ⟨12, _⟩ => ⟨S4x4096x1, .f32⟩
  | .hbm, ⟨13, _⟩ => ⟨S4x4096x1, .f32⟩
  | .hbm, ⟨14, _⟩ => ⟨S4x4096x1, .f32⟩
  | .hbm, ⟨15, _⟩ => ⟨S4x4096x2048, .f32⟩
  | .hbm, ⟨16, _⟩ => ⟨S4x4096x2048, .f32⟩
  | .hbm, ⟨17, _⟩ => ⟨S1x1x2048, .f32⟩
  | .hbm, ⟨18, _⟩ => ⟨S4x4096x2048, .f32⟩
  | .hbm, ⟨19, _⟩ => ⟨S4x4096x2048, .f32⟩
  | .hbm, ⟨20, _⟩ => ⟨S4x4096x5632, .f32⟩
  | .hbm, ⟨21, _⟩ => ⟨S4x4096x5632, .f32⟩
  | .hbm, ⟨22, _⟩ => ⟨S4x4096x5632, .f32⟩
  | .hbm, ⟨23, _⟩ => ⟨S_, .f32⟩
  | .hbm, ⟨24, _⟩ => ⟨S4x4096x5632, .f32⟩
  | .hbm, ⟨25, _⟩ => ⟨S4x4096x5632, .f32⟩
  | .hbm, ⟨26, _⟩ => ⟨S_, .f32⟩
  | .hbm, ⟨27, _⟩ => ⟨S4x4096x5632, .f32⟩
  | .hbm, ⟨28, _⟩ => ⟨S4x4096x5632, .f32⟩
  | .hbm, ⟨29, _⟩ => ⟨S4x4096x5632, .f32⟩
  | .hbm, ⟨30, _⟩ => ⟨S4x4096x5632, .f32⟩
  | .hbm, ⟨31, _⟩ => ⟨S4x4096x5632, .f32⟩
  | .hbm, ⟨32, _⟩ => ⟨S16384x5632, .f32⟩
  | .hbm, ⟨33, _⟩ => ⟨S16384x5632, .bf16⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_call0_v0 : Ref sig .tc := ⟨.hbm, 21, rfl⟩
abbrev main_call0_v1 : Ref sig .tc := ⟨.hbm, 22, rfl⟩
abbrev main_call0_cst : Ref sig .tc := ⟨.hbm, 23, rfl⟩
abbrev main_call0_v2 : Ref sig .tc := ⟨.hbm, 24, rfl⟩
abbrev main_call0_v3 : Ref sig .tc := ⟨.hbm, 25, rfl⟩
abbrev main_call0_cst_0 : Ref sig .tc := ⟨.hbm, 26, rfl⟩
abbrev main_call0_v4 : Ref sig .tc := ⟨.hbm, 27, rfl⟩
abbrev main_call0_v5 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩

abbrev nD : Nat := 1
abbrev τ : Topo := Topo.v7x

variable {F : FTy → Type} [FloatOps F]
-- ==== Kernel4.lean ====
abbrev S4x4096x2048 : Shape := ⟨3, ![4, 4096, 2048]⟩
abbrev S2048x2048 : Shape := ⟨2, ![2048, 2048]⟩
abbrev S4x4096x17408 : Shape := ⟨3, ![4, 4096, 17408]⟩
abbrev S16384x2048 : Shape := ⟨2, ![16384, 2048]⟩
abbrev S16384x17408 : Shape := ⟨2, ![16384, 17408]⟩
abbrev S512x2048 : Shape := ⟨2, ![512, 2048]⟩
abbrev S2048x1024 : Shape := ⟨2, ![2048, 1024]⟩
abbrev S512x1024 : Shape := ⟨2, ![512, 1024]⟩

abbrev nBuf : Space → Nat
  | .hbm => 11
  | .vmem => 14
  | .smem => 0
  | _ => 0

abbrev bufTy : (tb : Table) → Fin (tcTables nBuf tb) → BufTy
  | .hbm, ⟨0, _⟩ => ⟨S4x4096x2048, .bf16⟩
  | .hbm, ⟨1, _⟩ => ⟨S4x4096x2048, .bf16⟩
  | .hbm, ⟨2, _⟩ => ⟨S2048x2048, .f32⟩
  | .hbm, ⟨3, _⟩ => ⟨S2048x2048, .f32⟩
  | .hbm, ⟨4, _⟩ => ⟨S4x4096x17408, .bf16⟩
  | .hbm, ⟨5, _⟩ => ⟨S16384x2048, .bf16⟩
  | .hbm, ⟨6, _⟩ => ⟨S16384x2048, .bf16⟩
  | .hbm, ⟨7, _⟩ => ⟨S2048x2048, .bf16⟩
  | .hbm, ⟨8, _⟩ => ⟨S2048x2048, .bf16⟩
  | .hbm, ⟨9, _⟩ => ⟨S16384x17408, .bf16⟩
  | .hbm, ⟨10, _⟩ => ⟨S16384x2048, .bf16⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | _, _ => ⟨S4x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c13_i32 : BitVec 32 := 13#32
  let v0 : BitVec 32 := Scalar.addi c13_i32 arg0
  let c0_i32 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.addi c15_i32 arg0
  let c0_i32 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference4Ideal.lean ====
abbrev S4x4096x2048 : Shape := ⟨3, ![4, 4096, 2048]⟩
abbrev S2048x2048 : Shape := ⟨2, ![2048, 2048]⟩
abbrev S4x4096x17408 : Shape := ⟨3, ![4, 4096, 17408]⟩
abbrev S_ : Shape := ⟨0, ![]⟩
abbrev S16384x2048 : Shape := ⟨2, ![16384, 2048]⟩

abbrev nBuf : Space → Nat
  | .hbm => 34
  | .vmem => 0
  | .smem => 0
  | _ => 0

abbrev bufTy : (tb : Table) → Fin (tcTables nBuf tb) → BufTy
  | .hbm, ⟨0, _⟩ => ⟨S4x4096x2048, .bf16⟩
  | .hbm, ⟨1, _⟩ => ⟨S4x4096x2048, .bf16⟩
  | .hbm, ⟨2, _⟩ => ⟨S2048x2048, .f32⟩
  | .hbm, ⟨3, _⟩ => ⟨S2048x2048, .f32⟩
  | .hbm, ⟨4, _⟩ => ⟨S4x4096x17408, .bf16⟩
  | .hbm, ⟨5, _⟩ => ⟨S4x4096x2048, .bf16⟩
  | .hbm, ⟨6, _⟩ => ⟨S4x4096x2048, .f32⟩
  | .hbm, ⟨7, _⟩ => ⟨S4x4096x2048, .bf16⟩
  | .hbm, ⟨8, _⟩ => ⟨S4x4096x2048, .f32⟩
  | .hbm, ⟨9, _⟩ => ⟨S4x4096x2048, .f32⟩
  | .hbm, ⟨10, _⟩ => ⟨S4x4096x2048, .f32⟩
  | .hbm, ⟨11, _⟩ => ⟨S_, .f32⟩
  | .hbm, ⟨12, _⟩ => ⟨S4x4096x2048, .f32⟩
  | .hbm, ⟨13, _⟩ => ⟨S4x4096x2048, .f32⟩
  | .hbm, ⟨14, _⟩ => ⟨S_, .f32⟩
  | .hbm, ⟨15, _⟩ => ⟨S4x4096x2048, .f32⟩
  | .hbm, ⟨16, _⟩ => ⟨S4x4096x2048, .f32⟩
  | .hbm, ⟨17, _⟩ => ⟨S4x4096x2048, .f32⟩
  | .hbm, ⟨18, _⟩ => ⟨S4x4096x2048, .f32⟩
  | .hbm, ⟨19, _⟩ => ⟨S4x4096x2048, .f32⟩
  | .hbm, ⟨20, _⟩ => ⟨S4x4096x2048, .f32⟩
  | .hbm, ⟨21, _⟩ => ⟨S4x4096x2048, .f32⟩
  | .hbm, ⟨22, _⟩ => ⟨S_, .f32⟩
  | .hbm, ⟨23, _⟩ => ⟨S4x4096x2048, .f32⟩
  | .hbm, ⟨24, _⟩ => ⟨S4x4096x2048, .f32⟩
  | .hbm, ⟨25, _⟩ => ⟨S_, .f32⟩
  | .hbm, ⟨26, _⟩ => ⟨S4x4096x2048, .f32⟩
  | .hbm, ⟨27, _⟩ => ⟨S4x4096x2048, .f32⟩
  | .hbm, ⟨28, _⟩ => ⟨S4x4096x2048, .f32⟩
  | .hbm, ⟨29, _⟩ => ⟨S4x4096x2048, .f32⟩
  | .hbm, ⟨30, _⟩ => ⟨S4x4096x2048, .f32⟩
  | .hbm, ⟨31, _⟩ => ⟨S4x4096x2048, .f32⟩
  | .hbm, ⟨32, _⟩ => ⟨S16384x2048, .f32⟩
  | .hbm, ⟨33, _⟩ => ⟨S16384x2048, .bf16⟩
  | _, _ => ⟨S4x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]
-- ==== Kernel5.lean ====
abbrev S4x4096x2048 : Shape := ⟨3, ![4, 4096, 2048]⟩
abbrev S2048x2048 : Shape := ⟨2, ![2048, 2048]⟩
abbrev S16384x2048 : Shape := ⟨2, ![16384, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 7
  | .vmem => 8
  | .smem => 0
  | _ => 0

abbrev bufTy : (tb : Table) → Fin (tcTables nBuf tb) → BufTy
  | .hbm, ⟨0, _⟩ => ⟨S4x4096x2048, .bf16⟩
  | .hbm, ⟨1, _⟩ => ⟨S2048x2048, .f32⟩
  | .hbm, ⟨2, _⟩ => ⟨S4x4096x2048, .f32⟩
  | .hbm, ⟨3, _⟩ => ⟨S16384x2048, .bf16⟩
  | .hbm, ⟨4, _⟩ => ⟨S2048x2048, .bf16⟩
  | .hbm, ⟨5, _⟩ => ⟨S16384x2048, .f32⟩
  | .hbm, ⟨6, _⟩ => ⟨S16384x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S4x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference5Ideal.lean ====
abbrev S4x4096x2048 : Shape := ⟨3, ![4, 4096, 2048]⟩
abbrev S2048x2048 : Shape := ⟨2, ![2048, 2048]⟩
abbrev S16384x2048 : Shape := ⟨2, ![16384, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4x4096x2048, .bf16⟩
  | .hbm, ⟨1, _⟩ => ⟨S2048x2048, .f32⟩
  | .hbm, ⟨2, _⟩ => ⟨S4x4096x2048, .f32⟩
  | .hbm, ⟨3, _⟩ => ⟨S4x4096x2048, .f32⟩
  | .hbm, ⟨4, _⟩ => ⟨S4x4096x2048, .f32⟩
  | .hbm, ⟨5, _⟩ => ⟨S4x4096x2048, .f32⟩
  | .hbm, ⟨6, _⟩ => ⟨S16384x2048, .f32⟩
  | _, _ => ⟨S4x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel6.lean ====
abbrev S4x4096x2048 : Shape := ⟨3, ![4, 4096, 2048]⟩
abbrev S2048 : Shape := ⟨1, ![2048]⟩
abbrev S2048x17488 : Shape := ⟨2, ![2048, 17488]⟩
abbrev S17488x2048 : Shape := ⟨2, ![17488, 2048]⟩
abbrev S48x2048 : Shape := ⟨2, ![48, 2048]⟩
abbrev S16x2048 : Shape := ⟨2, ![16, 2048]⟩
abbrev S12x2048 : Shape := ⟨2, ![12, 2048]⟩
abbrev S_ : Shape := ⟨0, ![]⟩
abbrev S128x2048 : Shape := ⟨2, ![128, 2048]⟩
abbrev S8x2048 : Shape := ⟨2, ![8, 2048]⟩
abbrev S768x2048 : Shape := ⟨2, ![768, 2048]⟩
abbrev S16384x2048 : Shape := ⟨2, ![16384, 2048]⟩
abbrev S1x2048 : Shape := ⟨2, ![1, 2048]⟩
abbrev S16384x17408 : Shape := ⟨2, ![16384, 17408]⟩
abbrev S16384x768 : Shape := ⟨2, ![16384, 768]⟩
abbrev S1024x2048 : Shape := ⟨2, ![1024, 2048]⟩
abbrev S1024x1024 : Shape := ⟨2, ![1024, 1024]⟩
abbrev S1024x768 : Shape := ⟨2, ![1024, 768]⟩
abbrev S1024 : Shape := ⟨1, ![1024]⟩
abbrev S1024x1 : Shape := ⟨2, ![1024, 1]⟩

abbrev nBuf : Space → Nat
  | .hbm => 41
  | .vmem => 11
  | .smem => 0
  | _ => 0

abbrev bufTy : (tb : Table) → Fin (tcTables nBuf tb) → BufTy
  | .hbm, ⟨0, _⟩ => ⟨S4x4096x2048, .f32⟩
  | .hbm, ⟨1, _⟩ => ⟨S2048, .f32⟩
  | .hbm, ⟨2, _⟩ => ⟨S2048x17488, .f32⟩
  | .hbm, ⟨3, _⟩ => ⟨S17488x2048, .f32⟩
  | .hbm, ⟨4, _⟩ => ⟨S17488x2048, .bf16⟩
  | .hbm, ⟨5, _⟩ => ⟨S48x2048, .bf16⟩
  | .hbm, ⟨6, _⟩ => ⟨S16x2048, .bf16⟩
  | .hbm, ⟨7, _⟩ => ⟨S16x2048, .bf16⟩
  | .hbm, ⟨8, _⟩ => ⟨S12x2048, .bf16⟩
  | .hbm, ⟨9, _⟩ => ⟨S_, .i32⟩
  | .hbm, ⟨10, _⟩ => ⟨S_, .bf16⟩
  | .hbm, ⟨11, _⟩ => ⟨S128x2048, .bf16⟩
  | .hbm, ⟨12, _⟩ => ⟨S12x2048, .bf16⟩
  | .hbm, ⟨13, _⟩ => ⟨S_, .i32⟩
  | .hbm, ⟨14, _⟩ => ⟨S_, .bf16⟩
  | .hbm, ⟨15, _⟩ => ⟨S128x2048, .bf16⟩
  | .hbm, ⟨16, _⟩ => ⟨S12x2048, .bf16⟩
  | .hbm, ⟨17, _⟩ => ⟨S_, .i32⟩
  | .hbm, ⟨18, _⟩ => ⟨S_, .bf16⟩
  | .hbm, ⟨19, _⟩ => ⟨S128x2048, .bf16⟩
  | .hbm, ⟨20, _⟩ => ⟨S12x2048, .bf16⟩
  | .hbm, ⟨21, _⟩ => ⟨S_, .i32⟩
  | .hbm, ⟨22, _⟩ => ⟨S_, .bf16⟩
  | .hbm, ⟨23, _⟩ => ⟨S128x2048, .bf16⟩
  | .hbm, ⟨24, _⟩ => ⟨S8x2048, .bf16⟩
  | .hbm, ⟨25, _⟩ => ⟨S8x2048, .bf16⟩
  | .hbm, ⟨26, _⟩ => ⟨S16x2048, .bf16⟩
  | .hbm, ⟨27, _⟩ => ⟨S_, .i32⟩
  | .hbm, ⟨28, _⟩ => ⟨S_, .bf16⟩
  | .hbm, ⟨29, _⟩ => ⟨S128x2048, .bf16⟩
  | .hbm, ⟨30, _⟩ => ⟨S8x2048, .bf16⟩
  | .hbm, ⟨31, _⟩ => ⟨S8x2048, .bf16⟩
  | .hbm, ⟨32, _⟩ => ⟨S16x2048, .bf16⟩
  | .hbm, ⟨33, _⟩ => ⟨S_, .i32⟩
  | .hbm, ⟨34, _⟩ => ⟨S_, .bf16⟩
  | .hbm, ⟨35, _⟩ => ⟨S128x2048, .bf16⟩
  | .hbm, ⟨36, _⟩ => ⟨S768x2048, .bf16⟩
  | .hbm, ⟨37, _⟩ => ⟨S16384x2048, .f32⟩
  | .hbm, ⟨38, _⟩ => ⟨S1x2048, .f32⟩
  | .hbm, ⟨39, _⟩ => ⟨S16384x17408, .bf16⟩
  | .hbm, ⟨40, _⟩ => ⟨S16384x768, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1024x2048, .bf16⟩
  | .local _ .vmem, ⟨4, _⟩ => ⟨S1024x2048, .bf16⟩
  | .local _ .vmem, ⟨5, _⟩ => ⟨S768x2048, .bf16⟩
  | .local _ .vmem, ⟨6, _⟩ => ⟨S1024x1024, .bf16⟩
  | .local _ .vmem, ⟨7, _⟩ => ⟨S1024x1024, .bf16⟩
  | .local _ .vmem, ⟨8, _⟩ => ⟨S1024x768, .f32⟩
  | .local _ .vmem, ⟨9, _⟩ => ⟨S1024x768, .f32⟩
  | .local _ .vmem, ⟨10, _⟩ => ⟨S1024x2048, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_call0_v0 : Ref sig .tc := ⟨.hbm, 10, rfl⟩
abbrev main_v6 : Ref sig .tc := ⟨.hbm, 11, rfl⟩
abbrev main_v7 : Ref sig .tc := ⟨.hbm, 12, rfl⟩
abbrev main_c_0 : Ref sig .tc := ⟨.hbm, 13, rfl⟩
abbrev main_call1_v0 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_call2_v0 : Ref sig .tc := ⟨.hbm, 18, rfl⟩
abbrev main_v10 : Ref sig .tc := ⟨.hbm, 19, rfl⟩
abbrev main_v11 : Ref sig .tc := ⟨.hbm, 20, rfl⟩
abbrev main_c_2 : Ref sig .tc := ⟨.hbm, 21, rfl⟩
abbrev main_call3_v0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c_3 : Ref sig .tc := ⟨.hbm, 27, rfl⟩
abbrev main_call4_v0 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c_4 : Ref sig .tc := ⟨.hbm, 33, rfl⟩
abbrev main_call5_v0 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24_0 : Ref sig .tc := ⟨.hbm, 39, rfl⟩
abbrev main_v24_1 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 17], ![false, false]⟩

def k0_mult1 (i : grid0.Coords) : BitVec 32 :=
  let arg1 : BitVec 32 := BitVec.ofNat 32 (i 1).val
  let c1024_i32 : BitVec 32 := 1024#32
  let v4 : BitVec 32 := Scalar.muli arg1 c1024_i32
  let c13_i32 : BitVec 32 := 13#32
  let v0 : BitVec 1 := Scalar.cmpi .sge arg1 c13_i32
  let c80_i32 : BitVec 32 := 80#32
  let c5_i32 : BitVec 32 := 5#32
  let v1 : BitVec 1 := Scalar.cmpi .sge arg1 c5_i32
  let c48_i32 : BitVec 32 := 48#32
  let c0_i32 : BitVec 32 := 0#32
  let v2 : BitVec 32 := Scalar.select v1 c48_i32 c0_i32
  let v3 : BitVec 32 := Scalar.select v0 c80_i32 v2
  let v5 : BitVec 32 := Scalar.addi v4 v3
  v5
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c13_i32 : BitVec 32 := 13#32
  let v0 : BitVec 1 := Scalar.cmpi .sge arg1 c13_i32
  let c5_i32 : BitVec 32 := 5#32
  let v1 : BitVec 1 := Scalar.cmpi .sge arg1 c5_i32
  let c48_i32 : BitVec 32 := 48#32
  let c0_i32 : BitVec 32 := 0#32
  let v2 : BitVec 32 := Scalar.select v1 c48_i32 c0_i32
  let c80_i32 : BitVec 32 := 80#32
  let v3 : BitVec 32 := Scalar.select v0 c80_i32 v2
  let c1024_i32 : BitVec 32 := 1024#32
  let v4 : BitVec 32 := Scalar.muli arg1 c1024_i32
  let v5 : BitVec 32 := Scalar.addi v4 v3
  let v6 : BitVec 32 := v5
  let c0_i32_0 : BitVec 32 := 0#32
  let c0_i32_1 : BitVec 32 := 0#32
  ![v6.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S768x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference6Ideal.lean ====
abbrev S4x4096x2048 : Shape := ⟨3, ![4, 4096, 2048]⟩
abbrev S2048 : Shape := ⟨1, ![2048]⟩
abbrev S2048x17488 : Shape := ⟨2, ![2048, 17488]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S4x4096x17488 : Shape := ⟨3, ![4, 4096, 17488]⟩
abbrev S4x4096x3072 : Shape := ⟨3, ![4, 4096, 3072]⟩
abbrev S4x4096x48 : Shape := ⟨3, ![4, 4096, 48]⟩
abbrev S4x4096x6144 : Shape := ⟨3, ![4, 4096, 6144]⟩
abbrev S4x4096x16 : Shape := ⟨3, ![4, 4096, 16]⟩
abbrev S4x4096x17408 : Shape := ⟨3, ![4, 4096, 17408]⟩
abbrev S4x4096x12 : Shape := ⟨3, ![4, 4096, 12]⟩
abbrev S4x4096x8 : Shape := ⟨3, ![4, 4096, 8]⟩
abbrev S4x4096x128 : Shape := ⟨3, ![4, 4096, 128]⟩
abbrev S4x4096x768 : Shape := ⟨3, ![4, 4096, 768]⟩
abbrev S16384x17408 : Shape := ⟨2, ![16384, 17408]⟩
abbrev S16384x768 : Shape := ⟨2, ![16384, 768]⟩

abbrev nBuf : Space → Nat
  | .hbm => 62
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048, .f32⟩
  | .hbm, ⟨2, _⟩ => ⟨S2048x17488, .f32⟩
  | .hbm, ⟨3, _⟩ => ⟨S4x4096x2048, .f32⟩
  | .hbm, ⟨4, _⟩ => ⟨S_, .f32⟩
  | .hbm, ⟨5, _⟩ => ⟨S4x4096, .f32⟩
  | .hbm, ⟨6, _⟩ => ⟨S4x4096x1, .f32⟩
  | .hbm, ⟨7, _⟩ => ⟨S_, .f32⟩
  | .hbm, ⟨8, _⟩ => ⟨S4x4096x1, .f32⟩
  | .hbm, ⟨9, _⟩ => ⟨S4x4096x1, .f32⟩
  | .hbm, ⟨10, _⟩ => ⟨S_, .f32⟩
  | .hbm, ⟨11, _⟩ => ⟨S4x4096x1, .f32⟩
  | .hbm, ⟨12, _⟩ => ⟨S4x4096x1, .f32⟩
  | .hbm, ⟨13, _⟩ => ⟨S4x4096x1, .f32⟩
  | .hbm, ⟨14, _⟩ => ⟨S4x4096x2048, .f32⟩
  | .hbm, ⟨15, _⟩ => ⟨S4x4096x2048, .f32⟩
  | .hbm, ⟨16, _⟩ => ⟨S1x1x2048, .f32⟩
  | .hbm, ⟨17, _⟩ => ⟨S4x4096x2048, .f32⟩
  | .hbm, ⟨18, _⟩ => ⟨S4x4096x2048, .f32⟩
  | .hbm, ⟨19, _⟩ => ⟨S4x4096x17488, .f32⟩
  | .hbm, ⟨20, _⟩ => ⟨S4x4096x2048, .f32⟩
  | .hbm, ⟨21, _⟩ => ⟨S4x4096x3072, .f32⟩
  | .hbm, ⟨22, _⟩ => ⟨S4x4096x48, .f32⟩
  | .hbm, ⟨23, _⟩ => ⟨S4x4096x6144, .f32⟩
  | .hbm, ⟨24, _⟩ => ⟨S4x4096x2048, .f32⟩
  | .hbm, ⟨25, _⟩ => ⟨S4x4096x16, .f32⟩
  | .hbm, ⟨26, _⟩ => ⟨S4x4096x16, .f32⟩
  | .hbm, ⟨27, _⟩ => ⟨S4x4096x2048, .f32⟩
  | .hbm, ⟨28, _⟩ => ⟨S4x4096x2048, .f32⟩
  | .hbm, ⟨29, _⟩ => ⟨S4x4096x17408, .f32⟩
  | .hbm, ⟨30, _⟩ => ⟨S4x4096x12, .f32⟩
  | .hbm, ⟨31, _⟩ => ⟨S4x4096x12, .f32⟩
  | .hbm, ⟨32, _⟩ => ⟨S4x4096x12, .f32⟩
  | .hbm, ⟨33, _⟩ => ⟨S4x4096x12, .f32⟩
  | .hbm, ⟨34, _⟩ => ⟨S4x4096x8, .f32⟩
  | .hbm, ⟨35, _⟩ => ⟨S4x4096x8, .f32⟩
  | .hbm, ⟨36, _⟩ => ⟨S4x4096x16, .f32⟩
  | .hbm, ⟨37, _⟩ => ⟨S4x4096x8, .f32⟩
  | .hbm, ⟨38, _⟩ => ⟨S4x4096x8, .f32⟩
  | .hbm, ⟨39, _⟩ => ⟨S4x4096x16, .f32⟩
  | .hbm, ⟨40, _⟩ => ⟨S_, .i32⟩
  | .hbm, ⟨41, _⟩ => ⟨S_, .f32⟩
  | .hbm, ⟨42, _⟩ => ⟨S4x4096x128, .f32⟩
  | .hbm, ⟨43, _⟩ => ⟨S_, .i32⟩
  | .hbm, ⟨44, _⟩ => ⟨S_, .f32⟩
  | .hbm, ⟨45, _⟩ => ⟨S4x4096x128, .f32⟩
  | .hbm, ⟨46, _⟩ => ⟨S_, .i32⟩
  | .hbm, ⟨47, _⟩ => ⟨S_, .f32⟩
  | .hbm, ⟨48, _⟩ => ⟨S4x4096x128, .f32⟩
  | .hbm, ⟨49, _⟩ => ⟨S_, .i32⟩
  | .hbm, ⟨50, _⟩ => ⟨S_, .f32⟩
  | .hbm, ⟨51, _⟩ => ⟨S4x4096x128, .f32⟩
  | .hbm, ⟨52, _⟩ => ⟨S_, .i32⟩
  | .hbm, ⟨53, _⟩ => ⟨S_, .f32⟩
  | .hbm, ⟨54, _⟩ => ⟨S4x4096x128, .f32⟩
  | .hbm, ⟨55, _⟩ => ⟨S_, .i32⟩
  | .hbm, ⟨56, _⟩ => ⟨S_, .f32⟩
  | .hbm, ⟨57, _⟩ => ⟨S4x4096x128, .f32⟩
  | .hbm, ⟨58, _⟩ => ⟨S4x4096x768, .f32⟩
  | .hbm, ⟨59, _⟩ => ⟨S16384x17408, .f32⟩
  | .hbm, ⟨60, _⟩ => ⟨S16384x17408, .bf16⟩
  | .hbm, ⟨61, _⟩ => ⟨S16384x768, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_c : Ref sig .tc := ⟨.hbm, 40, rfl⟩
abbrev main_call0_v0 : Ref sig .tc := ⟨.hbm, 41, rfl⟩
abbrev main_v34 : Ref sig .tc := ⟨.hbm, 42, rfl⟩
abbrev main_c_2 : Ref sig .tc := ⟨.hbm, 43, rfl⟩
abbrev main_call1_v0 : Ref sig .tc := ⟨.hbm, 44, rfl⟩
abbrev main_v35 : Ref sig .tc := ⟨.hbm, 45, rfl⟩
abbrev main_c_3 : Ref sig .tc := ⟨.hbm, 46, rfl⟩
abbrev main_call2_v0 : Ref sig .tc := ⟨.hbm, 47, rfl⟩
abbrev main_v36 : Ref sig .tc := ⟨.hbm, 48, rfl⟩
abbrev main_c_4 : Ref sig .tc := ⟨.hbm, 49, rfl⟩
abbrev main_call3_v0 : Ref sig .tc := ⟨.hbm, 50, rfl⟩
abbrev main_v37 : Ref sig .tc := ⟨.hbm, 51, rfl⟩
abbrev main_c_5 : Ref sig .tc := ⟨.hbm, 52, rfl⟩
abbrev main_call4_v0 : Ref sig .tc := ⟨.hbm, 53, rfl⟩
abbrev main_v38 : Ref sig .tc := ⟨.hbm, 54, rfl⟩
abbrev main_c_6 : Ref sig .tc := ⟨.hbm, 55, rfl⟩
abbrev main_call5_v0 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩

abbrev nD : Nat := 1
abbrev τ : Topo := Topo.v7x

variable {F : FTy → Type} [FloatOps F]
-- ==== Proof.Dense.lean ====
module

public import Idealize.ShloMosaic.Lib.IdealHost
public import Idealize.ShloMosaic.Lib.Pointwise
public import Idealize.ShloMosaic.Lib.ValueIdx
public import Idealize.ShloMosaic.Lib.WholeRead
public import Idealize.ShloMosaic.Lib.Pipeline.Value

/-! The layer's products, as functions of their arrays at an index; a row of the flattened activations is a token of a sequence. -/

@[expose] public section

noncomputable section

namespace Cert.Dense

open Idealize.ShloMosaic.ValueIdx Finset
open Idealize.ShloMosaic hiding ix0 ix1 ix2 ix3 ix4 ix5 eq_ix1 eq_ix2 eq_ix3 eq_ix4

/-- The sequence that a row belongs to. -/
def seqOf (r : Fin 16384) : Fin 4 := ⟨r.val / 4096, by omega⟩

/-- The row's position in its sequence. -/
def posOf (r : Fin 16384) : Fin 4096 := ⟨r.val % 4096, by omega⟩

/-- An index of a matrix is its two coordinates. -/
theorem eq_at {M N : ℕ} (z : (⟨2, ![M, N]⟩ : Shape).Idx) (i : Fin M) (j : Fin N) (h0 : (z 0).val = i.val) (h1 : (z 1).val = j.val) :
    z = ix2 i j := by
  exact (eq_ix2 z).trans (congrArg₂ ix2 (Fin.ext h0 : (z 0 : Fin M) = i) (Fin.ext h1 : (z 1 : Fin N) = j))

/-- The zero offsets of a matrix. -/
theorem hz : (![0, 0] : Fin 2 → ℕ) = fun _ => 0 := funext fun q => by fin_cases q <;> rfl

/-- A load of all of a buffer reads what the buffer holds. -/
theorem read_whole {Val : EltTy → Type} {sig : RefSig} {s : Shape} {e : EltTy} {a : Memref sig .tc .vmem s e} (h : a.IsWhole) {off : Fin s.rank → ℕ} (h0 : off = fun _ => 0)
    (inb : ∀ q, off q + s.size q ≤ s.size q) (X : s.Idx → Val e) :
    a.view.readAt Val (Rect.unit off s.size inb).toLoadRect (h.unread X) = X := by
  subst h0
  funext x
  rw [h.readAt_unread]
  exact congrArg X (Rect.emb_whole_apply ..)

/-- A product with the residual added to it. -/
def resid {K : ℕ} (a : (⟨3, ![4, 4096, K]⟩ : Shape).Idx → EReal) (w : (⟨2, ![K, 2048]⟩ : Shape).Idx → EReal)
    (x : (⟨3, ![4, 4096, 2048]⟩ : Shape).Idx → EReal) (r : Fin 16384) (j : Fin 2048) : EReal :=
  x (ix3 (seqOf r) (posOf r) j) + ∑ k : Fin K, a (ix3 (seqOf r) (posOf r) k) * w (ix2 k j)

/-- A row over the square root of its mean square, each entry times its gain. -/
def normed (x g : Fin 2048 → EReal) (k : Fin 2048) : EReal :=
  x k * Ideal.rsqrt (Ideal.div (∑ q, x q * x q) (Ideal.ofBits .f32 0x45000000#32) + Ideal.ofBits .f32 0x358637BD#32) * g k

/-- A number times its logistic, times another. -/
def gated (a b : EReal) : EReal := a * Ideal.logistic a * b

/-- The feed-forward part's activations. -/
def up (x : (⟨3, ![4, 4096, 2048]⟩ : Shape).Idx → EReal) (g : (⟨1, ![2048]⟩ : Shape).Idx → EReal) (w u : (⟨2, ![2048, 5632]⟩ : Shape).Idx → EReal)
    (r : Fin 16384) (j : Fin 5632) : EReal :=
  let h := normed (fun q => x (ix3 (seqOf r) (posOf r) q)) (fun q => g (ix1 q))
  gated (∑ k, h k * w (ix2 k j)) (∑ k, h k * u (ix2 k j))

/-- Two numbers, each times the logistic of its own gate, added. -/
def mixed (a b p q : EReal) : EReal := Ideal.logistic p * a + Ideal.logistic q * b

/-- The two branches' projections under their gates. -/
def merged (a b : (⟨3, ![4, 4096, 2048]⟩ : Shape).Idx → EReal) (w u : (⟨2, ![2048, 2048]⟩ : Shape).Idx → EReal)
    (p : (⟨3, ![4, 4096, 17408]⟩ : Shape).Idx → EReal) (r : Fin 16384) (j : Fin 2048) : EReal :=
  mixed (∑ k : Fin 2048, a (ix3 (seqOf r) (posOf r) k) * w (ix2 k j)) (∑ k : Fin 2048, b (ix3 (seqOf r) (posOf r) k) * u (ix2 k j))
    (p (ix3 (seqOf r) (posOf r) ⟨13312 + j.val, by omega⟩)) (p (ix3 (seqOf r) (posOf r) ⟨15360 + j.val, by omega⟩))

end Cert.Dense

end
-- ==== Proof.Down.lean ====
module

public import proofs.«01_k».proof.Defs
public import proofs.«01_k».proof.Proof.Dense
public import proofs.«01_k».proof.Proof.Gen.Kernel2Ideal.Value
public import proofs.«01_k».proof.Proof.Gen.Reference2Ideal.Run
public import Idealize.ShloMosaic.Lib.StableHlo.ReadAt
import Idealize.ShloMosaic.Lib.Pointwise
import Idealize.ShloMosaic.Lib.Tactic.CleanTypes
import Idealize.ShloMosaic.Lib.IdealHost
import Idealize.ShloMosaic.Lib.Claim
import Idealize.ShloMosaic.Lib.Pipeline.ValueKit

/-! The feed-forward part's second product. -/

@[expose] public section

noncomputable section

namespace Cert.Dense.Down

open Cert.Kernel2Ideal Cert.Kernel2Ideal.Gen Idealize.ShloMosaic.ValueIdx Idealize.ShloMosaic.TcCoe Idealize.SL.Sem Finset
open Idealize.ShloMosaic hiding ix0 ix1 ix2 ix3 ix4 ix5 eq_ix1 eq_ix2 eq_ix3 eq_ix4

variable (m : (ℓ : Loc nD τ sig) → Buf (Elt Ideal) ℓ) (c : Dev nD)

theorem v0_at (r : Fin 16384) (k : Fin 5632) : V m c main_v0 (ix2 r k) = m ((c : Thread nD τ).loc main_arg0) (ix3 (seqOf r) (posOf r) k) := by
  unfold V
  after_reads_at
  rfl

theorem v1_at (k : Fin 5632) (j : Fin 2048) : V m c main_v1 (ix2 k j) = m ((c : Thread nD τ).loc main_arg1) (ix2 k j) := by
  unfold V
  after_reads_at

theorem v2_at (r : Fin 16384) (k : Fin 2048) : V m c main_v2 (ix2 r k) = m ((c : Thread nD τ).loc main_arg2) (ix3 (seqOf r) (posOf r) k) := by
  unfold V
  after_reads_at
  rfl

theorem index_eq : ∀ t : Fin cfg0.N,
    win0_0.index t = ![t.val % 32, 0] ∧ win0_1.index t = ![0, t.val / 32] ∧ win0_2.index t = ![t.val % 32, t.val / 32]
      ∧ win0_3.index t = ![t.val % 32, t.val / 32] :=
  (by decide +kernel : ∀ t : Fin grid0.N,
    win0_0.index t = ![t.val % 32, 0] ∧ win0_1.index t = ![0, t.val / 32] ∧ win0_2.index t = ![t.val % 32, t.val / 32]
      ∧ win0_3.index t = ![t.val % 32, t.val / 32])

/-- What the body computes of its blocks. -/
theorem pay_at (x : Vec Ideal S512x1024 .f32) (a : Vec Ideal S512x5632 .bf16) (w : Vec Ideal S5632x1024 .bf16) (i : Fin 512) (j : Fin 1024) :
    k0_pay1 x a w (ix2 i j) = x (ix2 i j) + ∑ k : Fin 5632, a (ix2 i k) * w (ix2 k j) := by
  simp only [k0_pay1]
  clean_types
  pointwise
  rfl

/-- The body's whole buffers: what it leaves is its one payload. -/
theorem out_eq (a : Vec Ideal S512x5632 .bf16) (w : Vec Ideal S5632x1024 .bf16) (x : Vec Ideal S512x1024 .f32) : out0_3 a w x = k0_pay1 x a w := by
  unfold out0_3
  rw [View.canon_unit_zero hz, View.ld_unit_zero hz, View.ld_unit_zero hz, View.ld_unit_zero hz]

variable (t : Fin cfg0.N)

theorem blk0 (i : Fin 512) (k : Fin 5632) (r : Fin 16384) (hr : r.val = 512 * (t.val % 32) + i.val) :
    iblk m c 0 t (ix2 i k) = m ((c : Thread nD τ).loc main_arg0) (ix3 (seqOf r) (posOf r) k) := by
  refine Eq.trans (congrArg (V m c main_v0) (eq_at _ r k ?_ ?_)) (v0_at m c r k)
  · show win0_0.index t 0 * 512 + 1 * i.val = _; rw [(index_eq t).1]; show (t.val % 32) * 512 + 1 * i.val = r.val; omega
  · show win0_0.index t 1 * 5632 + 1 * k.val = _; rw [(index_eq t).1]; show 0 * 5632 + 1 * k.val = k.val; omega

theorem blk1 (k : Fin 5632) (j : Fin 1024) (q : Fin 2048) (hq : q.val = 1024 * (t.val / 32) + j.val) :
    iblk m c 1 t (ix2 k j) = m ((c : Thread nD τ).loc main_arg1) (ix2 k q) := by
  refine Eq.trans (congrArg (V m c main_v1) (eq_at _ k q ?_ ?_)) (v1_at m c k q)
  · show win0_1.index t 0 * 5632 + 1 * k.val = _; rw [(index_eq t).2.1]; show 0 * 5632 + 1 * k.val = k.val; omega
  · show win0_1.index t 1 * 1024 + 1 * j.val = _; rw [(index_eq t).2.1]; show (t.val / 32) * 1024 + 1 * j.val = q.val; omega

theorem blk2 (i : Fin 512) (j : Fin 1024) (r : Fin 16384) (hr : r.val = 512 * (t.val % 32) + i.val) (q : Fin 2048)
    (hq : q.val = 1024 * (t.val / 32) + j.val) :
    iblk m c 2 t (ix2 i j) = m ((c : Thread nD τ).loc main_arg2) (ix3 (seqOf r) (posOf r) q) := by
  refine Eq.trans (congrArg (V m c main_v2) (eq_at _ r q ?_ ?_)) (v2_at m c r q)
  · show win0_2.index t 0 * 512 + 1 * i.val = _; rw [(index_eq t).2.2.1]; show (t.val % 32) * 512 + 1 * i.val = r.val; omega
  · show win0_2.index t 1 * 1024 + 1 * j.val = _; rw [(index_eq t).2.2.1]; show (t.val / 32) * 1024 + 1 * j.val = q.val; omega

/-- The array the kernel fills. -/
def filled : S16384x2048.Idx → EReal := fun i =>
  resid (m ((c : Thread nD τ).loc main_arg0)) (m ((c : Thread nD τ).loc main_arg1)) (m ((c : Thread nD τ).loc main_arg2)) (i 0) (i 1)

theorem filled_eq : (dats m 0 c).arrAt 3 cfg0.N = filled m c := by
  refine (dats m 0 c).arrAt_eq_of_covers 3 _ (by decide +kernel) fun t hf y => ?_
  have e0 : (((cfg0.win 3).blk t).view.emb y 0).val = 512 * (t.val % 32) + (y 0).val := by
    show win0_3.index t 0 * 512 + 1 * (y 0).val = _; rw [(index_eq t).2.2.2]; show (t.val % 32) * 512 + 1 * (y 0).val = _; omega
  have e1 : (((cfg0.win 3).blk t).view.emb y 1).val = 1024 * (t.val / 32) + (y 1).val := by
    show win0_3.index t 1 * 1024 + 1 * (y 1).val = _; rw [(index_eq t).2.2.2]; show (t.val / 32) * 1024 + 1 * (y 1).val = _; omega
  blk_simp
  rw [after0_3, out_eq]
  refine (congrArg _ (eq_ix2 (n0 := 512) (n1 := 1024) y)).trans ((pay_at _ _ _ _ _).trans ?_)
  rw [blk2 m c t (y 0) (y 1) _ e0 _ e1]
  refine congrArg₂ (· + ·) rfl (Finset.sum_congr rfl fun k _ => ?_)
  rw [blk0 m c t (y 0) k _ e0, blk1 m c t k (y 1) _ e1]

/-- The kernel's result is the reference's. -/
theorem algebraic : Cert.algebraic_Kernel2Ideal_Reference2Ideal (hKernel2Ideal := Cert.Kernel2Ideal.Gen.facts)
    (hReference2Ideal := Cert.Reference2Ideal.Gen.facts) := by
  intro m g m' g' _ hargs
  refine ⟨fun c => filled m c, (θ_run Cert.Kernel2Ideal.defs _ _).mono (fun r h c => ?_) (Cert.Kernel2Ideal.Value.run_blocks m g),
    (θ_run Cert.Reference2Ideal.defs _ _).mono (fun r h c => ?_) (Cert.Reference2Ideal.Value.run (F := Ideal) m' g')⟩
  · exact ⟨(h c).1.trans (filled_eq m c), (h c).2⟩
  refine ⟨(h c).1.trans ?_, (h c).2⟩
  obtain ⟨e0, e1, e2⟩ := hargs c
  rw [e0, e1, e2]
  funext i
  rw [eq_ix2 (n0 := 16384) (n1 := 2048) i]
  unfold filled
  clean_types
  pointwise
  rfl

end Cert.Dense.Down

end
-- ==== Proof.Up.lean ====
module

public import proofs.«01_k».proof.Defs
public import proofs.«01_k».proof.Proof.Dense
public import proofs.«01_k».proof.Proof.Gen.Kernel3Ideal.Value
public import proofs.«01_k».proof.Proof.Gen.Reference3Ideal.Run
public import Idealize.ShloMosaic.Lib.StableHlo.ReadAt
public import Idealize.ShloMosaic.Lib.WholeRead
import Idealize.ShloMosaic.Lib.Pointwise
import Idealize.ShloMosaic.Lib.Tactic.CleanTypes
import Idealize.ShloMosaic.Lib.IdealHost
import Idealize.ShloMosaic.Lib.Claim
import Idealize.ShloMosaic.Lib.Pipeline.ValueKit

/-! The feed-forward part's first two products. -/

@[expose] public section

noncomputable section

namespace Cert.Dense.Up

open Cert.Kernel3Ideal Cert.Kernel3Ideal.Gen Idealize.ShloMosaic.ValueIdx Idealize.ShloMosaic.TcCoe Idealize.SL.Sem Finset
open Idealize.ShloMosaic hiding ix0 ix1 ix2 ix3 ix4 ix5 eq_ix1 eq_ix2 eq_ix3 eq_ix4

/-- What the body computes of its blocks: the normed rows. -/
theorem norm_at (x : Vec Ideal S1024x2048 .f32) (g : Vec Ideal S1x2048 .f32) (i : Fin 1024) (k : Fin 2048) :
    k0_pay1 x g (ix2 i k) = normed (fun q => x (ix2 i q)) (fun q => g (ix2 0 q)) k := by
  simp only [k0_pay1]
  clean_types
  pointwise
  rfl

/-- What the body computes of its blocks: the gated product. -/
theorem pay_at (h : Vec Ideal S1024x2048 .bf16) (w u : Vec Ideal S2048x512 .f32) (i : Fin 1024) (j : Fin 512) :
    k0_pay2 h w u (ix2 i j) = gated (∑ k : Fin 2048, h (ix2 i k) * w (ix2 k j)) (∑ k : Fin 2048, h (ix2 i k) * u (ix2 k j)) := by
  simp only [k0_pay2]
  clean_types
  pointwise
  rfl

section
variable (c : Dev nD) (i : grid0.Coords) (arg2 : Memref sig .tc .vmem S1024x2048 .f32) (harg2 : arg2.IsWhole) (arg3 : Memref sig .tc .vmem S1x2048 .f32) (harg3 : arg3.IsWhole)
  (arg4 : Memref sig .tc .vmem S2048x512 .f32) (harg4 : arg4.IsWhole) (arg5 : Memref sig .tc .vmem S2048x512 .f32) (harg5 : arg5.IsWhole)
  (arg6 : Memref sig .tc .vmem S1024x512 .bf16) (harg6 : arg6.IsWhole) (arg7 : Memref sig .tc .vmem S1024x2048 .bf16) (harg7 : arg7.IsWhole)
  (x0 : Vec Ideal S1024x2048 .f32) (x1 : Vec Ideal S1x2048 .f32) (x2 x3 : Vec Ideal S2048x512 .f32) (xs0 : Vec Ideal S1024x2048 .bf16)

theorem outA (hc0 : cond0_0 i) : out0_A_4 c i arg2 harg2 arg3 harg3 arg4 harg4 arg5 harg5 arg6 harg6 arg7 harg7 hc0 x0 x1 x2 x3 = k0_pay2 (k0_pay1 x0 x1) x2 x3 := by
  unfold out0_A_4
  rw [View.read_writes_junk_eq_canon]
  unfold kernelRun0_A
  dsimp only
  unfold kernelRun0_A.sl.v3 kernelRun0_A.sl.HS0_1
  rw [View.canon_unit_zero hz, View.readCov_unit_zero _ hz, read_whole harg2 hz, read_whole harg3 hz, read_whole harg4 hz, read_whole harg5 hz]

theorem scA (hc0 : cond0_0 i) : sout0_A_0 c i arg2 harg2 arg3 harg3 arg4 harg4 arg5 harg5 arg6 harg6 arg7 harg7 hc0 x0 x1 x2 x3 = k0_pay1 x0 x1 := by
  unfold sout0_A_0
  rw [View.read_writes_junk_eq_canon]
  unfold kernelRun0_A
  dsimp only
  unfold kernelRun0_A.sl.HS0_1
  rw [View.canon_unit_zero hz, read_whole harg2 hz, read_whole harg3 hz]

theorem outB (hc0 : ¬cond0_0 i) : out0_B_4 c i arg2 harg2 arg3 harg3 arg4 harg4 arg5 harg5 arg6 harg6 arg7 harg7 hc0 x0 x1 x2 x3 xs0 = k0_pay2 xs0 x2 x3 := by
  unfold out0_B_4
  rw [View.read_writes_junk_eq_canon]
  unfold kernelRun0_B
  dsimp only
  rw [View.canon_unit_zero hz, read_whole harg4 hz, read_whole harg5 hz, read_whole harg7 hz]

end

variable (m : (ℓ : Loc nD τ sig) → Buf (Elt Ideal) ℓ) (c : Dev nD)

theorem v0_at (r : Fin 16384) (k : Fin 2048) : V m c main_v0 (ix2 r k) = m ((c : Thread nD τ).loc main_arg0) (ix3 (seqOf r) (posOf r) k) := by
  unfold V
  after_reads_at
  rfl

theorem v1_at (k : Fin 2048) : V m c main_v1 (ix2 0 k) = m ((c : Thread nD τ).loc main_arg1) (ix1 k) := by
  unfold V
  after_reads_at
  rfl

theorem index_eq : ∀ t : Fin cfg0.N,
    win0_0.index t = ![t.val / 11, 0] ∧ win0_1.index t = ![0, 0] ∧ win0_2.index t = ![0, t.val % 11] ∧ win0_3.index t = ![0, t.val % 11]
      ∧ win0_4.index t = ![t.val / 11, t.val % 11] :=
  (by decide +kernel : ∀ t : Fin grid0.N,
    win0_0.index t = ![t.val / 11, 0] ∧ win0_1.index t = ![0, 0] ∧ win0_2.index t = ![0, t.val % 11] ∧ win0_3.index t = ![0, t.val % 11]
      ∧ win0_4.index t = ![t.val / 11, t.val % 11])

section
variable (t : Fin cfg0.N)

theorem blk0 (i : Fin 1024) (k : Fin 2048) (r : Fin 16384) (hr : r.val = 1024 * (t.val / 11) + i.val) :
    iblk m c 0 t (ix2 i k) = m ((c : Thread nD τ).loc main_arg0) (ix3 (seqOf r) (posOf r) k) := by
  refine Eq.trans (congrArg (V m c main_v0) (eq_at _ r k ?_ ?_)) (v0_at m c r k)
  · show win0_0.index t 0 * 1024 + 1 * i.val = _; rw [(index_eq t).1]; show (t.val / 11) * 1024 + 1 * i.val = r.val; omega
  · show win0_0.index t 1 * 2048 + 1 * k.val = _; rw [(index_eq t).1]; show 0 * 2048 + 1 * k.val = k.val; omega

theorem blk1 (k : Fin 2048) : iblk m c 1 t (ix2 0 k) = m ((c : Thread nD τ).loc main_arg1) (ix1 k) := by
  refine Eq.trans (congrArg (V m c main_v1) (eq_at _ 0 k ?_ ?_)) (v1_at m c k)
  · show win0_1.index t 0 * 1 + 1 * 0 = _; rw [(index_eq t).2.1]; rfl
  · show win0_1.index t 1 * 2048 + 1 * k.val = _; rw [(index_eq t).2.1]; show 0 * 2048 + 1 * k.val = k.val; omega

theorem blk2 (k : Fin 2048) (j : Fin 512) (q : Fin 5632) (hq : q.val = 512 * (t.val % 11) + j.val) :
    iblk m c 2 t (ix2 k j) = m ((c : Thread nD τ).loc main_arg2) (ix2 k q) := by
  refine Eq.trans (congrArg (V m c main_arg2) (eq_at _ k q ?_ ?_)) (congrFun (V_main_arg2 m c) _)
  · show win0_2.index t 0 * 2048 + 1 * k.val = _; rw [(index_eq t).2.2.1]; show 0 * 2048 + 1 * k.val = k.val; omega
  · show win0_2.index t 1 * 512 + 1 * j.val = _; rw [(index_eq t).2.2.1]; show (t.val % 11) * 512 + 1 * j.val = q.val; omega

theorem blk3 (k : Fin 2048) (j : Fin 512) (q : Fin 5632) (hq : q.val = 512 * (t.val % 11) + j.val) :
    iblk m c 3 t (ix2 k j) = m ((c : Thread nD τ).loc main_arg3) (ix2 k q) := by
  refine Eq.trans (congrArg (V m c main_arg3) (eq_at _ k q ?_ ?_)) (congrFun (V_main_arg3 m c) _)
  · show win0_3.index t 0 * 2048 + 1 * k.val = _; rw [(index_eq t).2.2.2.1]; show 0 * 2048 + 1 * k.val = k.val; omega
  · show win0_3.index t 1 * 512 + 1 * j.val = _; rw [(index_eq t).2.2.2.1]; show (t.val % 11) * 512 + 1 * j.val = q.val; omega

end

/-- The normed row of a token. -/
def row (r : Fin 16384) : Fin 2048 → EReal :=
  normed (fun q => m ((c : Thread nD τ).loc main_arg0) (ix3 (seqOf r) (posOf r) q)) (fun q => m ((c : Thread nD τ).loc main_arg1) (ix1 q))

theorem first_at (t : Fin cfg0.N) (i : Fin 1024) (k : Fin 2048) (r : Fin 16384) (hr : r.val = 1024 * (t.val / 11) + i.val) :
    k0_pay1 (iblk m c 0 t) (iblk m c 1 t) (ix2 i k) = row m c r k := by
  refine (norm_at _ _ i k).trans ?_
  exact congrArg₂ (fun a b => normed a b k) (funext fun q => blk0 m c t i q r hr) (funext fun q => blk1 m c t q)

/-- After each point the scratch holds its rows' normed entries. -/
theorem carried : ∀ (n : ℕ) (hn : n < cfg0.N) (i : Fin 1024) (k : Fin 2048) (r : Fin 16384) (_ : r.val = 1024 * (n / 11) + i.val),
    (outsAt0 m c n hn).2 (ix2 i k) = row m c r k := by
  intro n
  induction n with
  | zero =>
    intro hn i k r hr
    rw [show outsAt0 m c 0 hn = _ from outsAt0_A m c ⟨0, hn⟩ rfl]
    dsimp only
    rw [scA]
    exact first_at m c ⟨0, hn⟩ i k r hr
  | succ n ih =>
    intro hn i k r hr
    by_cases h : (n + 1) % 11 = 0
    · rw [show outsAt0 m c (n + 1) hn = _ from outsAt0_A m c ⟨n + 1, hn⟩ h]
      dsimp only
      rw [scA]
      exact first_at m c ⟨n + 1, hn⟩ i k r hr
    · rw [show outsAt0 m c (n + 1) hn = _ from outsAt0_B m c ⟨n + 1, hn⟩ h]
      exact ih _ i k r (by omega)

/-- What each point leaves in the output's buffer. -/
theorem left_at (t : Fin cfg0.N) (i : Fin 1024) (j : Fin 512) (r : Fin 16384) (hr : r.val = 1024 * (t.val / 11) + i.val)
    (q : Fin 5632) (hq : q.val = 512 * (t.val % 11) + j.val) :
    (outsAt0 m c t.val t.isLt).1 (ix2 i j) = gated (∑ k, row m c r k * m ((c : Thread nD τ).loc main_arg2) (ix2 k q))
      (∑ k, row m c r k * m ((c : Thread nD τ).loc main_arg3) (ix2 k q)) := by
  by_cases h : t.val % 11 = 0
  · rw [outsAt0_A m c t h]
    dsimp only
    rw [outA]
    refine (pay_at _ _ _ i j).trans ?_
    refine congrArg₂ gated (Finset.sum_congr rfl fun k _ => ?_) (Finset.sum_congr rfl fun k _ => ?_)
    · rw [first_at m c t i k r hr, blk2 m c t k j q hq]
    · rw [first_at m c t i k r hr, blk3 m c t k j q hq]
  · rw [outsAt0_B m c t h]
    dsimp only
    rw [outB]
    refine (pay_at _ _ _ i j).trans ?_
    refine congrArg₂ gated (Finset.sum_congr rfl fun k _ => ?_) (Finset.sum_congr rfl fun k _ => ?_)
    · rw [carried m c _ _ i k r (by omega), blk2 m c t k j q hq]
    · rw [carried m c _ _ i k r (by omega), blk3 m c t k j q hq]

/-- The array the kernel fills. -/
def filled : S16384x5632.Idx → EReal := fun i =>
  up (m ((c : Thread nD τ).loc main_arg0)) (m ((c : Thread nD τ).loc main_arg1)) (m ((c : Thread nD τ).loc main_arg2))
    (m ((c : Thread nD τ).loc main_arg3)) (i 0) (i 1)

theorem filled_eq : (dats m 0 c).arrAt 4 cfg0.N = filled m c := by
  refine (dats m 0 c).arrAt_eq_of_covers 4 _ (by decide +kernel) fun t hf y => ?_
  have e0 : (((cfg0.win 4).blk t).view.emb y 0).val = 1024 * (t.val / 11) + (y 0).val := by
    show win0_4.index t 0 * 1024 + 1 * (y 0).val = _; rw [(index_eq t).2.2.2.2]; show (t.val / 11) * 1024 + 1 * (y 0).val = _; omega
  have e1 : (((cfg0.win 4).blk t).view.emb y 1).val = 512 * (t.val % 11) + (y 1).val := by
    show win0_4.index t 1 * 512 + 1 * (y 1).val = _; rw [(index_eq t).2.2.2.2]; show (t.val % 11) * 512 + 1 * (y 1).val = _; omega
  blk_simp
  rw [after0_4]
  exact (congrArg _ (eq_ix2 (n0 := 1024) (n1 := 512) y)).trans (left_at m c t (y 0) (y 1) _ e0 _ e1)

/-- The kernel's result is the reference's. -/
theorem algebraic : Cert.algebraic_Kernel3Ideal_Reference3Ideal (hKernel3Ideal := Cert.Kernel3Ideal.Gen.facts)
    (hReference3Ideal := Cert.Reference3Ideal.Gen.facts) := by
  intro m g m' g' _ hargs
  refine ⟨fun c => filled m c, (θ_run Cert.Kernel3Ideal.defs _ _).mono (fun r h c => ?_) (Cert.Kernel3Ideal.Value.run_blocks m g),
    (θ_run Cert.Reference3Ideal.defs _ _).mono (fun r h c => ?_) (Cert.Reference3Ideal.Value.run (F := Ideal) m' g')⟩
  · exact ⟨(h c).1.trans (filled_eq m c), (h c).2⟩
  refine ⟨(h c).1.trans ?_, (h c).2⟩
  obtain ⟨e0, e1, e2, e3⟩ := hargs c
  rw [e0, e1, e2, e3]
  funext i
  rw [eq_ix2 (n0 := 16384) (n1 := 5632) i]
  unfold filled
  clean_types
  pointwise
  rfl

end Cert.Dense.Up

end
-- ==== Proof.Merge.lean ====
module

public import proofs.«01_k».proof.Defs
public import proofs.«01_k».proof.Proof.Dense
public import proofs.«01_k».proof.Proof.Gen.Kernel4Ideal.Value
public import proofs.«01_k».proof.Proof.Gen.Reference4Ideal.Run
public import Idealize.ShloMosaic.Lib.StableHlo.ReadAt
import Idealize.ShloMosaic.Lib.Pointwise
import Idealize.ShloMosaic.Lib.Tactic.CleanTypes
import Idealize.ShloMosaic.Lib.IdealHost
import Idealize.ShloMosaic.Lib.Claim
import Idealize.ShloMosaic.Lib.Pipeline.ValueKit

/-! The two branches' projections, gated and added. -/

@[expose] public section

noncomputable section

namespace Cert.Dense.Merge

open Cert.Kernel4Ideal Cert.Kernel4Ideal.Gen Idealize.ShloMosaic.ValueIdx Idealize.ShloMosaic.TcCoe Idealize.SL.Sem Finset
open Idealize.ShloMosaic hiding ix0 ix1 ix2 ix3 ix4 ix5 eq_ix1 eq_ix2 eq_ix3 eq_ix4

variable (m : (ℓ : Loc nD τ sig) → Buf (Elt Ideal) ℓ) (c : Dev nD)

theorem v0_at (r : Fin 16384) (k : Fin 2048) : V m c main_v0 (ix2 r k) = m ((c : Thread nD τ).loc main_arg0) (ix3 (seqOf r) (posOf r) k) := by
  unfold V
  after_reads_at
  rfl

theorem v1_at (r : Fin 16384) (k : Fin 2048) : V m c main_v1 (ix2 r k) = m ((c : Thread nD τ).loc main_arg1) (ix3 (seqOf r) (posOf r) k) := by
  unfold V
  after_reads_at
  rfl

theorem v2_at (k j : Fin 2048) : V m c main_v2 (ix2 k j) = m ((c : Thread nD τ).loc main_arg2) (ix2 k j) := by
  unfold V
  after_reads_at

theorem v3_at (k j : Fin 2048) : V m c main_v3 (ix2 k j) = m ((c : Thread nD τ).loc main_arg3) (ix2 k j) := by
  unfold V
  after_reads_at

theorem v4_at (r : Fin 16384) (k : Fin 17408) : V m c main_v4 (ix2 r k) = m ((c : Thread nD τ).loc main_arg4) (ix3 (seqOf r) (posOf r) k) := by
  unfold V
  after_reads_at
  rfl

theorem index_eq : ∀ t : Fin cfg0.N,
    win0_0.index t = ![t.val % 32, 0] ∧ win0_1.index t = ![t.val % 32, 0] ∧ win0_2.index t = ![0, t.val / 32] ∧ win0_3.index t = ![0, t.val / 32]
      ∧ win0_4.index t = ![t.val % 32, 13 + t.val / 32] ∧ win0_5.index t = ![t.val % 32, 15 + t.val / 32]
      ∧ win0_6.index t = ![t.val % 32, t.val / 32] :=
  (by decide +kernel : ∀ t : Fin grid0.N,
    win0_0.index t = ![t.val % 32, 0] ∧ win0_1.index t = ![t.val % 32, 0] ∧ win0_2.index t = ![0, t.val / 32] ∧ win0_3.index t = ![0, t.val / 32]
      ∧ win0_4.index t = ![t.val % 32, 13 + t.val / 32] ∧ win0_5.index t = ![t.val % 32, 15 + t.val / 32]
      ∧ win0_6.index t = ![t.val % 32, t.val / 32])

/-- What the body computes of its blocks. -/
theorem pay_at (a : Vec Ideal S512x2048 .bf16) (w : Vec Ideal S2048x1024 .bf16) (b : Vec Ideal S512x2048 .bf16) (u : Vec Ideal S2048x1024 .bf16)
    (p q : Vec Ideal S512x1024 .bf16) (i : Fin 512) (j : Fin 1024) :
    k0_pay1 a w b u p q (ix2 i j) = mixed (∑ k : Fin 2048, a (ix2 i k) * w (ix2 k j)) (∑ k : Fin 2048, b (ix2 i k) * u (ix2 k j))
      (p (ix2 i j)) (q (ix2 i j)) := by
  simp only [k0_pay1]
  clean_types
  pointwise
  rfl

/-- The body's whole buffers: what it leaves is its one payload. -/
theorem out_eq (a b : Vec Ideal S512x2048 .bf16) (w u : Vec Ideal S2048x1024 .bf16) (p q : Vec Ideal S512x1024 .bf16) :
    out0_6 a b w u p q = k0_pay1 a w b u p q := by
  unfold out0_6
  rw [View.canon_unit_zero hz, View.ld_unit_zero hz, View.ld_unit_zero hz, View.ld_unit_zero hz, View.ld_unit_zero hz,
    View.ld_unit_zero hz, View.ld_unit_zero hz]

variable (t : Fin cfg0.N)

theorem blk0 (i : Fin 512) (k : Fin 2048) (r : Fin 16384) (hr : r.val = 512 * (t.val % 32) + i.val) :
    iblk m c 0 t (ix2 i k) = m ((c : Thread nD τ).loc main_arg0) (ix3 (seqOf r) (posOf r) k) := by
  refine Eq.trans (congrArg (V m c main_v0) (eq_at _ r k ?_ ?_)) (v0_at m c r k)
  · show win0_0.index t 0 * 512 + 1 * i.val = _; rw [(index_eq t).1]; show (t.val % 32) * 512 + 1 * i.val = r.val; omega
  · show win0_0.index t 1 * 2048 + 1 * k.val = _; rw [(index_eq t).1]; show 0 * 2048 + 1 * k.val = k.val; omega

theorem blk1 (i : Fin 512) (k : Fin 2048) (r : Fin 16384) (hr : r.val = 512 * (t.val % 32) + i.val) :
    iblk m c 1 t (ix2 i k) = m ((c : Thread nD τ).loc main_arg1) (ix3 (seqOf r) (posOf r) k) := by
  refine Eq.trans (congrArg (V m c main_v1) (eq_at _ r k ?_ ?_)) (v1_at m c r k)
  · show win0_1.index t 0 * 512 + 1 * i.val = _; rw [(index_eq t).2.1]; show (t.val % 32) * 512 + 1 * i.val = r.val; omega
  · show win0_1.index t 1 * 2048 + 1 * k.val = _; rw [(index_eq t).2.1]; show 0 * 2048 + 1 * k.val = k.val; omega

theorem blk2 (k : Fin 2048) (j : Fin 1024) (q : Fin 2048) (hq : q.val = 1024 * (t.val / 32) + j.val) :
    iblk m c 2 t (ix2 k j) = m ((c : Thread nD τ).loc main_arg2) (ix2 k q) := by
  refine Eq.trans (congrArg (V m c main_v2) (eq_at _ k q ?_ ?_)) (v2_at m c k q)
  · show win0_2.index t 0 * 2048 + 1 * k.val = _; rw [(index_eq t).2.2.1]; show 0 * 2048 + 1 * k.val = k.val; omega
  · show win0_2.index t 1 * 1024 + 1 * j.val = _; rw [(index_eq t).2.2.1]; show (t.val / 32) * 1024 + 1 * j.val = q.val; omega

theorem blk3 (k : Fin 2048) (j : Fin 1024) (q : Fin 2048) (hq : q.val = 1024 * (t.val / 32) + j.val) :
    iblk m c 3 t (ix2 k j) = m ((c : Thread nD τ).loc main_arg3) (ix2 k q) := by
  refine Eq.trans (congrArg (V m c main_v3) (eq_at _ k q ?_ ?_)) (v3_at m c k q)
  · show win0_3.index t 0 * 2048 + 1 * k.val = _; rw [(index_eq t).2.2.2.1]; show 0 * 2048 + 1 * k.val = k.val; omega
  · show win0_3.index t 1 * 1024 + 1 * j.val = _; rw [(index_eq t).2.2.2.1]; show (t.val / 32) * 1024 + 1 * j.val = q.val; omega

theorem blk4 (i : Fin 512) (j : Fin 1024) (r : Fin 16384) (hr : r.val = 512 * (t.val % 32) + i.val) (q : Fin 17408)
    (hq : q.val = 13312 + (1024 * (t.val / 32) + j.val)) :
    iblk m c 4 t (ix2 i j) = m ((c : Thread nD τ).loc main_arg4) (ix3 (seqOf r) (posOf r) q) := by
  refine Eq.trans (congrArg (V m c main_v4) (eq_at _ r q ?_ ?_)) (v4_at m c r q)
  · show win0_4.index t 0 * 512 + 1 * i.val = _; rw [(index_eq t).2.2.2.2.1]; show (t.val % 32) * 512 + 1 * i.val = r.val; omega
  · show win0_4.index t 1 * 1024 + 1 * j.val = _; rw [(index_eq t).2.2.2.2.1]; show (13 + t.val / 32) * 1024 + 1 * j.val = q.val; omega

theorem blk5 (i : Fin 512) (j : Fin 1024) (r : Fin 16384) (hr : r.val = 512 * (t.val % 32) + i.val) (q : Fin 17408)
    (hq : q.val = 15360 + (1024 * (t.val / 32) + j.val)) :
    iblk m c 5 t (ix2 i j) = m ((c : Thread nD τ).loc main_arg4) (ix3 (seqOf r) (posOf r) q) := by
  refine Eq.trans (congrArg (V m c main_v4) (eq_at _ r q ?_ ?_)) (v4_at m c r q)
  · show win0_5.index t 0 * 512 + 1 * i.val = _; rw [(index_eq t).2.2.2.2.2.1]; show (t.val % 32) * 512 + 1 * i.val = r.val; omega
  · show win0_5.index t 1 * 1024 + 1 * j.val = _; rw [(index_eq t).2.2.2.2.2.1]; show (15 + t.val / 32) * 1024 + 1 * j.val = q.val; omega

/-- The array the kernel fills. -/
def filled : S16384x2048.Idx → EReal := fun i =>
  merged (m ((c : Thread nD τ).loc main_arg0)) (m ((c : Thread nD τ).loc main_arg1)) (m ((c : Thread nD τ).loc main_arg2))
    (m ((c : Thread nD τ).loc main_arg3)) (m ((c : Thread nD τ).loc main_arg4)) (i 0) (i 1)

theorem filled_eq : (dats m 0 c).arrAt 6 cfg0.N = filled m c := by
  refine (dats m 0 c).arrAt_eq_of_covers 6 _ (by decide +kernel) fun t hf y => ?_
  have e0 : (((cfg0.win 6).blk t).view.emb y 0).val = 512 * (t.val % 32) + (y 0).val := by
    show win0_6.index t 0 * 512 + 1 * (y 0).val = _; rw [(index_eq t).2.2.2.2.2.2]; show (t.val % 32) * 512 + 1 * (y 0).val = _; omega
  have e1 : (((cfg0.win 6).blk t).view.emb y 1).val = 1024 * (t.val / 32) + (y 1).val := by
    show win0_6.index t 1 * 1024 + 1 * (y 1).val = _; rw [(index_eq t).2.2.2.2.2.2]; show (t.val / 32) * 1024 + 1 * (y 1).val = _; omega
  have h : (((cfg0.win 6).blk t).view.emb y 1).val < 2048 := (((cfg0.win 6).blk t).view.emb y 1).isLt
  blk_simp
  rw [after0_6, out_eq]
  refine (congrArg _ (eq_ix2 (n0 := 512) (n1 := 1024) y)).trans ((pay_at _ _ _ _ _ _ _ _).trans ?_)
  rw [blk4 m c t (y 0) (y 1) _ e0 ⟨13312 + (((cfg0.win 6).blk t).view.emb y 1).val, by omega⟩ (congrArg (13312 + ·) e1),
    blk5 m c t (y 0) (y 1) _ e0 ⟨15360 + (((cfg0.win 6).blk t).view.emb y 1).val, by omega⟩ (congrArg (15360 + ·) e1)]
  refine congrArg₂ (fun a b => mixed a b _ _) (Finset.sum_congr rfl fun k _ => ?_) (Finset.sum_congr rfl fun k _ => ?_)
  · rw [blk0 m c t (y 0) k _ e0, blk2 m c t k (y 1) _ e1]
  · rw [blk1 m c t (y 0) k _ e0, blk3 m c t k (y 1) _ e1]

/-- The kernel's result is the reference's. -/
theorem algebraic : Cert.algebraic_Kernel4Ideal_Reference4Ideal (hKernel4Ideal := Cert.Kernel4Ideal.Gen.facts)
    (hReference4Ideal := Cert.Reference4Ideal.Gen.facts) := by
  intro m g m' g' _ hargs
  refine ⟨fun c => filled m c, (θ_run Cert.Kernel4Ideal.defs _ _).mono (fun r h c => ?_) (Cert.Kernel4Ideal.Value.run_blocks m g),
    (θ_run Cert.Reference4Ideal.defs _ _).mono (fun r h c => ?_) (Cert.Reference4Ideal.Value.run (F := Ideal) m' g')⟩
  · exact ⟨(h c).1.trans (filled_eq m c), (h c).2⟩
  refine ⟨(h c).1.trans ?_, (h c).2⟩
  obtain ⟨e0, e1, e2, e3, e4⟩ := hargs c
  rw [e0, e1, e2, e3, e4]
  funext i
  rw [eq_ix2 (n0 := 16384) (n1 := 2048) i]
  unfold filled
  clean_types
  pointwise
  rfl

end Cert.Dense.Merge

end
-- ==== Proof.Out.lean ====
module

public import proofs.«01_k».proof.Defs
public import proofs.«01_k».proof.Proof.Dense
public import proofs.«01_k».proof.Proof.Gen.Kernel5Ideal.Value
public import proofs.«01_k».proof.Proof.Gen.Reference5Ideal.Run
public import Idealize.ShloMosaic.Lib.StableHlo.ReadAt
import Idealize.ShloMosaic.Lib.Pointwise
import Idealize.ShloMosaic.Lib.Tactic.CleanTypes
import Idealize.ShloMosaic.Lib.IdealHost
import Idealize.ShloMosaic.Lib.Claim
import Idealize.ShloMosaic.Lib.Pipeline.ValueKit

/-! The output projection and its residual. -/

@[expose] public section

noncomputable section

namespace Cert.Dense.Out

open Cert.Kernel5Ideal Cert.Kernel5Ideal.Gen Idealize.ShloMosaic.ValueIdx Idealize.ShloMosaic.TcCoe Idealize.SL.Sem Finset
open Idealize.ShloMosaic hiding ix0 ix1 ix2 ix3 ix4 ix5 eq_ix1 eq_ix2 eq_ix3 eq_ix4

variable (m : (ℓ : Loc nD τ sig) → Buf (Elt Ideal) ℓ) (c : Dev nD)

theorem v0_at (r : Fin 16384) (k : Fin 2048) : V m c main_v0 (ix2 r k) = m ((c : Thread nD τ).loc main_arg0) (ix3 (seqOf r) (posOf r) k) := by
  unfold V
  after_reads_at
  rfl

theorem v1_at (k : Fin 2048) (j : Fin 2048) : V m c main_v1 (ix2 k j) = m ((c : Thread nD τ).loc main_arg1) (ix2 k j) := by
  unfold V
  after_reads_at

theorem v2_at (r : Fin 16384) (k : Fin 2048) : V m c main_v2 (ix2 r k) = m ((c : Thread nD τ).loc main_arg2) (ix3 (seqOf r) (posOf r) k) := by
  unfold V
  after_reads_at
  rfl

theorem index_eq : ∀ t : Fin cfg0.N,
    win0_0.index t = ![t.val % 16, 0] ∧ win0_1.index t = ![0, t.val / 16] ∧ win0_2.index t = ![t.val % 16, t.val / 16]
      ∧ win0_3.index t = ![t.val % 16, t.val / 16] :=
  (by decide +kernel : ∀ t : Fin grid0.N,
    win0_0.index t = ![t.val % 16, 0] ∧ win0_1.index t = ![0, t.val / 16] ∧ win0_2.index t = ![t.val % 16, t.val / 16]
      ∧ win0_3.index t = ![t.val % 16, t.val / 16])

/-- What the body computes of its blocks. -/
theorem pay_at (x : Vec Ideal S1024x1024 .f32) (a : Vec Ideal S1024x2048 .bf16) (w : Vec Ideal S2048x1024 .bf16) (i : Fin 1024) (j : Fin 1024) :
    k0_pay1 x a w (ix2 i j) = x (ix2 i j) + ∑ k : Fin 2048, a (ix2 i k) * w (ix2 k j) := by
  simp only [k0_pay1]
  clean_types
  pointwise
  rfl

/-- The body's whole buffers: what it leaves is its one payload. -/
theorem out_eq (a : Vec Ideal S1024x2048 .bf16) (w : Vec Ideal S2048x1024 .bf16) (x : Vec Ideal S1024x1024 .f32) : out0_3 a w x = k0_pay1 x a w := by
  unfold out0_3
  rw [View.canon_unit_zero hz, View.ld_unit_zero hz, View.ld_unit_zero hz, View.ld_unit_zero hz]

variable (t : Fin cfg0.N)

theorem blk0 (i : Fin 1024) (k : Fin 2048) (r : Fin 16384) (hr : r.val = 1024 * (t.val % 16) + i.val) :
    iblk m c 0 t (ix2 i k) = m ((c : Thread nD τ).loc main_arg0) (ix3 (seqOf r) (posOf r) k) := by
  refine Eq.trans (congrArg (V m c main_v0) (eq_at _ r k ?_ ?_)) (v0_at m c r k)
  · show win0_0.index t 0 * 1024 + 1 * i.val = _; rw [(index_eq t).1]; show (t.val % 16) * 1024 + 1 * i.val = r.val; omega
  · show win0_0.index t 1 * 2048 + 1 * k.val = _; rw [(index_eq t).1]; show 0 * 2048 + 1 * k.val = k.val; omega

theorem blk1 (k : Fin 2048) (j : Fin 1024) (q : Fin 2048) (hq : q.val = 1024 * (t.val / 16) + j.val) :
    iblk m c 1 t (ix2 k j) = m ((c : Thread nD τ).loc main_arg1) (ix2 k q) := by
  refine Eq.trans (congrArg (V m c main_v1) (eq_at _ k q ?_ ?_)) (v1_at m c k q)
  · show win0_1.index t 0 * 2048 + 1 * k.val = _; rw [(index_eq t).2.1]; show 0 * 2048 + 1 * k.val = k.val; omega
  · show win0_1.index t 1 * 1024 + 1 * j.val = _; rw [(index_eq t).2.1]; show (t.val / 16) * 1024 + 1 * j.val = q.val; omega

theorem blk2 (i : Fin 1024) (j : Fin 1024) (r : Fin 16384) (hr : r.val = 1024 * (t.val % 16) + i.val) (q : Fin 2048)
    (hq : q.val = 1024 * (t.val / 16) + j.val) :
    iblk m c 2 t (ix2 i j) = m ((c : Thread nD τ).loc main_arg2) (ix3 (seqOf r) (posOf r) q) := by
  refine Eq.trans (congrArg (V m c main_v2) (eq_at _ r q ?_ ?_)) (v2_at m c r q)
  · show win0_2.index t 0 * 1024 + 1 * i.val = _; rw [(index_eq t).2.2.1]; show (t.val % 16) * 1024 + 1 * i.val = r.val; omega
  · show win0_2.index t 1 * 1024 + 1 * j.val = _; rw [(index_eq t).2.2.1]; show (t.val / 16) * 1024 + 1 * j.val = q.val; omega

/-- The array the kernel fills. -/
def filled : S16384x2048.Idx → EReal := fun i =>
  resid (m ((c : Thread nD τ).loc main_arg0)) (m ((c : Thread nD τ).loc main_arg1)) (m ((c : Thread nD τ).loc main_arg2)) (i 0) (i 1)

theorem filled_eq : (dats m 0 c).arrAt 3 cfg0.N = filled m c := by
  refine (dats m 0 c).arrAt_eq_of_covers 3 _ (by decide +kernel) fun t hf y => ?_
  have e0 : (((cfg0.win 3).blk t).view.emb y 0).val = 1024 * (t.val % 16) + (y 0).val := by
    show win0_3.index t 0 * 1024 + 1 * (y 0).val = _; rw [(index_eq t).2.2.2]; show (t.val % 16) * 1024 + 1 * (y 0).val = _; omega
  have e1 : (((cfg0.win 3).blk t).view.emb y 1).val = 1024 * (t.val / 16) + (y 1).val := by
    show win0_3.index t 1 * 1024 + 1 * (y 1).val = _; rw [(index_eq t).2.2.2]; show (t.val / 16) * 1024 + 1 * (y 1).val = _; omega
  blk_simp
  rw [after0_3, out_eq]
  refine (congrArg _ (eq_ix2 (n0 := 1024) (n1 := 1024) y)).trans ((pay_at _ _ _ _ _).trans ?_)
  rw [blk2 m c t (y 0) (y 1) _ e0 _ e1]
  refine congrArg₂ (· + ·) rfl (Finset.sum_congr rfl fun k _ => ?_)
  rw [blk0 m c t (y 0) k _ e0, blk1 m c t k (y 1) _ e1]

/-- The kernel's result is the reference's. -/
theorem algebraic : Cert.algebraic_Kernel5Ideal_Reference5Ideal (hKernel5Ideal := Cert.Kernel5Ideal.Gen.facts)
    (hReference5Ideal := Cert.Reference5Ideal.Gen.facts) := by
  intro m g m' g' _ hargs
  refine ⟨fun c => filled m c, (θ_run Cert.Kernel5Ideal.defs _ _).mono (fun r h c => ?_) (Cert.Kernel5Ideal.Value.run_blocks m g),
    (θ_run Cert.Reference5Ideal.defs _ _).mono (fun r h c => ?_) (Cert.Reference5Ideal.Value.run (F := Ideal) m' g')⟩
  · exact ⟨(h c).1.trans (filled_eq m c), (h c).2⟩
  refine ⟨(h c).1.trans ?_, (h c).2⟩
  obtain ⟨e0, e1, e2⟩ := hargs c
  rw [e0, e1, e2]
  funext i
  rw [eq_ix2 (n0 := 16384) (n1 := 2048) i]
  unfold filled
  clean_types
  pointwise
  rfl

end Cert.Dense.Out

end
-- ==== Proof.Body.lean ====
module

public import proofs.«01_k».proof.Proof.Dense
public import proofs.«01_k».proof.Proof.Gen.Kernel6Ideal.Frame
public import Idealize.ShloMosaic.Lib.WholeRead
public import Idealize.ShloMosaic.Lib.Claim

/-! The input projection's body: what its stores leave, at the first block of columns and at a later one. -/

@[expose] public section

set_option maxRecDepth 16384

noncomputable section

namespace Cert.Dense.Proj

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The rows over their root mean squares, times the gain. -/
def rows (x : Vec F S1024x2048 .f32) (g : Vec F S1x2048 .f32) : FVec F S1024x2048 .bf16 :=
  let y : FVec F S1024x2048 .f32 := shapeCast S1024x2048 x shapeCasts_S1024x2048_S1024x2048
  let q : FVec F S1024x1 .f32 := shapeCast S1024x1
    (multiReduction .add [1] S1024 (mulf y y) 0x00000000#32 reduces_S1024x2048_S1024 (.inl rfl) rfl) shapeCasts_S1024_S1024x1
  let s : FVec F S1024x1 .f32 := rsqrt (addf (divf q (broadcast S1024x1 (Scalar.ofBits .f32 0x45000000#32)))
    (broadcast S1024x1 (Scalar.ofBits .f32 0x358637BD#32)))
  truncf .bf16 (mulf (mulf y (broadcastTo S1024x2048 s broadcasts_S1024x1_S1024x2048))
    (broadcastTo S1024x2048 (shapeCast S1x2048 g shapeCasts_S1x2048_S1x2048) broadcasts_S1x2048_S1024x2048)) bitsLt_bf16_f32

/-- The rows as the scratch keeps them. -/
def kept (x : Vec F S1024x2048 .f32) (g : Vec F S1x2048 .f32) : FVec F S1024x2048 .bf16 :=
  shapeCast S1024x2048 (rows x g) shapeCasts_S1024x2048_S1024x2048

/-- The rows against the small weights. -/
def small (h : FVec F S1024x2048 .bf16) (w : Vec F S768x2048 .bf16) : FVec F S1024x768 .f32 :=
  matmul dot_S1024x2048_S768x2048_S1024x768_1_1_0_0_n_n none h (shapeCast S768x2048 w shapeCasts_S768x2048_S768x2048 : FVec F S768x2048 .bf16)
    (constant S1024x768 .f32 0x00000000#32)

/-- The rows against a block of the wide weights. -/
def wide (h w : Vec F S1024x2048 .bf16) : FVec F S1024x1024 .bf16 :=
  truncf .bf16 (matmul dot_S1024x2048_S1024x2048_S1024x1024_1_1_0_0_n_n none h
    (shapeCast S1024x2048 w shapeCasts_S1024x2048_S1024x2048 : FVec F S1024x2048 .bf16) (constant S1024x1024 .f32 0x00000000#32)) bitsLt_bf16_f32

/-- The body's loads and stores, over those values. -/
def moves (i : grid0.Coords) (arg2 : Memref sig .tc .vmem S1024x2048 .f32) (harg2 : arg2.IsWhole) (arg3 : Memref sig .tc .vmem S1x2048 .f32) (harg3 : arg3.IsWhole) (arg4 : Memref sig .tc .vmem S1024x2048 .bf16) (harg4 : arg4.IsWhole)
  (arg5 : Memref sig .tc .vmem S768x2048 .bf16) (harg5 : arg5.IsWhole) (arg6 : Memref sig .tc .vmem S1024x1024 .bf16) (harg6 : arg6.IsWhole) (arg7 : Memref sig .tc .vmem S1024x768 .f32) (harg7 : arg7.IsWhole)
  (arg8 : Memref sig .tc .vmem S1024x2048 .bf16) (harg8 : arg8.IsWhole) :
    Prog (TpuEff nD τ sig (Elt F) Λ₀ .tc) PUnit := do
  if _ : k0_cond1 i = 1#1 then do
    let x : Vec F S1024x2048 .f32 ← Prog.lift (.load arg2 (Rect.unit (s := S1024x2048) ![0, 0] S1024x2048.size inb_S1024x2048_S1024x2048_0_0).toLoadRect (View.loadsAt_vmem h_S1024x2048))
    let g : Vec F S1x2048 .f32 ← Prog.lift (.load arg3 (Rect.unit (s := S1x2048) ![0, 0] S1x2048.size inb_S1x2048_S1x2048_0_0).toLoadRect (View.loadsAt_vmem h_S1x2048))
    let _ : Vec F S1024x2048 .bf16 ← Prog.lift (.load arg8 (Rect.unit (s := S1024x2048) ![0, 0] S1024x2048.size inb_S1024x2048_S1024x2048_0_0).toLoadRect (View.loadsAt_vmem h_S1024x2048))
    Prog.lift (.store arg8 (Rect.unit (s := S1024x2048) ![0, 0] S1024x2048.size inb_S1024x2048_S1024x2048_0_0) (kept x g) Finset.univ (View.stores_vmem h_S1024x2048 (harg8.storeExact_slice rfl _ packedbf16_S1024x2048_S1024x2048_0_0) (fun _ => rfl)) (.inl rfl))
    let u : Vec F S768x2048 .bf16 ← Prog.lift (.load arg5 (Rect.unit (s := S768x2048) ![0, 0] S768x2048.size inb_S768x2048_S768x2048_0_0).toLoadRect (View.loadsAt_vmem h_S768x2048))
    let _ : Vec F S1024x768 .f32 ← Prog.lift (.load arg7 (Rect.unit (s := S1024x768) ![0, 0] S1024x768.size inb_S1024x768_S1024x768_0_0).toLoadRect (View.loadsAt_vmem h_S1024x768))
    Prog.lift (.store arg7 (Rect.unit (s := S1024x768) ![0, 0] S1024x768.size inb_S1024x768_S1024x768_0_0) (small (rows x g) u) Finset.univ (View.stores_vmem_bits_univ h_S1024x768 rfl) (.inl rfl))
    pure ⟨⟩
  else do
    pure ⟨⟩
  let h : Vec F S1024x2048 .bf16 ← Prog.lift (.load arg8 (Rect.unit (s := S1024x2048) ![0, 0] S1024x2048.size inb_S1024x2048_S1024x2048_0_0).toLoadRect (View.loadsAt_vmem h_S1024x2048))
  let w : Vec F S1024x2048 .bf16 ← Prog.lift (.load arg4 (Rect.unit (s := S1024x2048) ![0, 0] S1024x2048.size inb_S1024x2048_S1024x2048_0_0).toLoadRect (View.loadsAt_vmem h_S1024x2048))
  let _ : Vec F S1024x1024 .bf16 ← Prog.lift (.load arg6 (Rect.unit (s := S1024x1024) ![0, 0] S1024x1024.size inb_S1024x1024_S1024x1024_0_0).toLoadRect (View.loadsAt_vmem h_S1024x1024))
  Prog.lift (.store arg6 (Rect.unit (s := S1024x1024) ![0, 0] S1024x1024.size inb_S1024x1024_S1024x1024_0_0) (wide h w) Finset.univ (View.stores_vmem h_S1024x1024 (harg6.storeExact_slice rfl _ packedbf16_S1024x1024_S1024x1024_0_0) (fun _ => rfl)) (.inl rfl))
  pure ⟨⟩

set_option maxRecDepth 65536 in
theorem body_eq : cc0_in_proj (F := F) = moves (F := F) := rfl

section
variable (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1024x2048 .bf16) (harg4 : arg4.IsWhole)
  (arg5 : Memref sig .tc .vmem S768x2048 .bf16) (harg5 : arg5.IsWhole) (arg6 : Memref sig .tc .vmem S1024x1024 .bf16) (harg6 : arg6.IsWhole) (arg7 : Memref sig .tc .vmem S1024x768 .f32) (harg7 : arg7.IsWhole)
  (arg8 : Memref sig .tc .vmem S1024x2048 .bf16) (harg8 : arg8.IsWhole)
  (x0 : Vec F S1024x2048 .f32) (x1 : Vec F S1x2048 .f32) (x2 : Vec F S1024x2048 .bf16) (x3 : Vec F S768x2048 .bf16)

set_option maxHeartbeats 1000000 in
/-- At a first block: what the stores leave in the two outputs and the scratch, found by the run. -/
def runFirst (hc : k0_cond1 i = 1#1) :
    Σ' (L4 : List (View.Piece (Elt F) S1024x1024 .bf16)) (L5 : List (View.Piece (Elt F) S1024x768 .f32)), { LS : List (View.Piece (Elt F) S1024x2048 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS)) -∗ K ⟨⟩))
          ⊢ wp frame (wpE (defs₀ (F := F)) Variants.none c none) E (cc0_in_proj i arg2 harg2 arg3 harg3 arg4 harg4 arg5 harg5 arg6 harg6 arg7 harg7 arg8 harg8) K } := by
  refine ⟨?_, ?_, ?_, fun E K => ?run⟩
  case run =>
    simp only [body_eq]; unfold moves
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%ds, %fs, -, HS⟩, Hk⟩
    obtain rfl := harg2.eq_unread hf0; obtain rfl := harg3.eq_unread hf1; obtain rfl := harg4.eq_unread hf2; obtain rfl := harg5.eq_unread hf3
    sl_exec (disch := first | sl_exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    iexists _; iexact HS

set_option maxHeartbeats 1000000 in
/-- At a later block: the scratch and the small output stay as they are. -/
def runLater (hc : ¬k0_cond1 i = 1#1) (x5 : Vec F S1024x768 .f32) (xs : Vec F S1024x2048 .bf16) :
    { L4 : List (View.Piece (Elt F) S1024x1024 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare x5 ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ owns (c : Thread nD τ) arg7 fullShare x5 ∗ owns (c : Thread nD τ) arg8 fullShare xs) -∗ K ⟨⟩))
          ⊢ wp frame (wpE (defs₀ (F := F)) Variants.none c none) E (cc0_in_proj i arg2 harg2 arg3 harg3 arg4 harg4 arg5 harg5 arg6 harg6 arg7 harg7 arg8 harg8) K } := by
  refine ⟨?_, fun E K => ?run⟩
  case run =>
    simp only [body_eq]; unfold moves
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%fs, %hfs, HS⟩, Hk⟩
    obtain rfl := harg2.eq_unread hf0; obtain rfl := harg3.eq_unread hf1; obtain rfl := harg4.eq_unread hf2; obtain rfl := harg5.eq_unread hf3
    obtain rfl := harg7.eq_unread hf5; obtain rfl := harg8.eq_unread hfs
    sl_exec (disch := first | sl_exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]
    · iexists _; isplitr; · ipureintro; exact harg7.read_unread _
      iexact H5
    iexists _; isplitr; · ipureintro; exact harg8.read_unread _
    iexact HS

/-- Pieces that make up the whole of a buffer leave in it what they say. -/
theorem whole_writes {s : Shape} {e : EltTy} (a : Memref sig .tc .vmem s e) (f : _) (L : List (View.Piece (Elt F) s e))
    (h : ∀ y, ∃ pc ∈ L, y ∈ pc.1.set) : a.view.read (Elt F) (a.view.writes (Elt F) f L) = View.canon L :=
  (View.read_writes_of_cover _ _ a.view a.view.junk L h).trans (View.read_writes_junk_eq_canon _ _)

theorem firstWide (hc : k0_cond1 i = 1#1) (f : _) :
    arg6.view.read (Elt F) (arg6.view.writes (Elt F) f (runFirst c i arg2 harg2 arg3 harg3 arg4 harg4 arg5 harg5 arg6 harg6 arg7 harg7 arg8 harg8 x0 x1 x2 x3 hc).1) = wide (kept x0 x1) x2 := by
  rw [whole_writes _ _ _ (View.cover_of_tiledL _ S1024x1024.size (by sl_kernel_rfl))]
  unfold runFirst
  dsimp only
  unfold runFirst.sl.h runFirst.sl.HS_1
  rw [View.canon_unit_zero hz, View.readCov_unit_zero _ hz, read_whole harg2 hz, read_whole harg3 hz, read_whole harg4 hz]

theorem firstSmall (hc : k0_cond1 i = 1#1) (f : _) :
    arg7.view.read (Elt F) (arg7.view.writes (Elt F) f (runFirst c i arg2 harg2 arg3 harg3 arg4 harg4 arg5 harg5 arg6 harg6 arg7 harg7 arg8 harg8 x0 x1 x2 x3 hc).2.1) = small (rows x0 x1) x3 := by
  rw [whole_writes _ _ _ (View.cover_of_tiledL _ S1024x768.size (by sl_kernel_rfl))]
  unfold runFirst
  dsimp only
  rw [View.canon_unit_zero hz, read_whole harg2 hz, read_whole harg3 hz, read_whole harg5 hz]

theorem firstKept (hc : k0_cond1 i = 1#1) (f : _) :
    arg8.view.read (Elt F) (arg8.view.writes (Elt F) f (runFirst c i arg2 harg2 arg3 harg3 arg4 harg4 arg5 harg5 arg6 harg6 arg7 harg7 arg8 harg8 x0 x1 x2 x3 hc).2.2.1) = kept x0 x1 := by
  rw [whole_writes _ _ _ (View.cover_of_tiledL _ S1024x2048.size (by sl_kernel_rfl))]
  unfold runFirst
  dsimp only
  unfold runFirst.sl.HS_1
  rw [View.canon_unit_zero hz, read_whole harg2 hz, read_whole harg3 hz]

theorem laterWide (hc : ¬k0_cond1 i = 1#1) (x5 : Vec F S1024x768 .f32) (xs : Vec F S1024x2048 .bf16) (f : _) :
    arg6.view.read (Elt F) (arg6.view.writes (Elt F) f (runLater c i arg2 harg2 arg3 harg3 arg4 harg4 arg5 harg5 arg6 harg6 arg7 harg7 arg8 harg8 x0 x1 x2 x3 hc x5 xs).1) = wide xs x2 := by
  rw [whole_writes _ _ _ (View.cover_of_tiledL _ S1024x1024.size (by sl_kernel_rfl))]
  unfold runLater
  dsimp only
  rw [View.canon_unit_zero hz, read_whole harg4 hz, read_whole harg8 hz]

end

end Cert.Dense.Proj

end
-- ==== Proof.InFrame.lean ====
module

public import proofs.«01_k».proof.Proof.Body
public import Idealize.ShloMosaic.Lib.Pipeline.TableIdle

/-! The input projection's pipeline: what each point leaves, the run, and the frame. -/

@[expose] public section

set_option maxRecDepth 16384

noncomputable section

namespace Cert.Dense.Proj

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The rows are made at the first block of columns of each block of rows. -/
theorem first_iff : ∀ t : Fin cfg0.N, k0_cond1 (grid0.coords t) = 1#1 ↔ t.val % 17 = 0 :=
  (fun t => by
    have ht : t.val < 272 := Nat.lt_of_lt_of_eq t.isLt N_0
    have e0 : (grid0.coords t 0).val = t.val / 17 % 16 := Pipeline.Grid.coords_val t 0 (by decide) rfl
    have e1 : (grid0.coords t 1).val = t.val / 1 % 17 := Pipeline.Grid.coords_val t 1 (by decide) rfl
    simp only [k0_cond1, e0, e1]
    word_cmp
   : ∀ t : Fin grid0.N, k0_cond1 (grid0.coords t) = 1#1 ↔ t.val % 17 = 0)

/-- The small output is left alone at every other block. -/
theorem idle5 (t : Fin cfg0.N) : cfg0.idle 5 (cfg0.grid.coords t) = !decide (t.val % 17 = 0) := by
  have h := first_iff t
  show (!(k0_cond1 (grid0.coords t) == 1#1)) = _
  by_cases h0 : t.val % 17 = 0
  · rw [h.mpr h0, decide_eq_true h0]; rfl
  · rw [decide_eq_false h0, beq_eq_false_iff_ne.mpr fun e => h0 (h.mp e)]

theorem flush5 (t : Fin cfg0.N) : (cfg0.win 5).flush t = decide (t.val % 17 = 16) :=
  Bool.eq_iff_iff.mpr ((flush0_5 t).trans (decide_eq_true_iff).symm)

/-- Nothing of the present block of rows is in the small output's buffer before its first point, and only then. -/
theorem fresh5 (n : ℕ) (h : n ≤ cfg0.N) : cfg0.fresh 5 n = decide (n % 17 = 0) :=
  cfg0.fresh_tab 5 (fun n => decide (n % 17 = 0)) rfl (fun t => by
    rw [idle5, flush5]
    by_cases h0 : t.val % 17 = 0 <;> by_cases h1 : t.val % 17 = 16 <;> simp [h0, h1] <;> omega) n h

variable (m : (ℓ : Loc nD τ sig) → Buf (Elt F) ℓ) (ρ : Dev nD → PrngReg)

/-- The scratch. -/
abbrev scr : Memref sig .tc .vmem S1024x2048 .bf16 := Memref.whole cc0_scratch0

theorem scoped_eq (c : Dev nD) :
    (Pipeline.ΦA spec0 c : sProp 𝕄)
      = iprop(iprop((∃ d, owns (c : Thread nD τ) scr fullShare d)) ∗ (∃ r, prngReg c r)) := by
  unfold Pipeline.ΦA; rw [scopedRest0_eq]; simp only [scr, owns_whole]; try rfl

/-- The rows kept at point `t`. -/
def rowsAt (c : Dev nD) (t : Fin cfg0.N) : FVec F S1024x2048 .bf16 := kept (iblk m c 0 t) (iblk m c 1 t)

/-- Before the first point anything; afterwards the scratch holds the rows of the point before. -/
def Phi (c : Dev nD) : (n : ℕ) → n ≤ cfg0.N → sProp 𝕄
  | 0, _ => Pipeline.ΦA spec0 c
  | n + 1, hn => iprop(iprop(owns (c : Thread nD τ) scr fullShare (rowsAt m c ⟨n, hn⟩)) ∗ (∃ r, prngReg c r))

theorem Phi_zero (c : Dev nD) (n : ℕ) (h : n ≤ cfg0.N) (hz : n = 0) : Phi m c n h = Pipeline.ΦA spec0 c := by
  subst hz; rfl

theorem Phi_succ (c : Dev nD) (n : ℕ) (hn : n < cfg0.N) :
    Phi m c (n + 1) hn = iprop(iprop(owns (c : Thread nD τ) scr fullShare (rowsAt m c ⟨n, hn⟩)) ∗ (∃ r, prngReg c r)) := rfl

theorem Phi_pos (c : Dev nD) (n : ℕ) (h : n ≤ cfg0.N) (hz : n ≠ 0) :
    Phi m c n h = iprop(iprop(owns (c : Thread nD τ) scr fullShare (rowsAt m c ⟨n - 1, by omega⟩)) ∗ (∃ r, prngReg c r)) := by
  cases n with
  | zero => exact absurd rfl hz
  | succ n => rfl

/-- The scratch may hold anything once more. -/
theorem Phi_any (c : Dev nD) (n : ℕ) (h : n ≤ cfg0.N) : Phi m c n h ⊢ Pipeline.ΦA spec0 c := by
  by_cases hz : n = 0
  · rw [Phi_zero m c n h hz]
  · rw [Phi_pos m c n h hz, scoped_eq]
    iintro ⟨HS, Hg⟩
    isplitl [HS]
    · iexists _; iexact HS
    iexact Hg

/-- What each point leaves in each buffer. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => wide (rowsAt m c t) (iblk m c 2 t)
    | ⟨5, _⟩ => small (rows (iblk m c 0 t) (iblk m c 1 t)) (iblk m c 3 t)
  Φ t := Phi m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) : (dats m 0 c).Φ t.castSucc = Phi m c t.val (Nat.le_of_lt t.isLt) := by
  dsimp only [dats]; exact Pipeline.Dat.Φ_castSucc (Phi m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = wide (rowsAt m c t) (iblk m c 2 t) := by dsimp only [dats]
theorem after5 (c : Dev nD) (t : Fin cfg0.N) : (dats m 0 c).after 5 t = small (rows (iblk m c 0 t) (iblk m c 1 t)) (iblk m c 3 t) := by
  dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-- The input blocks that do not move within a block of rows. -/
theorem back0 (c : Dev nD) (t : Fin cfg0.N) (h : ¬t.val % 17 = 0) : iblk m c 0 t = iblk m c 0 ⟨t.val - 1, by omega⟩ := by
  obtain ⟨_, hix⟩ := (cfg0.win 0).index_eq_of_fetch rfl t ((Bool.not_eq_true _).mp fun e => h ((fetch0_0 t).mp e))
  exact (dats m 0 c).fetched_congr 0 hix rfl (iblk m c 0 t)
theorem back1 (c : Dev nD) (t : Fin cfg0.N) (h : ¬t.val % 17 = 0) : iblk m c 1 t = iblk m c 1 ⟨t.val - 1, by omega⟩ := by
  obtain ⟨_, hix⟩ := (cfg0.win 1).index_eq_of_fetch rfl t ((Bool.not_eq_true _).mp fun e => h (by have := (fetch0_1 t).mp e; omega))
  exact (dats m 0 c).fetched_congr 1 hix rfl (iblk m c 1 t)
theorem back3 (c : Dev nD) (t : Fin cfg0.N) (h : ¬t.val % 17 = 0) : iblk m c 3 t = iblk m c 3 ⟨t.val - 1, by omega⟩ := by
  obtain ⟨_, hix⟩ := (cfg0.win 3).index_eq_of_fetch rfl t ((Bool.not_eq_true _).mp fun e => h (by have := (fetch0_3 t).mp e; omega))
  exact (dats m 0 c).fetched_congr 3 hix rfl (iblk m c 3 t)

theorem rowsAt_back (c : Dev nD) (t : Fin cfg0.N) (h : ¬t.val % 17 = 0) : rowsAt m c ⟨t.val - 1, by omega⟩ = rowsAt m c t := by
  unfold rowsAt
  rw [← back0 m c t h, ← back1 m c t h]

theorem after5_back (c : Dev nD) (t : Fin cfg0.N) (h : ¬t.val % 17 = 0) :
    (dats m 0 c).after 5 t = (dats m 0 c).after 5 ⟨t.val - 1, by omega⟩ := by
  rw [after5, after5, ← back0 m c t h, ← back1 m c t h, ← back3 m c t h]

/-- At a later block the small output's buffer holds the block's product already. -/
theorem before5 (c : Dev nD) (t : Fin cfg0.N) (h : ¬t.val % 17 = 0) (d) : (dats m 0 c).before 5 t d = (dats m 0 c).after 5 t := by
  rw [(dats m 0 c).before_out_traj 5 rfl (fun _ _ => rfl)
      (fun t ht hi hf => after5_back m c t fun e => by rw [idle5, decide_eq_true e] at hi; exact Bool.false_ne_true hi) _ t rfl d,
    fresh5 _ (Nat.le_of_lt t.isLt), decide_eq_false h, if_neg Bool.false_ne_true]
  exact (after5_back m c t h).symm

/-- What the body is called with, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- how it leaves the small output, -/
def leaves5 (c : Dev nD) (t : Fin cfg0.N) : sProp 𝕄 :=
  match cfg0.idle 5 (cfg0.grid.coords t) with
  | true =>
    match (cfg0.win 5).flush t with
    | false => iprop(∃ d, owns (c : Thread nD τ) (st0_5 t) fullShare ((dats m 0 c).before 5 t d))
    | true => owns (c : Thread nD τ) (st0_5 t) fullShare ((dats m 0 c).after 5 t)
  | false => owns (c : Thread nD τ) (st0_5 t) fullShare ((dats m 0 c).after 5 t)

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ leaves5 m c t)

/-- Leaving the block's product is leaving it as it should be. -/
theorem leaves5_of (c : Dev nD) (t : Fin cfg0.N) (d : (cfg0.win 5).block.Idx → Elt F (cfg0.win 5).elt) :
    owns (c : Thread nD τ) (st0_5 t) fullShare ((dats m 0 c).after 5 t) ⊢ (leaves5 m c t : sProp 𝕄) := by
  unfold leaves5
  rw [idle5, flush5]
  by_cases h0 : t.val % 17 = 0
  · rw [decide_eq_true h0]; exact Idealize.SL.BI.Entails.refl _
  · rw [decide_eq_false h0]
    by_cases h1 : t.val % 17 = 16
    · rw [decide_eq_true h1]; exact Idealize.SL.BI.Entails.refl _
    · rw [decide_eq_false h1]
      show _ ⊢ (iprop(∃ d, owns (c : Thread nD τ) (st0_5 t) fullShare ((dats m 0 c).before 5 t d)) : sProp 𝕄)
      rw [← before5 m c t h0 d]
      iintro H
      iexists d
      iexact H

set_option maxHeartbeats 3200000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl, after0, after1, after2, after3, after4]
  rw [show (dats m 0 c).Φ t.succ = Phi m c (t.val + 1) t.isLt from rfl, Phi_succ, Phi_castSucc m c t]
  by_cases h0 : t.val % 17 = 0
  · refine triple_restated ?_ rfl (sep_mono_l (Phi_any m c _ _)) fun _ => .rfl
    change iprop(_ ∗ _) ⊢ _
    rw [scoped_eq]
    iintro ⟨⟨HS, Hg⟩, Ho, ⟨%d0, H0⟩, ⟨%d1, H1⟩, ⟨%d2, H2⟩, ⟨%d3, H3⟩, ⟨%d4, H4⟩, ⟨%d5, H5⟩⟩
    iapply ((runFirst c (grid0.coords t) _ _ _ _ _ _ _ _ _ _ _ _ _ _ (iblk m c 0 t) (iblk m c 1 t) (iblk m c 2 t) (iblk m c 3 t) ((first_iff t).mpr h0)).2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS]; · iexact HS
    iintro ⟨H0, H1, H2, H3, ⟨%e4, H4⟩, ⟨%e5, H5⟩, ⟨%es, HS⟩⟩
    isplitl [HS Hg]
    · isplitl [HS]
      · unfold owns; iexists _; isplitr
        swap; · iexact HS
        ipureintro; exact firstKept c _ _ _ _ _ _ _ _ _ _ _ _ _ _ _ _ _ _ _ _ _
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact firstWide c _ _ _ _ _ _ _ _ _ _ _ _ _ _ _ _ _ _ _ _ _
    iapply (leaves5_of m c t d5)
    rw [after5]
    unfold owns; iexists _; isplitr
    swap; · iexact H5
    ipureintro; exact firstSmall c _ _ _ _ _ _ _ _ _ _ _ _ _ _ _ _ _ _ _ _ _
  · simp only [before5 m c t h0]
    rw [Phi_pos m c _ _ (fun e => h0 (by rw [e])), rowsAt_back m c t h0]
    iintro ⟨⟨HS, Hg⟩, Ho, ⟨%d0, H0⟩, ⟨%d1, H1⟩, ⟨%d2, H2⟩, ⟨%d3, H3⟩, ⟨%d4, H4⟩, ⟨%d5, H5⟩⟩
    iapply ((runLater c (grid0.coords t) _ _ _ _ _ _ _ _ _ _ _ _ _ _ (iblk m c 0 t) (iblk m c 1 t) (iblk m c 2 t) (iblk m c 3 t) (fun e => h0 ((first_iff t).mp e)) ((dats m 0 c).after 5 t) (rowsAt m c t)).2 Set.univ _)
    isplitl [H0]; · iexact H0
    isplitl [H1]; · iexact H1
    isplitl [H2]; · iexact H2
    isplitl [H3]; · iexact H3
    isplitl [H4]; · iexists _; iexact H4
    isplitl [H5]; · iexact H5
    isplitl [HS]; · iexact HS
    iintro ⟨H0, H1, H2, H3, ⟨%e4, H4⟩, H5, HS⟩
    isplitl [HS Hg]
    · isplitl [HS]
      · iexact HS
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact laterWide c _ _ _ _ _ _ _ _ _ _ _ _ _ _ _ _ _ _ _ _ _ _ _
    iapply (leaves5_of m c t d5)
    iexact H5

theorem body_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

theorem hin (c : Dev nD) : Pipeline.ΦA spec0 c ⊢ (dats m 0 c).Φ 0 := by
  rw [show (dats m 0 c).Φ 0 = Phi m c 0 (Nat.zero_le _) from rfl, Phi_zero m c 0 _ rfl]

theorem hout (c : Dev nD) : (dats m 0 c).Φ (Fin.last cfg0.N) ⊢ Pipeline.ΦA spec0 c :=
  Phi_any m c (Fin.last cfg0.N).val (Nat.le_of_lt_succ (Fin.last cfg0.N).isLt)

set_option backward.isDefEq.respectTransparency.types false in
/-- The run, with no semaphore left raised. -/
theorem run_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_quiescent m ρ)

/-- The arguments end as they were, and no semaphore is left raised. -/
theorem frame6 : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_quiescent m ρ))

end Cert.Dense.Proj

end
-- ==== Proof.Columns.lean ====
module

public import proofs.«01_k».proof.Defs
public import proofs.«01_k».proof.Proof.Dense
public import proofs.«01_k».proof.Proof.Gen.Reference6Ideal.Run
import Idealize.ShloMosaic.Lib.Pointwise
import Idealize.ShloMosaic.Lib.Tactic.CleanTypes
import Idealize.ShloMosaic.Lib.IdealHost
import Idealize.ShloMosaic.Lib.Pipeline.ValueKit
import Idealize.ShloMosaic.Lib.Pointwise.IndexBridge

/-! The input projection's columns: which of them stand in the wide and in the small result, and the reference's results column by column. -/

@[expose] public section

noncomputable section

namespace Cert.Dense.Proj

open Cert.Reference6Ideal Cert.Reference6Ideal.Gen Idealize.ShloMosaic.ValueIdx Idealize.ShloMosaic.TcCoe Idealize.SL.Sem Finset
open Idealize.ShloMosaic hiding ix0 ix1 ix2 ix3 ix4 ix5 eq_ix1 eq_ix2 eq_ix3 eq_ix4

variable {F : FTy → Type} [FloatOps F]

/-- Twelve columns of 128, the rest zero. -/
def twelve (f : Fin 12 → EReal) (p : ℕ) : EReal := if h : p < 12 then f ⟨p, h⟩ else 0

/-- Twice eight columns of 128, the rest zero. -/
def eights (a b : Fin 8 → EReal) (p : ℕ) : EReal :=
  if _ : p < 16 then if h : p < 8 then a ⟨p, h⟩ else b ⟨p - 8, by omega⟩ else 0

/-- The small columns, of all columns. -/
def spread (f : Fin 17488 → EReal) (q : Fin 768) : EReal :=
  if q.val < 128 then twelve (fun i => f ⟨5120 + i.val, by omega⟩) q.val
  else if q.val - 128 < 128 then twelve (fun i => f ⟨5120 + (12 + i.val), by omega⟩) (q.val - 128)
  else if q.val - 128 - 128 < 128 then twelve (fun i => f ⟨5120 + (24 + i.val), by omega⟩) (q.val - 128 - 128)
  else if q.val - 128 - 128 - 128 < 128 then twelve (fun i => f ⟨5120 + (36 + i.val), by omega⟩) (q.val - 128 - 128 - 128)
  else if q.val - 128 - 128 - 128 - 128 < 128 then
    eights (fun i => f ⟨13360 + i.val, by omega⟩) (fun i => f ⟨13376 + i.val, by omega⟩) (q.val - 128 - 128 - 128 - 128)
  else eights (fun i => f ⟨13360 + (8 + i.val), by omega⟩) (fun i => f ⟨13376 + (8 + i.val), by omega⟩) (q.val - 128 - 128 - 128 - 128 - 128)

/-- The integer zero as a number. -/
theorem zero_at (ft : FTy) : (FloatOps.sitofp ft (0#32 : BitVec 32) : Ideal ft) = (0 : EReal) := by
  show ((((0#32 : BitVec 32).toInt : ℝ)) : EReal) = 0
  simp

/-- A choice branch by branch. -/
theorem pick {p : Prop} [Decidable p] {α : Type} {a : p → α} {b : ¬p → α} {a' b' : α} (ha : ∀ h, a h = a') (hb : ∀ h, b h = b') :
    dite p a b = ite p a' b' := by
  split
  · exact ha _
  · exact hb _

/-- A choice branch by branch, whose branches know of the choice. -/
theorem choose {p : Prop} [Decidable p] {α : Type} {a a' : p → α} {b b' : ¬p → α} (ha : ∀ h, a h = a' h) (hb : ∀ h, b h = b' h) :
    dite p a b = dite p a' b' := by
  split
  · exact ha _
  · exact hb _

/-- The wide columns, of all columns. -/
def beside (f : Fin 17488 → EReal) (q : Fin 17408) : EReal :=
  if q.val < 2048 then f ⟨q.val, by omega⟩
  else if q.val - 2048 < 3072 then f ⟨2048 + (q.val - 2048), by omega⟩
  else if q.val - 2048 - 3072 < 6144 then f ⟨5168 + (q.val - 2048 - 3072), by omega⟩
  else if q.val - 2048 - 3072 - 6144 < 2048 then f ⟨11312 + (q.val - 2048 - 3072 - 6144), by omega⟩
  else if q.val - 2048 - 3072 - 6144 - 2048 < 2048 then f ⟨13392 + (q.val - 2048 - 3072 - 6144 - 2048), by omega⟩
  else f ⟨15440 + (q.val - 2048 - 3072 - 6144 - 2048 - 2048), by omega⟩

/-- A row of the normed input against a column of the weights. -/
def proj (x : (⟨3, ![4, 4096, 2048]⟩ : Shape).Idx → EReal) (g : (⟨1, ![2048]⟩ : Shape).Idx → EReal)
    (w : (⟨2, ![2048, 17488]⟩ : Shape).Idx → EReal) (r : Fin 16384) (s : Fin 17488) : EReal :=
  ∑ k : Fin 2048, normed (fun q => x (ix3 (seqOf r) (posOf r) q)) (fun q => g (ix1 q)) k * w (ix2 k s)

/-- The wide columns set beside one another, of all columns. -/
def strips (D : FVec F S4x4096x17488 .f32) : FVec F S16384x17408 .bf16 :=
  truncf .bf16 (shapeCast _ ((concatenate S4x4096x17408 2 [⟨S4x4096x2048, ((extractStridedSlice S4x4096x2048 ![0, 0, 0] D slices_S4x4096x17488_S4x4096x2048_0_0_0) : (⟨S4x4096x2048, .f32⟩ : BufTy).Contents (Elt F))⟩, ⟨S4x4096x3072, ((extractStridedSlice S4x4096x3072 ![0, 0, 2048] D slices_S4x4096x17488_S4x4096x3072_0_0_2048) : (⟨S4x4096x3072, .f32⟩ : BufTy).Contents (Elt F))⟩, ⟨S4x4096x6144, ((extractStridedSlice S4x4096x6144 ![0, 0, 5168] D slices_S4x4096x17488_S4x4096x6144_0_0_5168) : (⟨S4x4096x6144, .f32⟩ : BufTy).Contents (Elt F))⟩, ⟨S4x4096x2048, ((extractStridedSlice S4x4096x2048 ![0, 0, 11312] D slices_S4x4096x17488_S4x4096x2048_0_0_11312) : (⟨S4x4096x2048, .f32⟩ : BufTy).Contents (Elt F))⟩, ⟨S4x4096x2048, ((extractStridedSlice S4x4096x2048 ![0, 0, 13392] D slices_S4x4096x17488_S4x4096x2048_0_0_13392) : (⟨S4x4096x2048, .f32⟩ : BufTy).Contents (Elt F))⟩, ⟨S4x4096x2048, ((extractStridedSlice S4x4096x2048 ![0, 0, 15440] D slices_S4x4096x17488_S4x4096x2048_0_0_15440) : (⟨S4x4096x2048, .f32⟩ : BufTy).Contents (Elt F))⟩] concatenates_S4x4096x2048_S4x4096x3072_S4x4096x6144_S4x4096x2048_S4x4096x2048_S4x4096x2048_S4x4096x17408_d2 : (⟨S4x4096x17408, .f32⟩ : BufTy).Contents (Elt F))) shapeCasts_S4x4096x17408_S16384x17408) bitsLt_bf16_f32

/-- The small columns set beside one another, of all columns. -/
def tiles (D : FVec F S4x4096x17488 .f32) : FVec F S16384x768 .f32 :=
  shapeCast _ ((concatenate S4x4096x768 2 [⟨S4x4096x128, ((pad S4x4096x128 ![0, 0, 0] ![0, 0, 116] ![0, 0, 0] (extractStridedSlice S4x4096x12 ![0, 0, 0] (extractStridedSlice S4x4096x48 ![0, 0, 5120] D slices_S4x4096x17488_S4x4096x48_0_0_5120) slices_S4x4096x48_S4x4096x12_0_0_0) (sitofp .f32 (constantI S_ 32 0#32)) pads_S4x4096x12_S4x4096x128_000_000_01160 h_S_) : (⟨S4x4096x128, .f32⟩ : BufTy).Contents (Elt F))⟩, ⟨S4x4096x128, ((pad S4x4096x128 ![0, 0, 0] ![0, 0, 116] ![0, 0, 0] (extractStridedSlice S4x4096x12 ![0, 0, 12] (extractStridedSlice S4x4096x48 ![0, 0, 5120] D slices_S4x4096x17488_S4x4096x48_0_0_5120) slices_S4x4096x48_S4x4096x12_0_0_12) (sitofp .f32 (constantI S_ 32 0#32)) pads_S4x4096x12_S4x4096x128_000_000_01160 h_S_) : (⟨S4x4096x128, .f32⟩ : BufTy).Contents (Elt F))⟩, ⟨S4x4096x128, ((pad S4x4096x128 ![0, 0, 0] ![0, 0, 116] ![0, 0, 0] (extractStridedSlice S4x4096x12 ![0, 0, 24] (extractStridedSlice S4x4096x48 ![0, 0, 5120] D slices_S4x4096x17488_S4x4096x48_0_0_5120) slices_S4x4096x48_S4x4096x12_0_0_24) (sitofp .f32 (constantI S_ 32 0#32)) pads_S4x4096x12_S4x4096x128_000_000_01160 h_S_) : (⟨S4x4096x128, .f32⟩ : BufTy).Contents (Elt F))⟩, ⟨S4x4096x128, ((pad S4x4096x128 ![0, 0, 0] ![0, 0, 116] ![0, 0, 0] (extractStridedSlice S4x4096x12 ![0, 0, 36] (extractStridedSlice S4x4096x48 ![0, 0, 5120] D slices_S4x4096x17488_S4x4096x48_0_0_5120) slices_S4x4096x48_S4x4096x12_0_0_36) (sitofp .f32 (constantI S_ 32 0#32)) pads_S4x4096x12_S4x4096x128_000_000_01160 h_S_) : (⟨S4x4096x128, .f32⟩ : BufTy).Contents (Elt F))⟩, ⟨S4x4096x128, ((pad S4x4096x128 ![0, 0, 0] ![0, 0, 112] ![0, 0, 0] (concatenate S4x4096x16 2 [⟨S4x4096x8, (extractStridedSlice S4x4096x8 ![0, 0, 0] (extractStridedSlice S4x4096x16 ![0, 0, 13360] D slices_S4x4096x17488_S4x4096x16_0_0_13360) slices_S4x4096x16_S4x4096x8_0_0_0)⟩, ⟨S4x4096x8, (extractStridedSlice S4x4096x8 ![0, 0, 0] (extractStridedSlice S4x4096x16 ![0, 0, 13376] D slices_S4x4096x17488_S4x4096x16_0_0_13376) slices_S4x4096x16_S4x4096x8_0_0_0)⟩] concatenates_S4x4096x8_S4x4096x8_S4x4096x16_d2) (sitofp .f32 (constantI S_ 32 0#32)) pads_S4x4096x16_S4x4096x128_000_000_01120 h_S_) : (⟨S4x4096x128, .f32⟩ : BufTy).Contents (Elt F))⟩, ⟨S4x4096x128, ((pad S4x4096x128 ![0, 0, 0] ![0, 0, 112] ![0, 0, 0] (concatenate S4x4096x16 2 [⟨S4x4096x8, (extractStridedSlice S4x4096x8 ![0, 0, 8] (extractStridedSlice S4x4096x16 ![0, 0, 13360] D slices_S4x4096x17488_S4x4096x16_0_0_13360) slices_S4x4096x16_S4x4096x8_0_0_8)⟩, ⟨S4x4096x8, (extractStridedSlice S4x4096x8 ![0, 0, 8] (extractStridedSlice S4x4096x16 ![0, 0, 13376] D slices_S4x4096x17488_S4x4096x16_0_0_13376) slices_S4x4096x16_S4x4096x8_0_0_8)⟩] concatenates_S4x4096x8_S4x4096x8_S4x4096x16_d2) (sitofp .f32 (constantI S_ 32 0#32)) pads_S4x4096x16_S4x4096x128_000_000_01120 h_S_) : (⟨S4x4096x128, .f32⟩ : BufTy).Contents (Elt F))⟩] concatenates_S4x4096x128_S4x4096x128_S4x4096x128_S4x4096x128_S4x4096x128_S4x4096x128_S4x4096x768_d2 : (⟨S4x4096x768, .f32⟩ : BufTy).Contents (Elt F))) shapeCasts_S4x4096x768_S16384x768

theorem strips_at (D : FVec Ideal S4x4096x17488 .f32) (r : Fin 16384) (q : Fin 17408) :
    strips D (ix2 r q) = beside (fun s => D (ix3 (seqOf r) (posOf r) s)) q := by
  delta strips
  clean_types
  pointwise
  simp only [ix3_eq_valueIdx]
  unfold beside
  refine pick (fun _ => ?_) fun _ => pick (fun _ => ?_) fun _ => pick (fun _ => ?_) fun _ => pick (fun _ => ?_) fun _ => pick (fun _ => ?_) fun _ => ?_
  all_goals exact congrArg D (by congr 1)

/-- Twelve columns of 128, chosen by a condition that says more. -/
theorem twelve_of {A B : Prop} {p : ℕ} [Decidable (A ∧ B ∧ p < 12)] (hA : A) (hB : B) {a : A ∧ B ∧ p < 12 → EReal} {z : EReal} (hz : z = 0)
    (f : Fin 12 → EReal) (ha : ∀ h, a h = f ⟨p, h.2.2⟩) : (if h : A ∧ B ∧ p < 12 then a h else z) = twelve f p := by
  unfold twelve
  by_cases hp : p < 12
  · rw [dif_pos ⟨hA, hB, hp⟩, dif_pos hp, ha]
  · rw [dif_neg fun h => hp h.2.2, dif_neg hp, hz]

/-- Twice eight columns of 128, chosen by a condition that says more. -/
theorem eights_of {A B : Prop} {p : ℕ} [Decidable (A ∧ B ∧ p < 16)] (hA : A) (hB : B) {a : A ∧ B ∧ p < 16 → EReal} {z : EReal} (hz : z = 0)
    (f g : Fin 8 → EReal) (ha : ∀ h, a h = if h8 : p < 8 then f ⟨p, h8⟩ else g ⟨p - 8, by have := h.2.2; omega⟩) :
    (if h : A ∧ B ∧ p < 16 then a h else z) = eights f g p := by
  unfold eights
  by_cases hp : p < 16
  · rw [dif_pos ⟨hA, hB, hp⟩, dif_pos hp, ha]
  · rw [dif_neg fun h => hp h.2.2, dif_neg hp, hz]

theorem tiles_at (D : FVec Ideal S4x4096x17488 .f32) (r : Fin 16384) (q : Fin 768) :
    tiles D (ix2 r q) = spread (fun s => D (ix3 (seqOf r) (posOf r) s)) q := by
  delta tiles
  clean_types
  pointwise
  simp only [ix3_eq_valueIdx]
  unfold spread
  have hA : r.val / 4096 < 4 := by omega
  have hB : r.val % 4096 < 4096 := by omega
  refine pick (fun _ => twelve_of hA hB (zero_at _) _ fun _ => ?_) fun _ => pick (fun _ => twelve_of hA hB (zero_at _) _ fun _ => ?_) fun _ =>
    pick (fun _ => twelve_of hA hB (zero_at _) _ fun _ => ?_) fun _ => pick (fun _ => twelve_of hA hB (zero_at _) _ fun _ => ?_) fun _ =>
    pick (fun _ => eights_of hA hB (zero_at _) _ _ fun _ => choose (fun _ => ?_) fun _ => ?_) fun _ => eights_of hA hB (zero_at _) _ _ fun _ => choose (fun _ => ?_) fun _ => ?_
  all_goals exact congrArg D (by congr 1)

/-- All columns: the normed input against the weights. -/
def whole (x : FVec F S4x4096x2048 .f32) (g : FVec F S2048 .f32) (w : FVec F S2048x17488 .bf16) : FVec F S4x4096x17488 .f32 :=
  Host.dotGeneral dot_S4x4096x2048_S2048x17488_S4x4096x17488_2_0_01_1_n_n none (mulf (mulf x (broadcastInDim S4x4096x2048 ![0, 1, 2] bcast_S4x4096x1_S4x4096x2048_0_1_2 (Host.rsqrt (addf (Host.divf (broadcastInDim S4x4096x1 ![0, 1] bcast_S4x4096_S4x4096x1_0_1 (Host.reduceAdd (mulf x x) (constant S_ .f32 0x00000000#32) reducesTo_S4x4096x2048_S4x4096_d2 h_S_)) (broadcastInDim S4x4096x1 ![] bcast_S_S4x4096x1 (constant S_ .f32 0x45000000#32))) (broadcastInDim S4x4096x1 ![] bcast_S_S4x4096x1 (constant S_ .f32 0x358637BD#32)))))) (broadcastInDim S4x4096x2048 ![0, 1, 2] bcast_S1x1x2048_S4x4096x2048_0_1_2 (broadcastInDim S1x1x2048 ![2] bcast_S2048_S1x1x2048_2 g))) w

theorem whole_at (x : FVec Ideal S4x4096x2048 .f32) (g : FVec Ideal S2048 .f32) (w : FVec Ideal S2048x17488 .bf16) (r : Fin 16384) (s : Fin 17488) :
    whole x g w (ix3 (seqOf r) (posOf r) s) = proj x g w r s := by
  delta whole
  clean_types
  pointwise
  rfl

variable (m : (ℓ : Loc nD τ sig) → Buf (Elt Ideal) ℓ) (c : Dev nD)

theorem ref42 (r : Fin 16384) (q : Fin 17408) :
    Value.res_main_v42 m c (ix2 r q)
      = beside (proj (m ((c.tc : Thread nD τ).loc main_arg0)) (m ((c.tc : Thread nD τ).loc main_arg1)) (m ((c.tc : Thread nD τ).loc main_arg2)) r) q := by
  show strips (whole _ _ _) _ = _
  exact (strips_at _ r q).trans (congrArg (fun f => beside f q) (funext fun s => whole_at _ _ _ r s))

theorem ref43 (r : Fin 16384) (q : Fin 768) :
    Value.res_main_v43 m c (ix2 r q)
      = spread (proj (m ((c.tc : Thread nD τ).loc main_arg0)) (m ((c.tc : Thread nD τ).loc main_arg1)) (m ((c.tc : Thread nD τ).loc main_arg2)) r) q := by
  show tiles (whole _ _ _) _ = _
  exact (tiles_at _ r q).trans (congrArg (fun f => spread f q) (funext fun s => whole_at _ _ _ r s))

end Cert.Dense.Proj
-- ==== Proof.Project.lean ====
module

public import proofs.«01_k».proof.Defs
public import proofs.«01_k».proof.Proof.InFrame
public import proofs.«01_k».proof.Proof.Columns
public import proofs.«01_k».proof.Proof.Gen.Kernel6.Frame
public import Idealize.ShloMosaic.Lib.StableHlo.ReadAt
import Idealize.ShloMosaic.Lib.Pointwise
import Idealize.ShloMosaic.Lib.Tactic.CleanTypes
import Idealize.ShloMosaic.Lib.IdealHost
import Idealize.ShloMosaic.Lib.Claim
import Idealize.ShloMosaic.Lib.Pipeline.ValueKit

/-! The input projection's result: its blocks at an index, and the two arrays it fills. -/

@[expose] public section

noncomputable section

namespace Cert.Dense.Proj

open Cert.Kernel6Ideal Cert.Kernel6Ideal.Gen Idealize.ShloMosaic.ValueIdx Idealize.ShloMosaic.TcCoe Idealize.SL.Sem Finset
open Idealize.ShloMosaic hiding ix0 ix1 ix2 ix3 ix4 ix5 eq_ix1 eq_ix2 eq_ix3 eq_ix4

variable (m : (ℓ : Loc nD τ sig) → Buf (Elt Ideal) ℓ) (c : Dev nD)

theorem v22_at (r : Fin 16384) (k : Fin 2048) : V m c main_v22 (ix2 r k) = m ((c : Thread nD τ).loc main_arg0) (ix3 (seqOf r) (posOf r) k) := by
  unfold V
  after_reads_at
  rfl

theorem v23_at (k : Fin 2048) : V m c main_v23 (ix2 0 k) = m ((c : Thread nD τ).loc main_arg1) (ix1 k) := by
  unfold V
  after_reads_at
  rfl

theorem v1_at (q : Fin 17488) (k : Fin 2048) : V m c main_v1 (ix2 q k) = m ((c : Thread nD τ).loc main_arg2) (ix2 k q) := by
  unfold V
  after_reads_at
  rfl

/-- Twelve rows of gate weights, in a block of 128. -/
def gates (w : FVec Ideal S12x2048 .bf16) : FVec Ideal S128x2048 .bf16 :=
  pad S128x2048 ![0, 0] ![116, 0] ![0, 0] w (sitofp .bf16 (constantI S_ 32 0#32)) pads_S12x2048_S128x2048_01160_000 h_S_

/-- Eight rows of decay weights and eight of rate weights, in a block of 128. -/
def rates (a b : FVec Ideal S8x2048 .bf16) : FVec Ideal S128x2048 .bf16 :=
  pad S128x2048 ![0, 0] ![112, 0] ![0, 0]
    (concatenate S16x2048 0 [⟨S8x2048, a⟩, ⟨S8x2048, b⟩] concatenates_S8x2048_S8x2048_S16x2048_d0 : FVec Ideal S16x2048 .bf16)
    (sitofp .bf16 (constantI S_ 32 0#32)) pads_S16x2048_S128x2048_01120_000 h_S_

/-- The small weights, of the transposed weights. -/
def packed (t : FVec Ideal S17488x2048 .bf16) : FVec Ideal S768x2048 .bf16 :=
  let g : FVec Ideal S48x2048 .bf16 := extractStridedSlice S48x2048 ![5120, 0] t slices_S17488x2048_S48x2048_5120_0
  let a : FVec Ideal S16x2048 .bf16 := extractStridedSlice S16x2048 ![13360, 0] t slices_S17488x2048_S16x2048_13360_0
  let b : FVec Ideal S16x2048 .bf16 := extractStridedSlice S16x2048 ![13376, 0] t slices_S17488x2048_S16x2048_13376_0
  concatenate S768x2048 0
    [⟨S128x2048, gates (extractStridedSlice S12x2048 ![0, 0] g slices_S48x2048_S12x2048_0_0)⟩,
      ⟨S128x2048, gates (extractStridedSlice S12x2048 ![12, 0] g slices_S48x2048_S12x2048_12_0)⟩,
      ⟨S128x2048, gates (extractStridedSlice S12x2048 ![24, 0] g slices_S48x2048_S12x2048_24_0)⟩,
      ⟨S128x2048, gates (extractStridedSlice S12x2048 ![36, 0] g slices_S48x2048_S12x2048_36_0)⟩,
      ⟨S128x2048, rates (extractStridedSlice S8x2048 ![0, 0] a slices_S16x2048_S8x2048_0_0) (extractStridedSlice S8x2048 ![0, 0] b slices_S16x2048_S8x2048_0_0)⟩,
      ⟨S128x2048, rates (extractStridedSlice S8x2048 ![8, 0] a slices_S16x2048_S8x2048_8_0) (extractStridedSlice S8x2048 ![8, 0] b slices_S16x2048_S8x2048_8_0)⟩]
    concatenates_S128x2048_S128x2048_S128x2048_S128x2048_S128x2048_S128x2048_S768x2048_d0

theorem v21_eq : V m c main_v21 = packed (V m c main_v1) := by
  unfold V
  simp only [hostOps0, hostOps0_1, hostOps0_2, hostOps0_3, hostOps0_4, hostOps0_5, hostOps0_6, hostOps0_7, hostOps0_8, hostOps0_9, hostOps0_10, hostOps0_11, hostOps0_12,
    List.flatten_cons, List.flatten_nil, List.append_nil, List.cons_append, List.nil_append, StableHlo.TRef.binary, StableHlo.TRef.unary, StableHlo.TRef.toBuf, StableHlo.TRef.ofBuf, cast_eq]
  after_results_simp
  rfl

theorem gates_at (w : FVec Ideal S12x2048 .bf16) (p : Fin 128) (k : Fin 2048) :
    gates w (ix2 p k) = twelve (fun i => w (ix2 i k)) p.val := by
  simp only [gates]
  clean_types
  pointwise
  rw [zero_at]
  rfl

theorem rates_at (a b : FVec Ideal S8x2048 .bf16) (p : Fin 128) (k : Fin 2048) :
    rates a b (ix2 p k) = eights (fun i => a (ix2 i k)) (fun i => b (ix2 i k)) p.val := by
  simp only [rates]
  clean_types
  pointwise
  rw [zero_at]
  rfl

theorem packed_at (t : FVec Ideal S17488x2048 .bf16) (q : Fin 768) (k : Fin 2048) :
    packed t (ix2 q k) = spread (fun s => t (ix2 s k)) q := by
  simp only [packed]
  clean_types
  pointwise
  unfold spread
  refine pick (fun h => (gates_at _ ⟨q.val, h⟩ k).trans ?_) fun _ => pick (fun h => (gates_at _ ⟨q.val - 128, h⟩ k).trans ?_) fun _ =>
    pick (fun h => (gates_at _ ⟨q.val - 128 - 128, h⟩ k).trans ?_) fun _ => pick (fun h => (gates_at _ ⟨q.val - 128 - 128 - 128, h⟩ k).trans ?_) fun _ =>
    pick (fun h => (rates_at _ _ ⟨q.val - 128 - 128 - 128 - 128, h⟩ k).trans ?_) fun _ => (rates_at _ _ ⟨q.val - 128 - 128 - 128 - 128 - 128, by omega⟩ k).trans ?_
  · refine congrArg (fun f => twelve f q.val) (funext fun i => ?_)
    pointwise
    rfl
  · refine congrArg (fun f => twelve f (q.val - 128)) (funext fun i => ?_)
    pointwise
    rfl
  · refine congrArg (fun f => twelve f (q.val - 128 - 128)) (funext fun i => ?_)
    pointwise
    rfl
  · refine congrArg (fun f => twelve f (q.val - 128 - 128 - 128)) (funext fun i => ?_)
    pointwise
    rfl
  · refine congrArg₂ (fun f g => eights f g (q.val - 128 - 128 - 128 - 128)) (funext fun i => ?_) (funext fun i => ?_)
    · pointwise
      rfl
    · pointwise
      rfl
  · refine congrArg₂ (fun f g => eights f g (q.val - 128 - 128 - 128 - 128 - 128)) (funext fun i => ?_) (funext fun i => ?_)
    · pointwise
      rfl
    · pointwise
      rfl

theorem rows_at (x : Vec Ideal S1024x2048 .f32) (g : Vec Ideal S1x2048 .f32) (i : Fin 1024) (k : Fin 2048) :
    rows x g (ix2 i k) = normed (fun q => x (ix2 i q)) (fun q => g (ix2 0 q)) k := by
  simp only [rows]
  clean_types
  pointwise
  rfl

theorem wide_at (h w : Vec Ideal S1024x2048 .bf16) (i j : Fin 1024) :
    wide h w (ix2 i j) = ∑ k : Fin 2048, h (ix2 i k) * w (ix2 j k) := by
  simp only [wide]
  clean_types
  pointwise
  rfl

theorem small_at (h : Vec Ideal S1024x2048 .bf16) (w : Vec Ideal S768x2048 .bf16) (i : Fin 1024) (j : Fin 768) :
    small h w (ix2 i j) = ∑ k : Fin 2048, h (ix2 i k) * w (ix2 j k) := by
  simp only [small]
  clean_types
  pointwise
  rfl

theorem kept_at (x : Vec Ideal S1024x2048 .f32) (g : Vec Ideal S1x2048 .f32) (i : Fin 1024) (k : Fin 2048) :
    kept x g (ix2 i k) = normed (fun q => x (ix2 i q)) (fun q => g (ix2 0 q)) k := by
  refine Eq.trans ?_ (rows_at x g i k)
  simp only [kept]
  clean_types
  pointwise

/-- The columns left out before block `b` of the wide columns. -/
def skip (b : ℕ) : ℕ := if 13 ≤ b then 80 else if 5 ≤ b then 48 else 0

theorem skip_le (b : ℕ) : skip b ≤ 80 := by
  unfold skip
  split_ifs <;> omega

theorem index_eq : ∀ t : Fin cfg0.N,
    win0_0.index t = ![t.val / 17, 0] ∧ win0_1.index t = ![0, 0] ∧ win0_2.index t = ![1024 * (t.val % 17) + skip (t.val % 17), 0]
      ∧ win0_3.index t = ![0, 0] ∧ win0_4.index t = ![t.val / 17, t.val % 17] ∧ win0_5.index t = ![t.val / 17, 0] :=
  (by decide +kernel : ∀ t : Fin grid0.N,
    win0_0.index t = ![t.val / 17, 0] ∧ win0_1.index t = ![0, 0] ∧ win0_2.index t = ![1024 * (t.val % 17) + skip (t.val % 17), 0]
      ∧ win0_3.index t = ![0, 0] ∧ win0_4.index t = ![t.val / 17, t.val % 17] ∧ win0_5.index t = ![t.val / 17, 0])

/-- The wide columns skip the small ones. -/
theorem beside_eq (f : Fin 17488 → EReal) (q : Fin 17408) (s : Fin 17488) (h : s.val = q.val + skip (q.val / 1024)) : beside f q = f s := by
  unfold skip at h
  unfold beside
  split_ifs at h ⊢ <;> first | exact congrArg f (Fin.ext (by dsimp only; omega)) | omega

/-- Sums of the small columns are the small columns of the sums. -/
theorem spread_sum (h : Fin 2048 → EReal) (f : Fin 2048 → Fin 17488 → EReal) (q : Fin 768) :
    ∑ k, h k * spread (f k) q = spread (fun s => ∑ k, h k * f k s) q := by
  unfold spread twelve eights
  split_ifs
  all_goals first | rfl | simp only [mul_zero, Finset.sum_const_zero]

variable (t : Fin cfg0.N)

theorem blk0 (i : Fin 1024) (k : Fin 2048) (r : Fin 16384) (hr : r.val = 1024 * (t.val / 17) + i.val) :
    iblk m c 0 t (ix2 i k) = m ((c : Thread nD τ).loc main_arg0) (ix3 (seqOf r) (posOf r) k) := by
  refine Eq.trans (congrArg (V m c main_v22) (eq_at _ r k ?_ ?_)) (v22_at m c r k)
  · show win0_0.index t 0 * 1024 + 1 * i.val = _; rw [(index_eq t).1]; show (t.val / 17) * 1024 + 1 * i.val = r.val; omega
  · show win0_0.index t 1 * 2048 + 1 * k.val = _; rw [(index_eq t).1]; show 0 * 2048 + 1 * k.val = k.val; omega

theorem blk1 (k : Fin 2048) : iblk m c 1 t (ix2 0 k) = m ((c : Thread nD τ).loc main_arg1) (ix1 k) := by
  refine Eq.trans (congrArg (V m c main_v23) (eq_at _ 0 k ?_ ?_)) (v23_at m c k)
  · show win0_1.index t 0 * 1 + 1 * 0 = _; rw [(index_eq t).2.1]; rfl
  · show win0_1.index t 1 * 2048 + 1 * k.val = _; rw [(index_eq t).2.1]; show 0 * 2048 + 1 * k.val = k.val; omega

theorem blk2 (j : Fin 1024) (k : Fin 2048) (s : Fin 17488) (hs : s.val = 1024 * (t.val % 17) + skip (t.val % 17) + j.val) :
    iblk m c 2 t (ix2 j k) = m ((c : Thread nD τ).loc main_arg2) (ix2 k s) := by
  refine Eq.trans (congrArg (V m c main_v1) (eq_at _ s k ?_ ?_)) (v1_at m c s k)
  · show win0_2.index t 0 + 1 * j.val = _; rw [(index_eq t).2.2.1]; show 1024 * (t.val % 17) + skip (t.val % 17) + 1 * j.val = s.val; omega
  · show win0_2.index t 1 + 1 * k.val = _; rw [(index_eq t).2.2.1]; show 0 + 1 * k.val = k.val; omega

theorem blk3 (j : Fin 768) (k : Fin 2048) :
    iblk m c 3 t (ix2 j k) = spread (fun s => m ((c : Thread nD τ).loc main_arg2) (ix2 k s)) j := by
  refine Eq.trans (congrArg (V m c main_v21) (eq_at _ j k ?_ ?_)) ((congrFun (v21_eq m c) _).trans ((packed_at _ j k).trans (congrArg (fun f => spread f j) (funext fun s => v1_at m c s k))))
  · show win0_3.index t 0 * 768 + 1 * j.val = _; rw [(index_eq t).2.2.2.1]; show 0 * 768 + 1 * j.val = j.val; omega
  · show win0_3.index t 1 * 2048 + 1 * k.val = _; rw [(index_eq t).2.2.2.1]; show 0 * 2048 + 1 * k.val = k.val; omega

/-- A row's columns. -/
def cols (r : Fin 16384) : Fin 17488 → EReal :=
  proj (m ((c : Thread nD τ).loc main_arg0)) (m ((c : Thread nD τ).loc main_arg1)) (m ((c : Thread nD τ).loc main_arg2)) r

theorem cols_at (r : Fin 16384) (s : Fin 17488) :
    cols m c r s = ∑ k : Fin 2048, normed (fun q => m ((c : Thread nD τ).loc main_arg0) (ix3 (seqOf r) (posOf r) q)) (fun q => m ((c : Thread nD τ).loc main_arg1) (ix1 q)) k
      * (m ((c : Thread nD τ).loc main_arg2) (ix2 k s) : EReal) := rfl

/-- The normed rows of a point's block. -/
theorem normed_at (i : Fin 1024) (k : Fin 2048) (r : Fin 16384) (hr : r.val = 1024 * (t.val / 17) + i.val) :
    normed (fun q => iblk m c 0 t (ix2 i q)) (fun q => iblk m c 1 t (ix2 0 q)) k
      = normed (fun q => m ((c : Thread nD τ).loc main_arg0) (ix3 (seqOf r) (posOf r) q)) (fun q => m ((c : Thread nD τ).loc main_arg1) (ix1 q)) k :=
  congrArg₂ (fun x g => normed x g k) (funext fun q => blk0 m c t i q r hr) (funext fun q => blk1 m c t q)

theorem left4 (i j : Fin 1024) (r : Fin 16384) (hr : r.val = 1024 * (t.val / 17) + i.val) (q : Fin 17408) (hq : q.val = 1024 * (t.val % 17) + j.val) :
    wide (rowsAt m c t) (iblk m c 2 t) (ix2 i j) = beside (cols m c r) q := by
  have hle := skip_le (t.val % 17)
  have hb : q.val / 1024 = t.val % 17 := by omega
  rw [beside_eq _ q ⟨q.val + skip (t.val % 17), by omega⟩ (by rw [hb])]
  rw [cols_at]
  refine (wide_at _ _ i j).trans (Finset.sum_congr rfl fun k _ => ?_)
  exact congrArg₂ (· * ·) ((kept_at _ _ i k).trans (normed_at m c t i k r hr)) (blk2 m c t j k _ (by dsimp only; omega))

theorem left5 (i : Fin 1024) (j : Fin 768) (r : Fin 16384) (hr : r.val = 1024 * (t.val / 17) + i.val) :
    small (rows (iblk m c 0 t) (iblk m c 1 t)) (iblk m c 3 t) (ix2 i j) = spread (cols m c r) j := by
  refine (small_at _ _ i j).trans (Eq.trans (Finset.sum_congr rfl fun k _ => ?_) ((spread_sum
    (normed (fun q => m ((c : Thread nD τ).loc main_arg0) (ix3 (seqOf r) (posOf r) q)) (fun q => m ((c : Thread nD τ).loc main_arg1) (ix1 q)))
    (fun k s => m ((c : Thread nD τ).loc main_arg2) (ix2 k s)) j).trans (congrArg (fun f => spread f j) (funext fun s => (cols_at m c r s).symm))))
  exact congrArg₂ (· * ·) ((rows_at _ _ i k).trans (normed_at m c t i k r hr)) (blk3 m c t j k)

/-- The wide array the kernel fills. -/
def filled4 : S16384x17408.Idx → EReal := fun i => beside (cols m c (i 0)) (i 1)

/-- The small array the kernel fills. -/
def filled5 : S16384x768.Idx → EReal := fun i => spread (cols m c (i 0)) (i 1)

theorem filled4_eq : (dats m 0 c).arrAt 4 cfg0.N = filled4 m c := by
  refine (dats m 0 c).arrAt_eq_of_covers 4 _ (by decide +kernel) fun t hf y => ?_
  have e0 : (((cfg0.win 4).blk t).view.emb y 0).val = 1024 * (t.val / 17) + (y 0).val := by
    show win0_4.index t 0 * 1024 + 1 * (y 0).val = _; rw [(index_eq t).2.2.2.2.1]; show (t.val / 17) * 1024 + 1 * (y 0).val = _; omega
  have e1 : (((cfg0.win 4).blk t).view.emb y 1).val = 1024 * (t.val % 17) + (y 1).val := by
    show win0_4.index t 1 * 1024 + 1 * (y 1).val = _; rw [(index_eq t).2.2.2.2.1]; show (t.val % 17) * 1024 + 1 * (y 1).val = _; omega
  blk_simp
  rw [after4]
  exact (congrArg _ (eq_ix2 (n0 := 1024) (n1 := 1024) y)).trans (left4 m c t (y 0) (y 1) _ e0 _ e1)

theorem filled5_eq : (dats m 0 c).arrAt 5 cfg0.N = filled5 m c := by
  refine (dats m 0 c).arrAt_eq_of_covers 5 _ (by decide +kernel) fun t hf y => ?_
  have e0 : (((cfg0.win 5).blk t).view.emb y 0).val = 1024 * (t.val / 17) + (y 0).val := by
    show win0_5.index t 0 * 1024 + 1 * (y 0).val = _; rw [(index_eq t).2.2.2.2.2]; show (t.val / 17) * 1024 + 1 * (y 0).val = _; omega
  have e1 : ((cfg0.win 5).blk t).view.emb y 1 = y 1 := by
    refine Fin.ext ?_
    show win0_5.index t 1 * 768 + 1 * (y 1).val = _; rw [(index_eq t).2.2.2.2.2]; show 0 * 768 + 1 * (y 1).val = _; omega
  blk_simp
  rw [after5]
  refine (congrArg _ (eq_ix2 (n0 := 1024) (n1 := 768) y)).trans ((left5 m c t (y 0) (y 1) _ e0).trans ?_)
  exact congrArg (spread _) e1.symm

/-- The kernel's results are the reference's. -/
theorem algebraic : Cert.algebraic_Kernel6Ideal_Reference6Ideal (hKernel6Ideal := Cert.Kernel6Ideal.Gen.facts)
    (hReference6Ideal := Cert.Reference6Ideal.Gen.facts) := by
  intro m g m' g' _ hargs
  refine ⟨fun c => filled4 m c, fun c => filled5 m c,
    (θ_run Cert.Kernel6Ideal.defs _ _).mono (fun r h c => ?_) (θ_run_and (run_main (F := Ideal) m g) (frame6 (F := Ideal) m g)),
    (θ_run Cert.Reference6Ideal.defs _ _).mono (fun r h c => ?_) (Cert.Reference6Ideal.Value.run (F := Ideal) m' g')⟩
  · exact ⟨((h.1 c).1 4).trans (filled4_eq m c), ((h.1 c).1 5).trans (filled5_eq m c), h.2.1 c⟩
  obtain ⟨e0, e1, e2⟩ := hargs c
  refine ⟨(h c).1.trans (funext fun i => ?_), (h c).2.1.trans (funext fun i => ?_), (h c).2.2⟩
  · refine (congrArg _ (eq_ix2 (n0 := 16384) (n1 := 17408) i)).trans ((ref42 m' c (i 0) (i 1)).trans ?_)
    rw [e0, e1, e2]
    rfl
  · refine (congrArg _ (eq_ix2 (n0 := 16384) (n1 := 768) i)).trans ((ref43 m' c (i 0) (i 1)).trans ?_)
    rw [e0, e1, e2]
    rfl

/-- The program and its reading over the numbers are one text. -/
theorem bodies : Cert.Kernel6.defs₀ (F := Bits) = Cert.Kernel6Ideal.defs₀ (F := Bits) := by
  unfold Cert.Kernel6.defs₀ Cert.Kernel6Ideal.defs₀
  refine congrArg Defs.onTc ?_
  funext l a
  match l, a with
  | 0, (t, s) => rfl

theorem calls : Cert.Kernel6.defs (F := Bits) = Cert.Kernel6Ideal.defs (F := Bits) := by
  unfold Cert.Kernel6.defs Cert.Kernel6Ideal.defs
  rw [bodies]
  rfl

/-- The kernel as printed runs and keeps its arguments. -/
theorem frame : Cert.quiescent_Kernel6 := fun m ρ _ => by
  rw [calls]
  exact frame6 (F := Bits) m ρ

end Cert.Dense.Proj

end
-- ==== Proof.Tile.lean ====
module

public import proofs.«01_k».proof.Proof.Gen.KernelIdeal.Frame

/-! The kernel's work on one tile of 256 tokens, head by head: the same functions for every head, cut out at the head's lanes. -/

@[expose] public section

noncomputable section

namespace Cert.Gdn

open Cert.KernelIdeal Cert.KernelIdeal.Gen Idealize.ShloMosaic

variable {F : FTy → Type} [FloatOps F]

/-! ## The short convolution -/

abbrev zero : F .f32 := Scalar.ofBits .f32 0x00000000#32
abbrev one : F .f32 := Scalar.ofBits .f32 0x3F800000#32
abbrev eps : F .f32 := Scalar.ofBits .f32 0x358637BD#32

def row8 : IVec S8x1024 32 := iota .tc S8x1024 32 [0] iota_S8x1024_d0_w32

/-- The rows moved down by one of the shift matrices. -/
def shiftMul (sh : Vec F S1x256x256 .bf16) (x : FVec F S256x1024 .bf16) : FVec F S256x1024 .f32 :=
  matmul dot_S256x256_S256x1024_S256x1024_1_0_0_1_n_n none (shapeCast S256x256 sh shapeCasts_S1x256x256_S256x256) x
    (constant S256x1024 .f32 0x00000000#32)

def lane (w : Vec F S1x1x1024 .f32) : FVec F S1x1024 .f32 := shapeCast S1x1024 w shapeCasts_S1x1x1024_S1x1024

/-- One tap over the whole tile. -/
def tap (w : Vec F S1x1x1024 .f32) (y : FVec F S256x1024 .f32) : FVec F S256x1024 .f32 :=
  mulf (broadcastTo S256x1024 (lane w) broadcasts_S1x1024_S256x1024) y

/-- One tap's share of the rows before the tile, in its first eight rows. -/
def halo (d : BitVec 32) (w : Vec F S1x1x1024 .f32) (prev : FVec F S8x1024 .f32) : FVec F S8x1024 .f32 :=
  mulf (broadcastTo S8x1024 (lane w) broadcasts_S1x1024_S8x1024)
    (select (cmpi .slt row8 (broadcast S8x1024 d)) (dynamicRotate 0 d none prev rotates_S8x1024_d0) (broadcast S8x1024 zero))

def convIn (xb : FVec F S256x1024 .bf16) (w3 w2 w1 w0 : Vec F S1x1x1024 .f32) (s0 s1 s2 : Vec F S1x256x256 .bf16) : FVec F S256x1024 .f32 :=
  addf (addf (addf (tap w3 (extf .f32 xb bitsLt_bf16_f32)) (tap w2 (shiftMul s0 xb))) (tap w1 (shiftMul s1 xb))) (tap w0 (shiftMul s2 xb))

def convHalo (prev : FVec F S8x1024 .f32) (w2 w1 w0 : Vec F S1x1x1024 .f32) : FVec F S8x1024 .f32 :=
  addf (addf (addf (broadcast S8x1024 zero) (halo 1#32 w2 prev)) (halo 2#32 w1 prev)) (halo 3#32 w0 prev)

def convSum (acc : FVec F S256x1024 .f32) (corr : FVec F S8x1024 .f32) : FVec F S256x1024 .f32 :=
  concatenate S256x1024 0
    [⟨S8x1024, addf (extractStridedSlice S8x1024 ![0, 0] acc slices_S256x1024_o0_0_S8x1024) corr⟩,
     ⟨S248x1024, extractStridedSlice S248x1024 ![8, 0] acc slices_S256x1024_o8_0_S248x1024⟩]
    concatenates_S8x1024_S248x1024_S256x1024_d0

def silu (x : FVec F S256x1024 .f32) : FVec F S256x1024 .f32 := mulf x (logistic x)

/-- One of the three parts (queries, keys, values) after the convolution and its gate. -/
def conv (x : Vec F S1x256x1024 .bf16) (prev : Vec F S1x8x1024 .f32) (w3 w2 w1 w0 : Vec F S1x1x1024 .f32) (s0 s1 s2 : Vec F S1x256x256 .bf16) :
    FVec F S256x1024 .f32 :=
  silu (convSum (convIn (shapeCast S256x1024 x shapeCasts_S1x256x1024_S256x1024) w3 w2 w1 w0 s0 s1 s2)
    (convHalo (shapeCast S8x1024 prev shapeCasts_S1x8x1024_S8x1024) w2 w1 w0))

/-- The tile's last eight rows, left for the next tile. -/
def lastRows (x : Vec F S1x256x1024 .bf16) : FVec F S1x8x1024 .f32 :=
  shapeCast S1x8x1024 (extractStridedSlice S8x1024 ![248, 0]
    (extf .f32 (shapeCast S256x1024 x shapeCasts_S1x256x1024_S256x1024) bitsLt_bf16_f32) slices_S256x1024_o248_0_S8x1024) shapeCasts_S8x1024_S1x8x1024

/-! ## The decays -/

def abT (ab : Vec F S1x256x128 .f32) : FVec F S256x128 .f32 := shapeCast S256x128 ab shapeCasts_S1x256x128_S256x128

def softplus (x : FVec F S256x128 .f32) : FVec F S256x128 .f32 :=
  addf (maximumf x (broadcast S256x128 zero)) (log (addf (broadcast S256x128 one) (exp (subf (broadcast S256x128 zero) (absf x)))))

/-- Each token's decay, as a logarithm. -/
def g0 (ab : Vec F S1x256x128 .f32) (alog dtb : Vec F S1x1x128 .f32) : FVec F S256x128 .f32 :=
  mulf (broadcastTo S256x128 (subf (broadcast S1x128 zero) (exp (shapeCast S1x128 alog shapeCasts_S1x1x128_S1x128))) broadcasts_S1x128_S256x128)
    (softplus (addf (abT ab) (broadcastTo S256x128 (shapeCast S1x128 dtb shapeCasts_S1x1x128_S1x128) broadcasts_S1x128_S256x128)))

def rowIn : IVec S256x128 32 := andi (iota .tc S256x128 32 [0] iota_S256x128_d0_w32) (broadcast S256x128 63#32)

/-- One doubling step of the running sum inside chunks of 64 rows. -/
def dblStep (d : BitVec 32) (g : FVec F S256x128 .f32) : FVec F S256x128 .f32 :=
  addf g (select (cmpi .sge rowIn (broadcast S256x128 d)) (dynamicRotate 0 d none g rotates_S256x128_d0) (broadcast S256x128 zero))

def gCum (g : FVec F S256x128 .f32) : FVec F S256x128 .f32 :=
  dblStep 32#32 (dblStep 16#32 (dblStep 8#32 (dblStep 4#32 (dblStep 2#32 (dblStep 1#32 g)))))

def bRow (x : FVec F S1x128 .f32) : FVec F S64x128 .f32 :=
  broadcastTo S64x128 (shapeCast S1x128 x shapeCasts_S1x128_S1x128) broadcasts_S1x128_S64x128

/-- Each chunk's last row in every one of its rows. -/
def gEnd (g : FVec F S256x128 .f32) : FVec F S256x128 .f32 :=
  concatenate S256x128 0
    [⟨S64x128, bRow (extractStridedSlice S1x128 ![63, 0] g slices_S256x128_o63_0_S1x128)⟩,
     ⟨S64x128, bRow (extractStridedSlice S1x128 ![127, 0] g slices_S256x128_o127_0_S1x128)⟩,
     ⟨S64x128, bRow (extractStridedSlice S1x128 ![191, 0] g slices_S256x128_o191_0_S1x128)⟩,
     ⟨S64x128, bRow (extractStridedSlice S1x128 ![255, 0] g slices_S256x128_o255_0_S1x128)⟩]
    concatenates_S64x128_S64x128_S64x128_S64x128_S256x128_d0

/-! ## The masks -/

/-- A row's or a column's chunk number. -/
def chunkOf (i : IVec S256x256 32) (s : BitVec 32) : IVec S256x256 32 :=
  select
    (andi (cmpi .ne (subi (extui 32 (cmpi .sgt i (broadcast S256x256 0#32)) natLt_1_32) (extui 32 (cmpi .slt i (broadcast S256x256 0#32)) natLt_1_32)) (broadcast S256x256 s))
      (cmpi .ne (remsi i (broadcast S256x256 64#32)) (broadcast S256x256 0#32)))
    (subi (divsi i (broadcast S256x256 64#32)) (broadcast S256x256 1#32))
    (divsi i (broadcast S256x256 64#32))

def rowI : IVec S256x256 32 := iota .tc S256x256 32 [0] iota_S256x256_d0_w32
def colI : IVec S256x256 32 := iota .tc S256x256 32 [1] iota_S256x256_d1_w32

/-- The sign of 64, as the program computes it. -/
def sgn : BitVec 32 := Scalar.subi (Scalar.extui (Scalar.cmpi .sgt 64#32 0#32)) (Scalar.extui (Scalar.cmpi .slt 64#32 0#32))

def same : IVec S256x256 1 := cmpi .eq (chunkOf rowI sgn) (chunkOf colI sgn)
def tril : IVec S256x256 1 := andi same (cmpi .sge rowI colI)
def strict : IVec S256x256 1 := andi same (cmpi .sgt rowI colI)

def ident : FVec F S128x128 .f32 :=
  select (cmpi .eq (iota .tc S128x128 32 [0] iota_S128x128_d0_w32) (iota .tc S128x128 32 [1] iota_S128x128_d1_w32))
    (broadcast S128x128 one) (broadcast S128x128 zero)

/-! ## One head -/

def head (x : FVec F S256x1024 .f32) (o : ℕ) (h : S256x1024.Slices ![0, o] S256x128) : FVec F S256x128 .f32 :=
  extractStridedSlice S256x128 ![0, o] x h
def colAt (x : FVec F S256x128 .f32) (o : ℕ) (h : S256x128.Slices ![0, o] S256x1) : FVec F S256x1 .f32 :=
  extractStridedSlice S256x1 ![0, o] x h
def wide (x : FVec F S256x1 .f32) : FVec F S256x128 .f32 := broadcastTo S256x128 x broadcasts_S256x1_S256x128

def sumSq (x : FVec F S256x128 .f32) : FVec F S256x1 .f32 :=
  shapeCast S256x1 (multiReduction .add [1] S256 (mulf x x) 0x00000000#32 reduces_S256x128_S256 (.inl rfl) rfl) shapeCasts_S256_S256x1
/-- A row over its length. -/
def unitRow (x : FVec F S256x128 .f32) : FVec F S256x128 .f32 :=
  mulf x (wide (rsqrt (addf (sumSq x) (broadcast S256x1 eps))))
def qRow (x : FVec F S256x128 .f32) : FVec F S256x128 .f32 :=
  mulf (unitRow x) (broadcast S256x128 (Scalar.ofBits .f32 0x3DB504F3#32))

/-- The decay between two tokens of the tile, read off the running sums. -/
def decay (gc : FVec F S256x1 .f32) (gr : FVec F S1x256 .f32) : FVec F S256x256 .f32 :=
  exp (minimumf (subf (broadcastTo S256x256 gc broadcasts_S256x1_S256x256) (broadcastTo S256x256 gr broadcasts_S1x256_S256x256))
    (broadcast S256x256 zero))

def pairs (m : IVec S256x256 1) (a b : FVec F S256x128 .f32) (e : FVec F S256x256 .f32) : FVec F S256x256 .f32 :=
  mulf (matmul dot_S256x128_S256x128_S256x256_1_1_0_0_n_n none (truncf .bf16 a bitsLt_bf16_f32) (truncf .bf16 b bitsLt_bf16_f32)
      (constant S256x256 .f32 0x00000000#32))
    (select m e (broadcast S256x256 zero))

def low (x : FVec F S256x128 .f32) : FVec F S256x128 .bf16 := truncf .bf16 x bitsLt_bf16_f32

def block (a : FVec F S256x256 .f32) (o : ℕ) (h : S256x256.Slices ![o, o] S128x128) : FVec F S128x128 .f32 :=
  subf (broadcast S128x128 zero) (extractStridedSlice S128x128 ![o, o] a h)

def mm (a b : FVec F S128x128 .f32) : FVec F S128x128 .f32 :=
  matmul dot_S128x128_S128x128_S128x128_1_0_0_1_n_n none (truncf .bf16 a bitsLt_bf16_f32) (truncf .bf16 b bitsLt_bf16_f32)
    (constant S128x128 .f32 0x00000000#32)

def pwV (p : FVec F S128x128 .f32) : ℕ → FVec F S128x128 .f32
  | 0 => p
  | n + 1 => mm (pwV p n) (pwV p n)
def ttV (p : FVec F S128x128 .f32) : ℕ → FVec F S128x128 .f32
  | 0 => addf ident p
  | n + 1 => addf (ttV p n) (mm (ttV p n) (pwV p (n + 1)))

def solveBlk (t : FVec F S128x128 .f32) (x : FVec F S256x128 .bf16) (o : ℕ) (h : S256x128.Slices ![o, 0] S128x128) : FVec F S128x128 .f32 :=
  matmul dot_S128x128_S128x128_S128x128_1_0_0_1_n_n none (truncf .bf16 t bitsLt_bf16_f32) (extractStridedSlice S128x128 ![o, 0] x h)
    (constant S128x128 .f32 0x00000000#32)

/-- The triangular systems of the tile's two halves solved for `x`. -/
def solve (a : FVec F S256x256 .f32) (x : FVec F S256x128 .bf16) : FVec F S256x128 .bf16 :=
  truncf .bf16 (concatenate S256x128 0
    [⟨S128x128, solveBlk (ttV (block a 0 slices_S256x256_o0_0_S128x128) 5) x 0 slices_S256x128_o0_0_S128x128⟩,
     ⟨S128x128, solveBlk (ttV (block a 128 slices_S256x256_o128_128_S128x128) 5) x 128 slices_S256x128_o128_0_S128x128⟩]
    concatenates_S128x128_S128x128_S256x128_d0) bitsLt_bf16_f32

def mix (qk : FVec F S256x256 .bf16) (x : FVec F S256x128 .bf16) : FVec F S256x128 .f32 :=
  matmul dot_S256x256_S256x128_S256x128_1_0_0_1_n_n none qk x (constant S256x128 .f32 0x00000000#32)

/-- A chunk's decayed keys against its `w` and `u`. -/
def chunkMul (kd w u : FVec F S256x128 .bf16) (o : ℕ) (h : S256x128.Slices ![o, 0] S64x128) : FVec F S128x256 .f32 :=
  matmul dot_S64x128_S64x256_S128x256_0_0_1_1_n_n none (extractStridedSlice S64x128 ![o, 0] kd h)
    (concatenate S64x256 1 [⟨S64x128, extractStridedSlice S64x128 ![o, 0] w h⟩, ⟨S64x128, extractStridedSlice S64x128 ![o, 0] u h⟩]
      concatenates_S64x128_S64x128_S64x256_d1)
    (constant S128x256 .f32 0x00000000#32)

/-- A chunk's queries and its transition against the state before it. -/
def chunkRead (qp : FVec F S256x128 .bf16) (mw : FVec F S128x256 .f32) (st : FVec F S128x128 .f32) (o : ℕ) (h : S256x128.Slices ![o, 0] S64x128) :
    FVec F S192x128 .f32 :=
  matmul dot_S192x128_S128x128_S192x128_1_0_0_1_n_n none
    (concatenate S192x128 0 [⟨S64x128, extractStridedSlice S64x128 ![o, 0] qp h⟩,
      ⟨S128x128, truncf .bf16 (extractStridedSlice S128x128 ![0, 0] mw slices_S128x256_o0_0_S128x128) bitsLt_bf16_f32⟩]
      concatenates_S64x128_S128x128_S192x128_d0)
    (truncf .bf16 st bitsLt_bf16_f32) (constant S192x128 .f32 0x00000000#32)

def chunkOut (r : FVec F S192x128 .f32) (qku : FVec F S256x128 .f32) (o : ℕ) (h : S256x128.Slices ![o, 0] S64x128) : FVec F S64x128 .f32 :=
  addf (extractStridedSlice S64x128 ![0, 0] r slices_S192x128_o0_0_S64x128) (extractStridedSlice S64x128 ![o, 0] qku h)

def chunkState (st : FVec F S128x128 .f32) (ee : FVec F S256x128 .f32) (r : FVec F S192x128 .f32) (mw : FVec F S128x256 .f32)
    (o hh : ℕ) (h : S256x128.Slices ![o, hh] S1x1) : FVec F S128x128 .f32 :=
  addf (subf (mulf st (broadcastTo S128x128 (extractStridedSlice S1x1 ![o, hh] ee h) broadcasts_S1x1_S128x128))
      (extractStridedSlice S128x128 ![64, 0] r slices_S192x128_o64_0_S128x128))
    (extractStridedSlice S128x128 ![0, 128] mw slices_S128x256_o0_128_S128x128)

/-- What the tile's heads share: the three parts and the tables of decays. -/
structure Shared (F : FTy → Type) where
  q : FVec F S256x1024 .f32
  k : FVec F S256x1024 .f32
  v : FVec F S256x1024 .f32
  beta : FVec F S256x128 .f32
  g : FVec F S256x128 .f32

/-- Where a head lies: its lanes, its column among the decays and among the rates, with the slices in bounds. -/
structure At where
  o : ℕ
  hh : ℕ
  b : ℕ
  ho : S256x1024.Slices ![0, o] S256x128
  hc : S256x128.Slices ![0, hh] S256x1
  hb : S256x128.Slices ![0, b] S256x1
  hr : S128x256.Slices ![hh, 0] S1x256
  h0 : S256x128.Slices ![0, hh] S1x1
  h1 : S256x128.Slices ![64, hh] S1x1
  h2 : S256x128.Slices ![128, hh] S1x1
  h3 : S256x128.Slices ![192, hh] S1x1

section Head
variable (T : Shared F) (p : At)

def qH : FVec F S256x128 .f32 := qRow (head T.q p.o p.ho)
def kH : FVec F S256x128 .f32 := unitRow (head T.k p.o p.ho)
def btH : FVec F S256x128 .f32 := wide (colAt T.beta p.b p.hb)
def kbH : FVec F S256x128 .f32 := mulf (kH T p) (btH T p)
def eH : FVec F S256x256 .f32 :=
  decay (colAt T.g p.hh p.hc) (extractStridedSlice S1x256 ![p.hh, 0] (transpose S128x256 [1, 0] T.g transposes_S256x128_p1_0_S128x256) p.hr)
def aH : FVec F S256x256 .f32 := pairs strict (kbH T p) (kH T p) (eH T p)
def qkH : FVec F S256x256 .bf16 := truncf .bf16 (pairs tril (qH T p) (kH T p) (eH T p)) bitsLt_bf16_f32
def vbH : FVec F S256x128 .bf16 := low (mulf (head T.v p.o p.ho) (btH T p))
def ecH : FVec F S256x128 .f32 := wide (colAt (exp T.g) p.hh p.hc)
def kbgH : FVec F S256x128 .bf16 := low (mulf (kbH T p) (ecH T p))
def qgH : FVec F S256x128 .f32 := mulf (qH T p) (ecH T p)
def kdH : FVec F S256x128 .bf16 := low (mulf (kH T p) (wide (colAt (exp (subf (gEnd T.g) T.g)) p.hh p.hc)))
def uH : FVec F S256x128 .bf16 := solve (aH T p) (vbH T p)
def wH : FVec F S256x128 .bf16 := solve (aH T p) (kbgH T p)
def qpH : FVec F S256x128 .bf16 := low (subf (qgH T p) (mix (qkH T p) (wH T p)))
def qkuH : FVec F S256x128 .f32 := mix (qkH T p) (uH T p)
def mwH (o : ℕ) (h : S256x128.Slices ![o, 0] S64x128) : FVec F S128x256 .f32 := chunkMul (kdH T p) (wH T p) (uH T p) o h
def rH (st : FVec F S128x128 .f32) (o : ℕ) (h : S256x128.Slices ![o, 0] S64x128) : FVec F S192x128 .f32 :=
  chunkRead (qpH T p) (mwH T p o h) st o h
def oH (st : FVec F S128x128 .f32) (o : ℕ) (h : S256x128.Slices ![o, 0] S64x128) : FVec F S64x128 .f32 :=
  chunkOut (rH T p st o h) (qkuH T p) o h
def stH (st : FVec F S128x128 .f32) (o : ℕ) (h : S256x128.Slices ![o, 0] S64x128) (h1 : S256x128.Slices ![o, p.hh] S1x1) : FVec F S128x128 .f32 :=
  chunkState st (exp (gEnd T.g)) (rH T p st o h) (mwH T p o h) o p.hh h1

variable (st : FVec F S128x128 .f32)

def st1 : FVec F S128x128 .f32 := stH T p st 0 slices_S256x128_o0_0_S64x128 p.h0
def st2 : FVec F S128x128 .f32 := stH T p (st1 T p st) 64 slices_S256x128_o64_0_S64x128 p.h1
def st3 : FVec F S128x128 .f32 := stH T p (st2 T p st) 128 slices_S256x128_o128_0_S64x128 p.h2
def st4 : FVec F S128x128 .f32 := stH T p (st3 T p st) 192 slices_S256x128_o192_0_S64x128 p.h3

/-- The head's rows before the norm: its four chunks one below the other. -/
def rowsH : FVec F S256x128 .f32 :=
  concatenate S256x128 0
    [⟨S64x128, oH T p st 0 slices_S256x128_o0_0_S64x128⟩,
     ⟨S64x128, oH T p (st1 T p st) 64 slices_S256x128_o64_0_S64x128⟩,
     ⟨S64x128, oH T p (st2 T p st) 128 slices_S256x128_o128_0_S64x128⟩,
     ⟨S64x128, oH T p (st3 T p st) 192 slices_S256x128_o192_0_S64x128⟩]
    concatenates_S64x128_S64x128_S64x128_S64x128_S256x128_d0

end Head

/-- The norm with its gain, and the output gate. -/
def finish (o : FVec F S256x128 .f32) (og : Vec F S1x128 .f32) (z : Vec F S1x256x128 .bf16) : FVec F S1x256x128 .bf16 :=
  shapeCast S1x256x128 (low
    (mulf
      (mulf (mulf o (wide (rsqrt (addf (divf (sumSq o) (broadcast S256x1 (Scalar.ofBits .f32 0x43000000#32))) (broadcast S256x1 eps)))))
        (broadcastTo S256x128 (shapeCast S1x128 og shapeCasts_S1x128_S1x128) broadcasts_S1x128_S256x128))
      (mulf (extf .f32 (shapeCast S256x128 z shapeCasts_S1x256x128_S256x128) bitsLt_bf16_f32)
        (logistic (extf .f32 (shapeCast S256x128 z shapeCasts_S1x256x128_S256x128) bitsLt_bf16_f32)))))
    shapeCasts_S256x128_S1x256x128

/-- Where head `hh` lies. -/
def at_ (hh : Fin 8) : At where
  o := 128 * hh.val
  hh := hh.val
  b := 8 + hh.val
  ho := by revert hh; decide
  hc := by revert hh; decide
  hb := by revert hh; decide
  hr := by revert hh; decide
  h0 := by revert hh; decide
  h1 := by revert hh; decide
  h2 := by revert hh; decide
  h3 := by revert hh; decide

def unstack (s : Vec F S1x128x128 .f32) : FVec F S128x128 .f32 := shapeCast S128x128 s shapeCasts_S1x128x128_S128x128
def restack (s : FVec F S128x128 .f32) : FVec F S1x128x128 .f32 := shapeCast S1x128x128 s shapeCasts_S128x128_S1x128x128

/-- The tile's shared parts from the blocks it reads: the projections' three parts, the taps, the shift matrices, the rows before
    the tile, and the decay's columns and parameters. -/
def shared (x : Fin 3 → Vec F S1x256x1024 .bf16) (p : Fin 3 → Vec F S1x8x1024 .f32) (w : Fin 3 → Fin 4 → Vec F S1x1x1024 .f32)
    (s : Fin 3 → Vec F S1x256x256 .bf16) (ab : Vec F S1x256x128 .f32) (alog dtb : Vec F S1x1x128 .f32) : Shared F where
  q := conv (x 0) (p 0) (w 0 3) (w 0 2) (w 0 1) (w 0 0) (s 0) (s 1) (s 2)
  k := conv (x 1) (p 1) (w 1 3) (w 1 2) (w 1 1) (w 1 0) (s 0) (s 1) (s 2)
  v := conv (x 2) (p 2) (w 2 3) (w 2 2) (w 2 1) (w 2 0) (s 0) (s 1) (s 2)
  beta := logistic (abT ab)
  g := gCum (g0 ab alog dtb)

/-- One of eight, last first. -/
def eight {α : Type*} (f : Fin 8 → α) : List α := [f 7, f 6, f 5, f 4, f 3, f 2, f 1, f 0]

def outPieces (T : Shared F) (st : Fin 8 → Vec F S1x128x128 .f32) (og : Vec F S1x128 .f32) (z : Fin 8 → Vec F S1x256x128 .bf16) :
    List (View.Piece (Elt F) S1x256x1024 .bf16) :=
  eight fun hh => ⟨Rect.unit ![0, 0, 128 * hh.val] S1x256x128.size (by revert hh; decide), finish (rowsH T (at_ hh) (unstack (st hh))) og (z hh)⟩

def statePieces (T : Shared F) (st : Fin 8 → Vec F S1x128x128 .f32) : List (View.Piece (Elt F) S8x128x128 .f32) :=
  eight fun hh => ⟨Rect.unit ![hh.val, 0, 0] S1x128x128.size (by revert hh; decide), restack (st4 T (at_ hh) (unstack (st hh)))⟩

def rowPieces (x : Fin 3 → Vec F S1x256x1024 .bf16) : List (View.Piece (Elt F) S3x8x1024 .f32) :=
  [⟨Rect.unit ![2, 0, 0] S1x8x1024.size (by decide), lastRows (x 2)⟩,
   ⟨Rect.unit ![1, 0, 0] S1x8x1024.size (by decide), lastRows (x 1)⟩,
   ⟨Rect.unit ![0, 0, 0] S1x8x1024.size (by decide), lastRows (x 0)⟩]

end Cert.Gdn

end
-- ==== Proof.Calc.lean ====
module

public import proofs.«01_k».proof.Proof.Tile
public import Idealize.ShloMosaic.Lib.ValueIdx
public import Idealize.ShloMosaic.Lib.ValueLayout
public import Idealize.ShloMosaic.Lib.MatmulPlain
public import Idealize.ShloMosaic.Lib.Pipeline.Value
public import Idealize.ShloMosaic.Lib.KernelVsHost
public import Idealize.ShloMosaic.Lib.IdealHost
public import Idealize.ShloMosaic.Lib.Pointwise.Contract

/-! Matrices of real numbers: a vector of the program `IsM` a real function of its row and column, and how the program's operations
    act on such functions. The functions take plain numbers, so a slice or a joining of matrices is arithmetic on the arguments. -/

@[expose] public section

noncomputable section

namespace Cert.Gdn

open Cert.KernelIdeal Idealize.ShloMosaic.ValueIdx Finset
open Idealize.ShloMosaic hiding ix0 ix1 ix2 ix3 ix4 ix5 eq_ix1 eq_ix2 eq_ix3 eq_ix4

variable {M N K : ℕ}

/-- The matrix `V` holds the real numbers `f`. -/
def IsM (V : (⟨2, ![M, N]⟩ : Shape).Idx → EReal) (f : ℕ → ℕ → ℝ) : Prop := ∀ (i : Fin M) (j : Fin N), V (ix2 i j) = ((f i j : ℝ) : EReal)

variable {V W : (⟨2, ![M, N]⟩ : Shape).Idx → EReal} {f g : ℕ → ℕ → ℝ}

theorem IsM.congr (h : IsM V f) (e : ∀ i < M, ∀ j < N, f i j = g i j) : IsM V g := fun i j => by
  rw [h i j, e i i.isLt j j.isLt]

theorem IsM.eq (h : IsM V f) (h' : IsM W f) : V = W := by
  funext i
  rw [eq_ix2 i]
  exact (h _ _).trans (h' _ _).symm

section Pointwise
variable {φ : FTy} {A B : FVec Ideal ⟨2, ![M, N]⟩ φ}

theorem IsM.add (h : IsM A f) (h' : IsM B g) : IsM (addf A B) fun i j => f i j + g i j := fun i j => by
  rw [addf_apply, h i j, h' i j, EReal.coe_add]
theorem IsM.sub (h : IsM A f) (h' : IsM B g) : IsM (subf A B) fun i j => f i j - g i j := fun i j => by
  rw [subf_apply, h i j, h' i j, EReal.coe_sub]
theorem IsM.mul (h : IsM A f) (h' : IsM B g) : IsM (mulf A B) fun i j => f i j * g i j := fun i j => by
  rw [mulf_apply, h i j, h' i j, EReal.coe_mul]
theorem IsM.div (h : IsM A f) (h' : IsM B g) (h0 : ∀ i j, g i j ≠ 0) : IsM (divf A B) fun i j => f i j / g i j := fun i j => by
  rw [divf_apply, h i j, h' i j, Ideal.div_coe (h0 _ _), ← EReal.coe_mul, mul_one_div]
theorem IsM.max (h : IsM A f) (h' : IsM B g) : IsM (maximumf A B) fun i j => max (f i j) (g i j) := fun i j => by
  rw [maximumf_apply, h i j, h' i j]; exact (EReal.coe_strictMono.monotone.map_max).symm
theorem IsM.min (h : IsM A f) (h' : IsM B g) : IsM (minimumf A B) fun i j => min (f i j) (g i j) := fun i j => by
  rw [minimumf_apply, h i j, h' i j]; exact (EReal.coe_strictMono.monotone.map_min).symm
theorem IsM.exp (h : IsM A f) : IsM (exp A) fun i j => Real.exp (f i j) := fun i j => by
  show Ideal.exp (A (ix2 i j)) = _
  rw [h i j, Ideal.exp_coe]
theorem IsM.logistic (h : IsM A f) : IsM (logistic A) fun i j => (1 + Real.exp (-f i j))⁻¹ := fun i j => by
  show Ideal.logistic (A (ix2 i j)) = _
  rw [h i j, Ideal.logistic_coe]
theorem IsM.log (h : IsM A f) (h0 : ∀ i j, 0 < f i j) : IsM (log A) fun i j => Real.log (f i j) := fun i j => by
  show Ideal.log (A (ix2 i j)) = _
  rw [h i j, Ideal.log_coe, if_neg (not_le.mpr (h0 _ _))]
theorem IsM.rsqrt (h : IsM A f) (h0 : ∀ i j, 0 < f i j) : IsM (rsqrt A) fun i j => (Real.sqrt (f i j))⁻¹ := fun i j => by
  show Ideal.rsqrt (A (ix2 i j)) = _
  rw [h i j, Ideal.rsqrt_coe, if_neg (not_lt.mpr (h0 _ _).le), if_neg (h0 _ _).ne']
theorem IsM.abs (h : IsM A f) : IsM (absf A) fun i j => |f i j| := fun i j => by
  show Max.max (A (ix2 i j)) (-(A (ix2 i j))) = _
  rw [h i j, ← EReal.coe_neg]; exact (EReal.coe_strictMono.monotone.map_max (a := f i j) (b := -f i j)).symm
theorem IsM.ext {ψ : FTy} (h : IsM A f) (hb : φ.bits < ψ.bits) : IsM (extf ψ A hb : FVec Ideal _ ψ) f := h
theorem IsM.trunc {ψ : FTy} (h : IsM A f) (hb : ψ.bits < φ.bits) : IsM (truncf ψ A hb : FVec Ideal _ ψ) f := h

end Pointwise

theorem IsM.splat {x : EReal} {r : ℝ} (h : x = (r : EReal)) : IsM (broadcast (⟨2, ![M, N]⟩ : Shape) x) fun _ _ => r := fun _ _ => h

theorem zero_eq : (zero : Ideal .f32) = ((0 : ℝ) : EReal) := Ideal.ofBits_zero_f32
theorem one_eq : (one : Ideal .f32) = ((1 : ℝ) : EReal) := Ideal.ofBits_one_f32

/-! ## Masks -/

/-- The mask `m` is on where `p` holds. -/
def IsMask (m : IVec ⟨2, ![M, N]⟩ 1) (p : ℕ → ℕ → Prop) : Prop := ∀ (i : Fin M) (j : Fin N), m (ix2 i j) = 1#1 ↔ p i j

theorem IsM.select {m : IVec ⟨2, ![M, N]⟩ 1} {p : ℕ → ℕ → Prop} [∀ i j, Decidable (p i j)] (hm : IsMask m p) (h : IsM V f) (h' : IsM W g) :
    IsM (select m V W) fun i j => if p i j then f i j else g i j := fun i j => by
  show (if m (ix2 i j) = 1#1 then V (ix2 i j) else W (ix2 i j)) = _
  by_cases hp : p i j
  · rw [if_pos ((hm i j).mpr hp)]; simp only [if_pos hp]; exact h i j
  · rw [if_neg (fun e => hp ((hm i j).mp e))]; simp only [if_neg hp]; exact h' i j

/-! ## Layout -/

theorem IsM.slice {o₀ o₁ M' N' : ℕ} (h : IsM V f) (hs : (⟨2, ![M, N]⟩ : Shape).Slices ![o₀, o₁] ⟨2, ![M', N']⟩) :
    IsM (extractStridedSlice ⟨2, ![M', N']⟩ ![o₀, o₁] V hs) fun i j => f (o₀ + i) (o₁ + j) := fun i j => by
  have h0 : o₀ + i.val < M := by have := hs.2 0; have hi := i.isLt; simp at this; omega
  have h1 : o₁ + j.val < N := by have := hs.2 1; have hj := j.isLt; simp at this; omega
  rw [extractStridedSlice_apply _ V hs (ix2 i j) (ix2 ⟨o₀ + i, h0⟩ ⟨o₁ + j, h1⟩) fun a => match a with | ⟨0, _⟩ => rfl | ⟨1, _⟩ => rfl]
  exact h _ _

theorem IsM.rowTo {V : (⟨2, ![1, N]⟩ : Shape).Idx → EReal} (h : IsM V f) (hb : (⟨2, ![1, N]⟩ : Shape).Broadcasts ⟨2, ![M, N]⟩) :
    IsM (broadcastTo ⟨2, ![M, N]⟩ V hb) fun _ j => f 0 j := fun i j => by
  rw [broadcastTo_1b_ab_apply]; exact h 0 j

theorem IsM.colTo {V : (⟨2, ![M, 1]⟩ : Shape).Idx → EReal} (hM : M ≠ 1) (h : IsM V f) (hb : (⟨2, ![M, 1]⟩ : Shape).Broadcasts ⟨2, ![M, N]⟩) :
    IsM (broadcastTo ⟨2, ![M, N]⟩ V hb) fun i _ => f i 0 := fun i j => by
  rw [broadcastTo_apply V hb (ix2 i j) (ix2 i (0 : Fin 1)) fun a => match a with
    | ⟨0, _⟩ => (if_neg hM).symm | ⟨1, _⟩ => rfl]
  exact h i 0

theorem IsM.cellTo {V : (⟨2, ![1, 1]⟩ : Shape).Idx → EReal} (h : IsM V f) (hb : (⟨2, ![1, 1]⟩ : Shape).Broadcasts ⟨2, ![M, N]⟩) :
    IsM (broadcastTo ⟨2, ![M, N]⟩ V hb) fun _ _ => f 0 0 := fun i j => by
  rw [broadcastTo_apply V hb (ix2 i j) (ix2 (0 : Fin 1) (0 : Fin 1)) fun a => match a with
    | ⟨0, _⟩ => rfl | ⟨1, _⟩ => rfl]
  exact h 0 0

theorem IsM.transpose (h : IsM V f) (ht : (⟨2, ![M, N]⟩ : Shape).Transposes [1, 0] ⟨2, ![N, M]⟩) :
    IsM (transpose ⟨2, ![N, M]⟩ [1, 0] V ht) fun i j => f j i := fun i j => by
  rw [transpose_ix2_apply]; exact h j i

theorem IsM.castSelf (h : IsM V f) (hc : (⟨2, ![M, N]⟩ : Shape).ShapeCasts ⟨2, ![M, N]⟩) : IsM (shapeCast ⟨2, ![M, N]⟩ V hc) f := by
  rwa [shapeCast_self]

/-- The stack of one matrix `V` holds `f`. -/
def IsM1 (V : (⟨3, ![1, M, N]⟩ : Shape).Idx → EReal) (f : ℕ → ℕ → ℝ) : Prop := ∀ (i : Fin M) (j : Fin N), V (ix3 (0 : Fin 1) i j) = ((f i j : ℝ) : EReal)

theorem IsM1.drop {V : (⟨3, ![1, M, N]⟩ : Shape).Idx → EReal} (h : IsM1 V f) (hc : (⟨3, ![1, M, N]⟩ : Shape).ShapeCasts ⟨2, ![M, N]⟩) :
    IsM (shapeCast ⟨2, ![M, N]⟩ V hc) f := fun i j => by
  rw [shapeCast_1ab_ab_apply]; exact h i j

theorem IsM.stack (h : IsM V f) (hc : (⟨2, ![M, N]⟩ : Shape).ShapeCasts ⟨3, ![1, M, N]⟩) : IsM1 (shapeCast ⟨3, ![1, M, N]⟩ V hc) f := fun i j => by
  rw [shapeCast_ab_1ab_apply]; exact h i j

/-- Two matrices one below the other. -/
theorem IsM.below {M₁ M₂ : ℕ} {A : (⟨2, ![M₁, N]⟩ : Shape).Idx → EReal} {B : (⟨2, ![M₂, N]⟩ : Shape).Idx → EReal} (hM : M₁ + M₂ = M)
    (h : IsM A f) (h' : IsM B g)
    (hc : Shape.Concatenates [(⟨2, ![M₁, N]⟩ : Shape), ⟨2, ![M₂, N]⟩] ⟨2, ![M, N]⟩ 0) :
    IsM (concatenate ⟨2, ![M, N]⟩ 0 [⟨_, A⟩, ⟨_, B⟩] hc) fun i j => if i < M₁ then f i j else g (i - M₁) j := fun i j => by
  by_cases hi : i.val < M₁
  · rw [concatenate_pair_apply_left 0 A B hc (ix2 i j) rfl (ix2 ⟨i, hi⟩ j) fun b => match b with | ⟨0, _⟩ => rfl | ⟨1, _⟩ => rfl]
    simp only [if_pos hi]; exact h _ _
  · have h2 : i.val - M₁ < M₂ := by have := i.isLt; omega
    rw [concatenate_pair_apply_right 0 A B hc (ix2 i j) rfl rfl (ix2 ⟨i.val - M₁, h2⟩ j)
      (fun b => match b with | ⟨0, _⟩ => fun e => absurd rfl e | ⟨1, _⟩ => fun _ => rfl)
      (by show i.val - M₁ + M₁ = i.val; omega)]
    simp only [if_neg hi]; exact h' _ _

/-- Two matrices side by side. -/
theorem IsM.beside {N₁ N₂ : ℕ} {A : (⟨2, ![M, N₁]⟩ : Shape).Idx → EReal} {B : (⟨2, ![M, N₂]⟩ : Shape).Idx → EReal} (hN : N₁ + N₂ = N)
    (h : IsM A f) (h' : IsM B g)
    (hc : Shape.Concatenates [(⟨2, ![M, N₁]⟩ : Shape), ⟨2, ![M, N₂]⟩] ⟨2, ![M, N]⟩ 1) :
    IsM (concatenate ⟨2, ![M, N]⟩ 1 [⟨_, A⟩, ⟨_, B⟩] hc) fun i j => if j < N₁ then f i j else g i (j - N₁) := fun i j => by
  by_cases hj : j.val < N₁
  · rw [concatenate_pair_apply_left 1 A B hc (ix2 i j) rfl (ix2 i ⟨j, hj⟩) fun b => match b with | ⟨0, _⟩ => rfl | ⟨1, _⟩ => rfl]
    simp only [if_pos hj]; exact h _ _
  · have h2 : j.val - N₁ < N₂ := by have := j.isLt; omega
    rw [concatenate_pair_apply_right 1 A B hc (ix2 i j) rfl rfl (ix2 i ⟨j.val - N₁, h2⟩)
      (fun b => match b with | ⟨0, _⟩ => fun _ => rfl | ⟨1, _⟩ => fun e => absurd rfl e)
      (by show j.val - N₁ + N₁ = j.val; omega)]
    simp only [if_neg hj]; exact h' _ _

/-- Four matrices of 64 rows, one below the other. -/
theorem IsM.four {P : Fin 4 → (⟨2, ![64, N]⟩ : Shape).Idx → EReal} {f : Fin 4 → ℕ → ℕ → ℝ} {g : ℕ → ℕ → ℝ} (h : ∀ c, IsM (P c) (f c))
    (hg : ∀ (c : Fin 4) (i : ℕ), i < 64 → ∀ j < N, f c i j = g (64 * c + i) j)
    (hc : Shape.Concatenates [(⟨2, ![64, N]⟩ : Shape), ⟨2, ![64, N]⟩, ⟨2, ![64, N]⟩, ⟨2, ![64, N]⟩] ⟨2, ![256, N]⟩ 0) :
    IsM (concatenate ⟨2, ![256, N]⟩ 0 [⟨_, P 0⟩, ⟨_, P 1⟩, ⟨_, P 2⟩, ⟨_, P 3⟩] hc) g := fun i j => by
  obtain ⟨c, hcv⟩ : ∃ c : Fin 4, c.val = i.val / 64 := ⟨⟨i.val / 64, by have := i.isLt; omega⟩, rfl⟩
  have hi : i.val % 64 < 64 := Nat.mod_lt _ (by norm_num)
  have hv : 64 * c.val + i.val % 64 = i.val := by omega
  have key : concatenate ⟨2, ![256, N]⟩ 0 [⟨_, P 0⟩, ⟨_, P 1⟩, ⟨_, P 2⟩, ⟨_, P 3⟩] hc (ix2 i j) = P c (ix2 ⟨i.val % 64, hi⟩ j) := by
    refine concatenate_apply_piece (t := ⟨2, ![256, N]⟩) 0 [⟨_, P 0⟩, ⟨_, P 1⟩, ⟨_, P 2⟩, ⟨_, P 3⟩] hc (ix2 i j) c.val (by simp) ⟨2, ![64, N]⟩ (P c)
      (by fin_cases c <;> rfl) rfl (64 * c.val) (by fin_cases c <;> rfl) (ix2 ⟨i.val % 64, hi⟩ j)
      (fun b => match b with | ⟨0, _⟩ => fun e => absurd rfl e | ⟨1, _⟩ => fun _ => rfl) hv
  rw [key, h c, hg c _ hi j j.isLt, hv]

/-! ## Sums -/

theorem coe_sum_range (n : ℕ) (a : Fin n → EReal) (b : ℕ → ℝ) (h : ∀ k, a k = ((b k : ℝ) : EReal)) :
    ∑ k, a k = ((∑ k ∈ range n, b k : ℝ) : EReal) := by
  rw [Finset.sum_range]
  refine (Finset.sum_congr rfl fun k _ => h k).trans ?_
  exact (map_sum (⟨⟨fun x : ℝ => (x : EReal), EReal.coe_zero⟩, EReal.coe_add⟩ : ℝ →+ EReal) (fun k : Fin n => b k) univ).symm

theorem IsM.mm {φ₁ φ₂ : FTy} {A : FVec Ideal ⟨2, ![M, K]⟩ φ₁} {B : FVec Ideal ⟨2, ![K, N]⟩ φ₂} (h : IsM A f) (h' : IsM B g)
    (d : DotDims ⟨2, ![M, K]⟩ ⟨2, ![K, N]⟩ ⟨2, ![M, N]⟩) (hd : d = DotDims.plain M K N) :
    IsM (matmul d none A B (constant ⟨2, ![M, N]⟩ .f32 0x00000000#32)) fun i j => ∑ k ∈ range K, f i k * g k j := fun i j => by
  subst hd
  show FloatOps.matmul (DotDims.plain M K N) none A B (constant ⟨2, ![M, N]⟩ .f32 0x00000000#32) (ix2 i j) = _
  rw [Ideal.matmul_plain_apply, constant_apply, Ideal.ofBits_zero_f32, zero_add]
  exact coe_sum_range K _ (fun k => f i k * g k j) fun k => by rw [h i k, h' k j, EReal.coe_mul]

theorem IsM.mmT {φ₁ φ₂ : FTy} {A : FVec Ideal ⟨2, ![M, K]⟩ φ₁} {B : FVec Ideal ⟨2, ![N, K]⟩ φ₂} (h : IsM A f) (h' : IsM B g)
    (d : DotDims ⟨2, ![M, K]⟩ ⟨2, ![N, K]⟩ ⟨2, ![M, N]⟩) (hd : d = DotDims.transposedRhs M K N) :
    IsM (matmul d none A B (constant ⟨2, ![M, N]⟩ .f32 0x00000000#32)) fun i j => ∑ k ∈ range K, f i k * g j k := fun i j => by
  subst hd
  show FloatOps.matmul (DotDims.transposedRhs M K N) none A B (constant ⟨2, ![M, N]⟩ .f32 0x00000000#32) (ix2 i j) = _
  rw [Ideal.matmul_transposedRhs_apply, constant_apply, Ideal.ofBits_zero_f32, zero_add]
  exact coe_sum_range K _ (fun k => f i k * g j k) fun k => by rw [h i k, h' j k, EReal.coe_mul]

/-- The product that sums over both operands' rows. -/
theorem IsM.mmTl {A : FVec Ideal S64x128 .bf16} {B : FVec Ideal S64x256 .bf16} (h : IsM (M := 64) (N := 128) A f) (h' : IsM (M := 64) (N := 256) B g) :
    IsM (M := 128) (N := 256) (matmul dot_S64x128_S64x256_S128x256_0_0_1_1_n_n none A B (constant S128x256 .f32 0x00000000#32))
      fun i j => ∑ k ∈ range 64, f k i * g k j := fun i j => by
  show Ideal.matmul dot_S64x128_S64x256_S128x256_0_0_1_1_n_n A B (constant (F := Ideal) S128x256 .f32 0x00000000#32) (ix2 i j) = _
  rw [Ideal.matmul_apply₁_of dot_S64x128_S64x256_S128x256_0_0_1_1_n_n (a := 0) rfl (K := 64) rfl A B _ (ix2 i j)
    (fun k => ix2 k i) (fun k => ix2 k j)
    (fun k => by funext a; match a with | ⟨0, _⟩ => rfl | ⟨1, _⟩ => rfl)
    (fun k => by funext a; match a with | ⟨0, _⟩ => rfl | ⟨1, _⟩ => rfl),
    constant_apply, Ideal.ofBits_zero_f32, zero_add]
  exact coe_sum_range 64 _ (fun k => f k i * g k j) fun k => by rw [h k i, h' k j, EReal.coe_mul]

/-- The squares of each row summed. -/
theorem IsM.sumSq {A : FVec Ideal S256x128 .f32} (h : IsM (M := 256) (N := 128) A f) :
    IsM (M := 256) (N := 1) (sumSq A) fun i _ => ∑ d ∈ range 128, f i d * f i d := fun i j => by
  unfold Gdn.sumSq
  rw [shapeCast_apply _ _ (ix2 i j) (ix1 i) (by
    rw [Shape.rowMajor_val_two, Shape.rowMajor_val_one]
    have := j.isLt
    show i.val = i.val * 1 + j.val; omega)]
  show multiReduction .add [1] S256 (mulf A A) 0x00000000#32 Gen.reduces_S256x128_S256 (.inl rfl) rfl (ix1 i) = _
  refine (Ideal.multiReduction_add_single _ _ _ _ _ _).trans ?_
  refine coe_sum_range 128 _ (fun d => f i d * f i d) fun k => ?_
  have e : Shape.Reduces.lift (s := S256x128) (t := S256) Gen.reduces_S256x128_S256 (ix1 i) k = ix2 i k := by
    funext a; match a with | ⟨0, _⟩ => rfl | ⟨1, _⟩ => rfl
  rw [e, mulf_apply, h i k, EReal.coe_mul]

theorem IsM.rotate {sb : BitVec 32} {s : ℕ} (hsb : sb.toNat = s) (hs : s < M) (h : IsM V f) (hr : (⟨2, ![M, N]⟩ : Shape).Rotates 0 none) :
    IsM (dynamicRotate 0 sb none V hr) fun i j => f ((i + M - s) % M) j := fun i j => by
  have hM : 0 < M := by have := i.isLt; omega
  rw [dynamicRotate_apply 0 sb V hr (ix2 i j) (ix2 ⟨(i.val + M - s) % M, Nat.mod_lt _ hM⟩ j) fun b => match b with
    | ⟨0, _⟩ => by show (i.val + M - s) % M = (if _ then _ else _); rw [show sb.toNat % _ = s from by rw [hsb]; exact Nat.mod_eq_of_lt hs]; rfl
    | ⟨1, _⟩ => rfl]
  exact h _ _

end Cert.Gdn

end
-- ==== Proof.Wy.lean ====
module

public import Mathlib.Analysis.SpecialFunctions.Exp
public import Mathlib.LinearAlgebra.Matrix.NonsingularInverse
public import Mathlib.Tactic.Ring
public import Mathlib.Tactic.Linarith
public import Mathlib.Algebra.BigOperators.Fin

/-! The gated delta rule over the reals: a chunk of tokens taken one after another, and the same chunk taken at once. -/

@[expose] public section

noncomputable section

namespace Cert.Wy

open Finset

/-! ## The inverse of `1 - P` by repeated squaring -/

section Inverse
variable {n : ℕ}

/-- The repeated squares of `P`. -/
def pw (P : Matrix (Fin n) (Fin n) ℝ) : ℕ → Matrix (Fin n) (Fin n) ℝ
  | 0 => P
  | m + 1 => pw P m * pw P m

/-- The partial products `(1 + P)(1 + P²)(1 + P⁴)…`. -/
def tt (P : Matrix (Fin n) (Fin n) ℝ) : ℕ → Matrix (Fin n) (Fin n) ℝ
  | 0 => 1 + P
  | m + 1 => tt P m + tt P m * pw P (m + 1)

theorem pw_eq (P : Matrix (Fin n) (Fin n) ℝ) (m : ℕ) : pw P m = P ^ 2 ^ m := by
  induction m with
  | zero => simp [pw]
  | succ m ih => rw [pw, ih, ← pow_add]; congr 1; rw [pow_succ]; ring

theorem tt_mul (P : Matrix (Fin n) (Fin n) ℝ) (m : ℕ) : tt P m * (1 - P) = 1 - P ^ 2 ^ (m + 1) := by
  induction m with
  | zero =>
    rw [tt, show 2 ^ (0 + 1) = 2 from rfl, pow_two]
    noncomm_ring
  | succ m ih =>
    rw [tt, pw_eq]
    have hc : P ^ 2 ^ (m + 1) * (1 - P) = (1 - P) * P ^ 2 ^ (m + 1) := by
      rw [mul_sub, sub_mul, mul_one, one_mul, ← pow_succ, ← pow_succ']
    rw [add_mul, Matrix.mul_assoc, hc, ← Matrix.mul_assoc, ih, sub_mul, one_mul, ← pow_add]
    have : 2 ^ (m + 1) + 2 ^ (m + 1) = 2 ^ (m + 1 + 1) := by rw [pow_succ 2 (m + 1)]; ring
    rw [this]; abel

/-- Entries of `P` only inside a chunk of 64 and strictly below the diagonal: so have its powers, `m` below. -/
theorem pow_low (P : Matrix (Fin n) (Fin n) ℝ)
    (h : ∀ i j, P i j ≠ 0 → j.val < i.val ∧ i.val / 64 = j.val / 64) (m : ℕ) :
    ∀ i j, (P ^ m) i j ≠ 0 → j.val + m ≤ i.val ∧ i.val / 64 = j.val / 64 := by
  induction m with
  | zero =>
    intro i j hij
    rw [pow_zero, Matrix.one_apply] at hij
    by_cases e : i = j
    · subst e; simp
    · simp [e] at hij
  | succ m ih =>
    intro i j hij
    rw [pow_succ, Matrix.mul_apply] at hij
    obtain ⟨k, -, hk⟩ := Finset.exists_ne_zero_of_sum_ne_zero hij
    obtain ⟨a1, a2⟩ := ih i k (left_ne_zero_of_mul hk)
    obtain ⟨b1, b2⟩ := h k j (right_ne_zero_of_mul hk)
    exact ⟨by omega, by omega⟩

theorem mul_tt (P : Matrix (Fin n) (Fin n) ℝ)
    (h : ∀ i j, P i j ≠ 0 → j.val < i.val ∧ i.val / 64 = j.val / 64) : (1 - P) * tt P 5 = 1 := by
  have h0 : P ^ 2 ^ (5 + 1) = 0 := by
    ext i j
    by_contra hne
    obtain ⟨a, b⟩ := pow_low P h _ i j hne
    norm_num at a
    omega
  have := tt_mul P 5
  rw [h0, sub_zero] at this
  exact mul_eq_one_comm.mp this

end Inverse

/-! ## A running sum inside chunks of 64 by doubling steps -/

/-- The running sum after `n` doubling steps. -/
def dbl (g : ℕ → ℝ) : ℕ → ℕ → ℝ
  | 0, r => g r
  | n + 1, r => dbl g n r + if 2 ^ n ≤ r % 64 then dbl g n (r - 2 ^ n) else 0

theorem dbl_eq (g : ℕ → ℝ) (n : ℕ) (r : ℕ) (hn : n ≤ 6) :
    dbl g n r = ∑ i ∈ range (min (2 ^ n) (r % 64 + 1)), g (r - i) := by
  induction n generalizing r with
  | zero => simp [dbl]
  | succ n ih =>
    rw [dbl, ih r (by omega)]
    have h64 : 2 ^ n ≤ 32 := by
      calc 2 ^ n ≤ 2 ^ 5 := Nat.pow_le_pow_right (by norm_num) (by omega)
        _ = 32 := by norm_num
    have hp : 0 < 2 ^ n := by positivity
    have h2 : 2 ^ (n + 1) = 2 ^ n + 2 ^ n := by rw [pow_succ]; ring
    split
    · rename_i hle
      rw [ih _ (by omega)]
      have e1 : min (2 ^ n) (r % 64 + 1) = 2 ^ n := by omega
      have e2 : (r - 2 ^ n) % 64 = r % 64 - 2 ^ n := by omega
      have e3 : min (2 ^ (n + 1)) (r % 64 + 1) = 2 ^ n + min (2 ^ n) ((r - 2 ^ n) % 64 + 1) := by omega
      rw [e1, e3, Finset.sum_range_add]
      congr 1
      refine Finset.sum_congr rfl fun i _ => ?_
      rw [Nat.sub_sub]
    · rename_i hle
      have e3 : min (2 ^ (n + 1)) (r % 64 + 1) = min (2 ^ n) (r % 64 + 1) := by omega
      rw [e3, add_zero]

theorem dbl_six (g : ℕ → ℝ) (c i : ℕ) (hi : i < 64) :
    dbl g 6 (64 * c + i) = ∑ j ∈ range (i + 1), g (64 * c + j) := by
  rw [dbl_eq g 6 _ le_rfl]
  have : min (2 ^ 6) ((64 * c + i) % 64 + 1) = i + 1 := by norm_num; omega
  rw [this, ← Finset.sum_range_reflect]
  refine Finset.sum_congr rfl fun j hj => ?_
  have := Finset.mem_range.mp hj
  congr 1; omega

/-- A sum over whole chunks of terms vanishing outside one chunk. -/
theorem sum_chunk (f : ℕ → ℝ) (m c : ℕ) (hc : c < m) (h : ∀ j, j / 64 ≠ c → f j = 0) :
    ∑ j ∈ range (64 * m), f j = ∑ i ∈ range 64, f (64 * c + i) := by
  induction m with
  | zero => omega
  | succ m ih =>
    rw [Nat.mul_succ, Finset.sum_range_add]
    rcases Nat.lt_or_ge c m with hlt | hge
    · rw [ih hlt]
      rw [Finset.sum_eq_zero (s := range 64) (f := fun x => f (64 * m + x)), add_zero]
      intro i hi
      have := Finset.mem_range.mp hi
      exact h _ (by omega)
    · have : c = m := by omega
      subst this
      rw [Finset.sum_eq_zero (s := range (64 * c)), zero_add]
      intro i hi
      have := Finset.mem_range.mp hi
      exact h _ (by omega)

/-! ## The recurrence -/

section Rule
variable {D E : Type} [Fintype D]

/-- What token `n` writes: its value less what the decayed state already answers to its key, times its rate. -/
def wr (k : ℕ → D → ℝ) (v : ℕ → E → ℝ) (β g : ℕ → ℝ) (n : ℕ) (S : D → E → ℝ) (e : E) : ℝ :=
  β n * (v n e - ∑ d, (Real.exp (g n) * S d e) * k n d)

/-- The state after `n` tokens from `S0`. -/
def run (k : ℕ → D → ℝ) (v : ℕ → E → ℝ) (β g : ℕ → ℝ) (S0 : D → E → ℝ) : ℕ → D → E → ℝ
  | 0 => S0
  | n + 1 => fun d e => Real.exp (g n) * run k v β g S0 n d e + k n d * wr k v β g n (run k v β g S0 n) e

/-- The state after `m + n` tokens is the state `n` tokens on from the one after `m`. -/
theorem run_add (k : ℕ → D → ℝ) (v : ℕ → E → ℝ) (β g : ℕ → ℝ) (S0 : D → E → ℝ) (m n : ℕ) :
    run k v β g S0 (m + n)
      = run (fun i => k (m + i)) (fun i => v (m + i)) (fun i => β (m + i)) (fun i => g (m + i)) (run k v β g S0 m) n := by
  induction n with
  | zero => rfl
  | succ n ih =>
    funext d e
    show Real.exp (g (m + n)) * run k v β g S0 (m + n) d e + k (m + n) d * wr k v β g (m + n) (run k v β g S0 (m + n)) e = _
    rw [ih]; rfl

variable (k q : ℕ → D → ℝ) (v : ℕ → E → ℝ) (β g : ℕ → ℝ) (S0 : D → E → ℝ)

/-- The decay's logarithm up to and with token `n`. -/
def cum (g : ℕ → ℝ) (n : ℕ) : ℝ := ∑ i ∈ range (n + 1), g i

theorem run_eq (N : ℕ) (vn : ℕ → E → ℝ)
    (hvn : ∀ i, i < N → ∀ e, vn i e = β i * v i e - β i * Real.exp (cum g i) * (∑ d, k i d * S0 d e)
      - ∑ j ∈ range i, β i * Real.exp (cum g i - cum g j) * (∑ d, k i d * k j d) * vn j e) :
    ∀ n, n ≤ N → ∀ d e, run k v β g S0 n d e
      = Real.exp (∑ i ∈ range n, g i) * S0 d e
        + ∑ j ∈ range n, Real.exp ((∑ i ∈ range n, g i) - cum g j) * k j d * vn j e := by
  intro n
  induction n with
  | zero => intro _ d e; simp [run]
  | succ n ih =>
    intro hn d e
    have ih' := ih (by omega)
    have hc : cum g n = (∑ i ∈ range n, g i) + g n := by rw [cum, Finset.sum_range_succ]
    -- what token `n` writes is `vn n`
    have hw : wr k v β g n (run k v β g S0 n) e = vn n e := by
      rw [wr, hvn n (by omega) e]
      have : (∑ d, (Real.exp (g n) * run k v β g S0 n d e) * k n d)
          = Real.exp (cum g n) * (∑ d, k n d * S0 d e)
            + ∑ j ∈ range n, Real.exp (cum g n - cum g j) * (∑ d, k n d * k j d) * vn j e := by
        rw [Finset.mul_sum]
        have h2 : ∀ j, Real.exp (cum g n - cum g j) * (∑ d, k n d * k j d) * vn j e
            = ∑ d, Real.exp (g n) * (Real.exp ((∑ i ∈ range n, g i) - cum g j) * k j d * vn j e) * k n d := by
          intro j
          rw [Finset.mul_sum, Finset.sum_mul]
          refine Finset.sum_congr rfl fun d _ => ?_
          rw [hc, show (∑ i ∈ range n, g i) + g n - cum g j = g n + ((∑ i ∈ range n, g i) - cum g j) by ring, Real.exp_add]
          ring
        rw [Finset.sum_congr rfl fun j _ => h2 j, Finset.sum_comm, ← Finset.sum_add_distrib]
        refine Finset.sum_congr rfl fun d _ => ?_
        rw [ih', hc, Real.exp_add, mul_add, add_mul, Finset.mul_sum, Finset.sum_mul]
        ring
      rw [this, mul_sub, mul_add, Finset.mul_sum (range n)]
      have h3 : ∀ j, β n * Real.exp (cum g n - cum g j) * (∑ d, k n d * k j d) * vn j e
          = β n * (Real.exp (cum g n - cum g j) * (∑ d, k n d * k j d) * vn j e) := fun j => by ring
      rw [Finset.sum_congr rfl fun j _ => h3 j]
      ring
    show Real.exp (g n) * run k v β g S0 n d e + k n d * wr k v β g n (run k v β g S0 n) e = _
    rw [hw, ih', Finset.sum_range_succ (fun j => Real.exp _ * k j d * vn j e), Finset.sum_range_succ g, Real.exp_add]
    have h4 : ∀ j, Real.exp ((∑ i ∈ range n, g i) + g n - cum g j) * k j d * vn j e
        = Real.exp (g n) * (Real.exp ((∑ i ∈ range n, g i) - cum g j) * k j d * vn j e) := by
      intro j
      rw [show (∑ i ∈ range n, g i) + g n - cum g j = g n + ((∑ i ∈ range n, g i) - cum g j) by ring, Real.exp_add]
      ring
    rw [Finset.sum_congr rfl fun j _ => h4 j, ← Finset.mul_sum, hc, sub_self, Real.exp_zero]
    ring

theorem cum_anti (hg : ∀ i, g i ≤ 0) {i j : ℕ} (h : j ≤ i) : cum g i ≤ cum g j := by
  obtain ⟨m, rfl⟩ := Nat.exists_eq_add_of_le h
  induction m with
  | zero => simp
  | succ m ih =>
    have : cum g (j + (m + 1)) = cum g (j + m) + g (j + m + 1) := by
      rw [cum, cum, ← Nat.add_assoc, Finset.sum_range_succ g (j + m + 1)]
    have h2 := hg (j + m + 1)
    have h3 := ih (by omega)
    linarith

/-- The within-chunk couplings, strictly below the diagonal. -/
def amat (i j : ℕ) : ℝ :=
  (∑ d, k i d * β i * k j d) * (if j < i then Real.exp (min (cum g i - cum g j) 0) else 0)

/-- The queries against the keys, on and below the diagonal. -/
def qkmat (i j : ℕ) : ℝ :=
  (∑ d, q i d * k j d) * (if j ≤ i then Real.exp (min (cum g i - cum g j) 0) else 0)

variable (u : ℕ → E → ℝ) (w : ℕ → D → ℝ)

/-- One chunk of 64 tokens: the state after each of its tokens, from `u`, `w` solving the chunk's triangular system. -/
theorem chunk_run (hg : ∀ i, g i ≤ 0)
    (hu : ∀ i, i < 64 → ∀ e, u i e + ∑ j ∈ range 64, amat k β g i j * u j e = v i e * β i)
    (hw : ∀ i, i < 64 → ∀ d, w i d + ∑ j ∈ range 64, amat k β g i j * w j d = k i d * β i * Real.exp (cum g i)) :
    ∀ n, n ≤ 64 → ∀ d e, run k v β g S0 n d e
      = Real.exp (∑ i ∈ range n, g i) * S0 d e
        + ∑ j ∈ range n, Real.exp ((∑ i ∈ range n, g i) - cum g j) * k j d * (u j e - ∑ d', w j d' * S0 d' e) := by
  refine run_eq k v β g S0 64 (fun i e => u i e - ∑ d', w i d' * S0 d' e) ?_
  intro i hi e
  have hA : ∀ f : ℕ → ℝ, ∑ j ∈ range 64, amat k β g i j * f j
      = ∑ j ∈ range i, β i * Real.exp (cum g i - cum g j) * (∑ d, k i d * k j d) * f j := by
    intro f
    obtain ⟨m, hm⟩ := Nat.exists_eq_add_of_le hi.le
    rw [hm, Finset.sum_range_add, Finset.sum_eq_zero (s := range m), add_zero]
    · refine Finset.sum_congr rfl fun j hj => ?_
      have hji := Finset.mem_range.mp hj
      rw [amat, if_pos hji, min_eq_left (by have := cum_anti g hg hji.le; linarith)]
      have : (∑ d, k i d * β i * k j d) = β i * ∑ d, k i d * k j d := by
        rw [Finset.mul_sum]; exact Finset.sum_congr rfl fun d _ => by ring
      rw [this]; ring
    · intro j _
      rw [amat, if_neg (by omega), mul_zero, zero_mul]
  have h1 := hu i hi e
  have h2 := hw i hi
  rw [hA] at h1
  simp only [hA] at h2
  have h3 : (∑ d, w i d * S0 d e)
      = β i * Real.exp (cum g i) * (∑ d, k i d * S0 d e)
        - ∑ j ∈ range i, β i * Real.exp (cum g i - cum g j) * (∑ d, k i d * k j d) * (∑ d, w j d * S0 d e) := by
    rw [Finset.mul_sum, Finset.sum_congr rfl fun j (_ : j ∈ range i) => Finset.mul_sum _ _ _, Finset.sum_comm,
      ← Finset.sum_sub_distrib]
    refine Finset.sum_congr rfl fun d _ => ?_
    have := h2 d
    have hs : (∑ j ∈ range i, β i * Real.exp (cum g i - cum g j) * (∑ d, k i d * k j d) * (w j d * S0 d e))
        = (∑ j ∈ range i, β i * Real.exp (cum g i - cum g j) * (∑ d, k i d * k j d) * w j d) * S0 d e := by
      rw [Finset.sum_mul]; exact Finset.sum_congr rfl fun j _ => by ring
    rw [hs, show w i d = k i d * β i * Real.exp (cum g i)
      - ∑ j ∈ range i, β i * Real.exp (cum g i - cum g j) * (∑ d, k i d * k j d) * w j d by linarith]
    ring
  show u i e - _ = _
  rw [h3]
  simp only [mul_sub, Finset.sum_sub_distrib]
  linarith

/-- The chunk's outputs at once. -/
theorem chunk_out (hg : ∀ i, g i ≤ 0)
    (hu : ∀ i, i < 64 → ∀ e, u i e + ∑ j ∈ range 64, amat k β g i j * u j e = v i e * β i)
    (hw : ∀ i, i < 64 → ∀ d, w i d + ∑ j ∈ range 64, amat k β g i j * w j d = k i d * β i * Real.exp (cum g i))
    (i : ℕ) (hi : i < 64) (e : E) :
    (∑ d, run k v β g S0 (i + 1) d e * q i d)
      = (∑ d, (q i d * Real.exp (cum g i) - ∑ j ∈ range 64, qkmat k q g i j * w j d) * S0 d e)
        + ∑ j ∈ range 64, qkmat k q g i j * u j e := by
  have hQ : ∀ f : ℕ → ℝ, ∑ j ∈ range 64, qkmat k q g i j * f j
      = ∑ j ∈ range (i + 1), Real.exp (cum g i - cum g j) * (∑ d, q i d * k j d) * f j := by
    intro f
    obtain ⟨m, hm⟩ := Nat.exists_eq_add_of_le (show i + 1 ≤ 64 by omega)
    rw [hm, Finset.sum_range_add, Finset.sum_eq_zero (s := range m), add_zero]
    · refine Finset.sum_congr rfl fun j hj => ?_
      have hji := Finset.mem_range.mp hj
      rw [qkmat, if_pos (by omega), min_eq_left (by have := cum_anti g hg (show j ≤ i by omega); linarith)]
      ring
    · intro j _
      rw [qkmat, if_neg (by omega), mul_zero, zero_mul]
  have hr := chunk_run k v β g S0 u w hg hu hw (i + 1) (by omega)
  rw [hQ]
  simp only [hQ, hr]
  change (∑ d, (Real.exp (cum g i) * S0 d e + ∑ j ∈ range (i + 1), Real.exp (cum g i - cum g j) * k j d * (u j e - ∑ d', w j d' * S0 d' e)) * q i d) = _
  have e1 : ∀ j, Real.exp (cum g i - cum g j) * (∑ d, q i d * k j d) * u j e
      = (∑ d, Real.exp (cum g i - cum g j) * k j d * (u j e - ∑ d', w j d' * S0 d' e) * q i d)
        + ∑ d', Real.exp (cum g i - cum g j) * (∑ d, q i d * k j d) * w j d' * S0 d' e := by
    intro j
    have a1 : (∑ d, Real.exp (cum g i - cum g j) * k j d * (u j e - ∑ d', w j d' * S0 d' e) * q i d)
        = Real.exp (cum g i - cum g j) * (∑ d, q i d * k j d) * (u j e - ∑ d', w j d' * S0 d' e) := by
      rw [Finset.mul_sum, Finset.sum_mul]; exact Finset.sum_congr rfl fun d _ => by ring
    have a2 : (∑ d', Real.exp (cum g i - cum g j) * (∑ d, q i d * k j d) * w j d' * S0 d' e)
        = Real.exp (cum g i - cum g j) * (∑ d, q i d * k j d) * ∑ d', w j d' * S0 d' e := by
      generalize (∑ d, q i d * k j d) = c
      rw [Finset.mul_sum]; exact Finset.sum_congr rfl fun d _ => by ring
    rw [a1, a2]; ring
  rw [Finset.sum_congr rfl fun j _ => e1 j, Finset.sum_add_distrib]
  simp only [add_mul, sub_mul, Finset.sum_add_distrib, Finset.sum_sub_distrib, Finset.sum_mul]
  rw [Finset.sum_comm (s := range (i + 1)) (t := univ), Finset.sum_comm (s := range (i + 1)) (t := univ)]
  have : (∑ d, Real.exp (cum g i) * S0 d e * q i d) = ∑ d, q i d * Real.exp (cum g i) * S0 d e :=
    Finset.sum_congr rfl fun d _ => by ring
  rw [this]; ring

/-- The state after the chunk at once. -/
theorem chunk_state (hg : ∀ i, g i ≤ 0)
    (hu : ∀ i, i < 64 → ∀ e, u i e + ∑ j ∈ range 64, amat k β g i j * u j e = v i e * β i)
    (hw : ∀ i, i < 64 → ∀ d, w i d + ∑ j ∈ range 64, amat k β g i j * w j d = k i d * β i * Real.exp (cum g i))
    (d : D) (e : E) :
    run k v β g S0 64 d e
      = S0 d e * Real.exp (cum g 63)
        - (∑ d', (∑ j ∈ range 64, k j d * Real.exp (cum g 63 - cum g j) * w j d') * S0 d' e)
        + ∑ j ∈ range 64, k j d * Real.exp (cum g 63 - cum g j) * u j e := by
  rw [chunk_run k v β g S0 u w hg hu hw 64 le_rfl]
  change Real.exp (cum g 63) * S0 d e + ∑ j ∈ range 64, Real.exp (cum g 63 - cum g j) * k j d * (u j e - ∑ d', w j d' * S0 d' e) = _
  have : (∑ d', (∑ j ∈ range 64, k j d * Real.exp (cum g 63 - cum g j) * w j d') * S0 d' e)
      = ∑ j ∈ range 64, Real.exp (cum g 63 - cum g j) * k j d * ∑ d', w j d' * S0 d' e := by
    simp only [Finset.sum_mul, Finset.mul_sum]
    rw [Finset.sum_comm]
    exact Finset.sum_congr rfl fun j _ => Finset.sum_congr rfl fun d' _ => by ring
  rw [this]
  simp only [mul_sub, Finset.sum_sub_distrib]
  have h2 : ∀ j, Real.exp (cum g 63 - cum g j) * k j d * u j e = k j d * Real.exp (cum g 63 - cum g j) * u j e := fun j => by ring
  rw [Finset.sum_congr rfl fun j _ => h2 j]
  ring

end Rule

end Cert.Wy

end
-- ==== Proof.Solve.lean ====
module

public import proofs.«01_k».proof.Proof.Calc
public import proofs.«01_k».proof.Proof.Wy

/-! The masks of a tile's chunks, and the triangular systems solved by repeated squaring. -/

@[expose] public section

noncomputable section

namespace Cert.Gdn

open Cert.KernelIdeal Idealize.ShloMosaic.ValueIdx Finset
open Idealize.ShloMosaic hiding ix0 ix1 ix2 ix3 ix4 ix5 eq_ix1 eq_ix2 eq_ix3 eq_ix4

/-! ## Masks -/

theorem toInt_small (n : ℕ) (h : n < 2 ^ 30) : (BitVec.ofNat 32 n).toInt = n := by
  rw [BitVec.toInt_eq_toNat_of_lt] <;> rw [BitVec.toNat_ofNat, Nat.mod_eq_of_lt (by omega)]
  omega

theorem slt_small (m n : ℕ) (hm : m < 2 ^ 30) (hn : n < 2 ^ 30) : (BitVec.ofNat 32 m).slt (BitVec.ofNat 32 n) = decide (m < n) := by
  unfold BitVec.slt
  rw [toInt_small m hm, toInt_small n hn]
  simp

theorem sle_small (m n : ℕ) (hm : m < 2 ^ 30) (hn : n < 2 ^ 30) : (BitVec.ofNat 32 m).sle (BitVec.ofNat 32 n) = decide (m ≤ n) := by
  unfold BitVec.sle
  rw [toInt_small m hm, toInt_small n hn]
  simp

theorem and_one (a b : BitVec 1) : a &&& b = 1#1 ↔ a = 1#1 ∧ b = 1#1 := by
  revert a b; decide

theorem ofBool_one (b : Bool) : BitVec.ofBool b = 1#1 ↔ b = true := by
  revert b; decide

/-- The chunk number of one number. -/
def chunkNo (b : BitVec 32) : BitVec 32 := chunkOf (fun _ => b) sgn (ix2 0 0)

theorem chunkOf_at (v : IVec S256x256 32) (s : BitVec 32) (x : S256x256.Idx) : chunkOf v s x = chunkOf (fun _ => v x) s (ix2 0 0) := by
  delta chunkOf
  exact rfl

theorem chunkNo_eq : ∀ i : Fin 256, chunkNo (BitVec.ofNat 32 i.val) = BitVec.ofNat 32 (i.val / 64) := by
  decide +kernel

theorem rowI_at (i j : Fin 256) : rowI (ix2 i j) = BitVec.ofNat 32 i.val := by
  unfold rowI
  rw [iota_single_apply]

theorem colI_at (i j : Fin 256) : colI (ix2 i j) = BitVec.ofNat 32 j.val := by
  unfold colI
  rw [iota_single_apply]

theorem ofNat_inj (m n : ℕ) (hm : m < 2 ^ 30) (hn : n < 2 ^ 30) : BitVec.ofNat 32 m = BitVec.ofNat 32 n ↔ m = n := by
  constructor
  · intro h
    have := congrArg BitVec.toNat h
    rw [BitVec.toNat_ofNat, BitVec.toNat_ofNat, Nat.mod_eq_of_lt (by omega), Nat.mod_eq_of_lt (by omega)] at this
    exact this
  · rintro rfl; rfl

theorem same_mask : IsMask (M := 256) (N := 256) same fun i j => i / 64 = j / 64 := fun i j => by
  have hi := i.isLt
  have hj := j.isLt
  have hr : chunkOf rowI sgn (ix2 i j) = BitVec.ofNat 32 (i.val / 64) := by
    rw [chunkOf_at, rowI_at]; exact chunkNo_eq i
  have hc : chunkOf colI sgn (ix2 i j) = BitVec.ofNat 32 (j.val / 64) := by
    rw [chunkOf_at, colI_at]; exact chunkNo_eq j
  show BitVec.ofBool (chunkOf rowI sgn (ix2 i j) == chunkOf colI sgn (ix2 i j)) = 1#1 ↔ _
  rw [hr, hc, ofBool_one, beq_iff_eq, ofNat_inj _ _ (by omega) (by omega)]

theorem strict_mask : IsMask (M := 256) (N := 256) strict fun i j => i / 64 = j / 64 ∧ j < i := fun i j => by
  have hi := i.isLt
  have hj := j.isLt
  show same (ix2 i j) &&& BitVec.ofBool ((colI (ix2 i j)).slt (rowI (ix2 i j))) = 1#1 ↔ _
  rw [and_one, same_mask i j, ofBool_one, rowI_at, colI_at, slt_small _ _ (by omega) (by omega), decide_eq_true_iff]

theorem tril_mask : IsMask (M := 256) (N := 256) tril fun i j => i / 64 = j / 64 ∧ j ≤ i := fun i j => by
  have hi := i.isLt
  have hj := j.isLt
  show same (ix2 i j) &&& BitVec.ofBool ((colI (ix2 i j)).sle (rowI (ix2 i j))) = 1#1 ↔ _
  rw [and_one, same_mask i j, ofBool_one, rowI_at, colI_at, sle_small _ _ (by omega) (by omega), decide_eq_true_iff]

theorem ident_isM : IsM (M := 128) (N := 128) (ident : FVec Ideal S128x128 .f32) fun i j => if i = j then 1 else 0 := by
  refine IsM.select (p := fun i j => i = j) (fun i j => ?_) (IsM.splat one_eq) (IsM.splat zero_eq)
  have hi := i.isLt
  have hj := j.isLt
  show BitVec.ofBool (iota .tc S128x128 32 [0] _ (ix2 i j) == iota .tc S128x128 32 [1] _ (ix2 i j)) = 1#1 ↔ _
  rw [iota_single_apply, iota_single_apply, ofBool_one, beq_iff_eq]
  exact ofNat_inj i.val j.val (by omega) (by omega)

/-! ## Slices from the left edge or the top -/

section
variable {M N M' N' o : ℕ} {V : (⟨2, ![M, N]⟩ : Shape).Idx → EReal} {f : ℕ → ℕ → ℝ}

theorem IsM.lanes (h : IsM V f) (hs : (⟨2, ![M, N]⟩ : Shape).Slices ![0, o] ⟨2, ![M', N']⟩) :
    IsM (extractStridedSlice ⟨2, ![M', N']⟩ ![0, o] V hs) fun i j => f i (o + j) :=
  (h.slice hs).congr fun i _ j _ => by rw [Nat.zero_add]

theorem IsM.rowsFrom (h : IsM V f) (hs : (⟨2, ![M, N]⟩ : Shape).Slices ![o, 0] ⟨2, ![M', N']⟩) :
    IsM (extractStridedSlice ⟨2, ![M', N']⟩ ![o, 0] V hs) fun i j => f (o + i) j :=
  (h.slice hs).congr fun i _ j _ => by rw [Nat.zero_add]
end

/-! ## Triangular systems -/

/-- A square matrix as a function of plain numbers. -/
def toN (P : Matrix (Fin 128) (Fin 128) ℝ) (i j : ℕ) : ℝ := P (Fin.ofNat 128 i) (Fin.ofNat 128 j)

theorem ofNat_val (i : Fin 128) : Fin.ofNat 128 i.val = i := Fin.ext (Nat.mod_eq_of_lt i.isLt)

theorem mm_isM {A B : FVec Ideal S128x128 .f32} {P Q : Matrix (Fin 128) (Fin 128) ℝ} (h : IsM (M := 128) (N := 128) A (toN P))
    (h' : IsM (M := 128) (N := 128) B (toN Q)) : IsM (M := 128) (N := 128) (mm A B) (toN (P * Q)) :=
  (IsM.mm (h.trunc Gen.bitsLt_bf16_f32) (h'.trunc Gen.bitsLt_bf16_f32) dot_S128x128_S128x128_S128x128_1_0_0_1_n_n rfl).congr
    fun i _ j _ => by
      rw [Finset.sum_range]
      simp only [toN, ofNat_val, Matrix.mul_apply]

theorem pwV_isM {A : FVec Ideal S128x128 .f32} {P : Matrix (Fin 128) (Fin 128) ℝ} (h : IsM (M := 128) (N := 128) A (toN P)) (n : ℕ) :
    IsM (M := 128) (N := 128) (pwV A n) (toN (Wy.pw P n)) := by
  induction n with
  | zero => exact h
  | succ n ih => exact mm_isM ih ih

theorem ttV_isM {A : FVec Ideal S128x128 .f32} {P : Matrix (Fin 128) (Fin 128) ℝ} (h : IsM (M := 128) (N := 128) A (toN P)) (n : ℕ) :
    IsM (M := 128) (N := 128) (ttV A n) (toN (Wy.tt P n)) := by
  induction n with
  | zero =>
    refine (ident_isM.add h).congr fun i hi j hj => ?_
    show _ = (1 + P) (Fin.ofNat 128 i) (Fin.ofNat 128 j)
    rw [Matrix.add_apply, Matrix.one_apply]
    congr 2
    have : Fin.ofNat 128 i = Fin.ofNat 128 j ↔ i = j := by
      rw [Fin.ext_iff]
      show i % 128 = j % 128 ↔ i = j
      rw [Nat.mod_eq_of_lt hi, Nat.mod_eq_of_lt hj]
    exact (propext this).symm
  | succ n ih => exact ih.add (mm_isM ih (pwV_isM h (n + 1)))

/-- The block's solution, and the system it solves. -/
theorem block_isM {A : FVec Ideal S256x256 .f32} {X : FVec Ideal S256x128 .bf16} {a x : ℕ → ℕ → ℝ} (hA : IsM (M := 256) (N := 256) A a)
    (hX : IsM (M := 256) (N := 128) X x) (ha : ∀ i j, a i j ≠ 0 → i / 64 = j / 64 ∧ j < i) (b o : ℕ) (hb : o = 128 * b)
    (h : S256x256.Slices ![o, o] S128x128) (hx : S256x128.Slices ![o, 0] S128x128) :
    ∃ U : ℕ → ℕ → ℝ, IsM (M := 128) (N := 128) (solveBlk (ttV (block A o h) 5) X o hx) U ∧
      ∀ r, r < 128 → ∀ e, U r e + ∑ j ∈ range 128, a (o + r) (o + j) * U j e = x (o + r) e := by
  let P : Matrix (Fin 128) (Fin 128) ℝ := fun i j => 0 - a (o + i.val) (o + j.val)
  have hP : IsM (M := 128) (N := 128) (block A o h) (toN P) := by
    refine ((IsM.splat zero_eq).sub (hA.slice h)).congr fun i hi j hj => ?_
    show _ = 0 - a (o + i % 128) (o + j % 128)
    rw [Nat.mod_eq_of_lt hi, Nat.mod_eq_of_lt hj]
  have hlow : (1 - P) * Wy.tt P 5 = 1 := Wy.mul_tt P fun i j hne => by
    have := ha (o + i.val) (o + j.val) (fun e => hne (by show 0 - _ = _; rw [e, sub_zero]))
    omega
  refine ⟨fun i e => ∑ k ∈ range 128, toN (Wy.tt P 5) i k * x (o + k) e,
    IsM.mm ((ttV_isM hP 5).trunc Gen.bitsLt_bf16_f32) (hX.rowsFrom hx) dot_S128x128_S128x128_S128x128_1_0_0_1_n_n rfl, fun r hr e => ?_⟩
  let Y : Fin 128 → ℝ := fun k => x (o + k.val) e
  have hU : ∀ i : ℕ, (∑ k ∈ range 128, toN (Wy.tt P 5) i k * x (o + k) e) = (Wy.tt P 5).mulVec Y (Fin.ofNat 128 i) := fun i => by
    rw [Finset.sum_range]
    simp only [toN, ofNat_val]
    rfl
  simp only [hU]
  rw [Finset.sum_range]
  simp only [ofNat_val]
  have key : (1 - P).mulVec ((Wy.tt P 5).mulVec Y) = Y := by
    rw [Matrix.mulVec_mulVec, hlow, Matrix.one_mulVec]
  have := congrFun key (Fin.ofNat 128 r)
  rw [Matrix.sub_mulVec, Matrix.one_mulVec, Pi.sub_apply] at this
  have hmod : (Fin.ofNat 128 r).val = r := Nat.mod_eq_of_lt hr
  have e1 : P.mulVec ((Wy.tt P 5).mulVec Y) (Fin.ofNat 128 r) = -∑ j : Fin 128, a (o + r) (o + j.val) * (Wy.tt P 5).mulVec Y j := by
    show ∑ j : Fin 128, (0 - a (o + (Fin.ofNat 128 r).val) (o + j.val)) * (Wy.tt P 5).mulVec Y j = _
    rw [hmod, ← Finset.sum_neg_distrib]
    exact Finset.sum_congr rfl fun j _ => by ring
  rw [e1, sub_neg_eq_add] at this
  rw [this]
  show x (o + (Fin.ofNat 128 r).val) e = _
  rw [hmod]

theorem solve_isM {A : FVec Ideal S256x256 .f32} {X : FVec Ideal S256x128 .bf16} {a x : ℕ → ℕ → ℝ} (hA : IsM (M := 256) (N := 256) A a)
    (hX : IsM (M := 256) (N := 128) X x) (ha : ∀ i j, a i j ≠ 0 → i / 64 = j / 64 ∧ j < i) :
    ∃ U : ℕ → ℕ → ℝ, IsM (M := 256) (N := 128) (solve A X) U ∧
      ∀ c, c < 4 → ∀ i, i < 64 → ∀ e, U (64 * c + i) e + ∑ j ∈ range 64, a (64 * c + i) (64 * c + j) * U (64 * c + j) e = x (64 * c + i) e := by
  obtain ⟨U₀, h₀, s₀⟩ := block_isM hA hX ha 0 0 rfl Gen.slices_S256x256_o0_0_S128x128 Gen.slices_S256x128_o0_0_S128x128
  obtain ⟨U₁, h₁, s₁⟩ := block_isM hA hX ha 1 128 rfl Gen.slices_S256x256_o128_128_S128x128 Gen.slices_S256x128_o128_0_S128x128
  refine ⟨fun i e => if i < 128 then U₀ i e else U₁ (i - 128) e,
    (IsM.below (M₁ := 128) (M₂ := 128) (M := 256) rfl h₀ h₁ Gen.concatenates_S128x128_S128x128_S256x128_d0).trunc Gen.bitsLt_bf16_f32,
    fun c hc i hi e => ?_⟩
  beta_reduce
  have cut : ∀ (o c' : ℕ) (V : ℕ → ℝ), c' < 2 → o % 128 = 0 → ∑ j ∈ range 128, a (o + (64 * c' + i)) (o + j) * V j
      = ∑ j ∈ range 64, a (o + (64 * c' + i)) (o + (64 * c' + j)) * V (64 * c' + j) := fun o c' V h ho =>
    Wy.sum_chunk (fun j => a (o + (64 * c' + i)) (o + j) * V j) 2 c' h fun j hj => by
      by_contra hne
      have := ha _ _ (left_ne_zero_of_mul hne)
      omega
  by_cases h2 : c < 2
  · have e0 := s₀ (64 * c + i) (by omega) e
    rw [cut 0 c (fun j => U₀ j e) h2 rfl] at e0
    simp only [Nat.zero_add] at e0
    rw [if_pos (by omega), ← e0]
    congr 1
    refine Finset.sum_congr rfl fun j hj => ?_
    have := Finset.mem_range.mp hj
    rw [if_pos (by omega)]
  · obtain ⟨c', rfl⟩ : ∃ c', c = 2 + c' := ⟨c - 2, by omega⟩
    have e1 := s₁ (64 * c' + i) (by omega) e
    rw [cut 128 c' (fun j => U₁ j e) (by omega) rfl] at e1
    have ec : ∀ j, 64 * (2 + c') + j = 128 + (64 * c' + j) := fun j => by ring
    simp only [ec]
    rw [if_neg (by omega), ← e1, Nat.add_sub_cancel_left]
    congr 1
    refine Finset.sum_congr rfl fun j hj => ?_
    rw [if_neg (by omega), Nat.add_sub_cancel_left]

end Cert.Gdn

end
-- ==== Proof.Head.lean ====
module

public import proofs.«01_k».proof.Proof.Solve

/-! One head of one tile: its rows and the state it leaves are those of the token-by-token rule. -/

@[expose] public section

noncomputable section

namespace Cert.Gdn

open Cert.KernelIdeal Idealize.ShloMosaic.ValueIdx Finset
open Idealize.ShloMosaic hiding ix0 ix1 ix2 ix3 ix4 ix5 eq_ix1 eq_ix2 eq_ix3 eq_ix4

/-! ## Constants -/

/-- What is added under a root, and the queries' scale. -/
def epsR : ℝ := 8796093 * (2 : ℝ) ^ (-43 : ℤ)
def scaleR : ℝ := 11863283 * (2 : ℝ) ^ (-27 : ℤ)

theorem epsR_pos : 0 < epsR := by unfold epsR; positivity

theorem eps_eq : Ideal.ofBits .f32 0x358637BD#32 = ((epsR : ℝ) : EReal) := by
  unfold epsR
  simp [Ideal.ofBits, Ideal.ieee, -EReal.coe_mul]
theorem scale_eq : Ideal.ofBits .f32 0x3DB504F3#32 = ((scaleR : ℝ) : EReal) := by
  unfold scaleR
  simp [Ideal.ofBits, Ideal.ieee, -EReal.coe_mul]
theorem lanes_eq : Ideal.ofBits .f32 0x43000000#32 = (((128 : ℝ) : ℝ) : EReal) := by
  simp [Ideal.ofBits, Ideal.ieee, -EReal.coe_mul]; norm_num

/-! ## Rows over their lengths -/

/-- A row over its length. -/
def unitF (f : ℕ → ℕ → ℝ) (i d : ℕ) : ℝ := f i d * (Real.sqrt (∑ e ∈ range 128, f i e * f i e + epsR))⁻¹

theorem sq_pos (f : ℕ → ℕ → ℝ) (i : ℕ) : 0 < ∑ e ∈ range 128, f i e * f i e + epsR :=
  add_pos_of_nonneg_of_pos (Finset.sum_nonneg fun _ _ => mul_self_nonneg _) epsR_pos

theorem IsM.wide {A : FVec Ideal S256x1 .f32} {f : ℕ → ℕ → ℝ} (h : IsM (M := 256) (N := 1) A f) :
    IsM (M := 256) (N := 128) (wide A) fun i _ => f i 0 := IsM.colTo (M := 256) (N := 128) (by norm_num) h _

theorem IsM.unitRow {A : FVec Ideal S256x128 .f32} {f : ℕ → ℕ → ℝ} (h : IsM (M := 256) (N := 128) A f) :
    IsM (M := 256) (N := 128) (unitRow A) (unitF f) :=
  h.mul (IsM.wide ((h.sumSq.add (IsM.splat (M := 256) (N := 1) eps_eq)).rsqrt fun i _ => sq_pos f i))

theorem IsM.qRow {A : FVec Ideal S256x128 .f32} {f : ℕ → ℕ → ℝ} (h : IsM (M := 256) (N := 128) A f) :
    IsM (M := 256) (N := 128) (qRow A) fun i d => unitF f i d * scaleR :=
  h.unitRow.mul (IsM.splat (M := 256) (N := 128) scale_eq)

/-! ## The numbers of one head -/

/-- The decay's logarithm summed inside a token's chunk, up to and with the token. -/
def cumC (g : ℕ → ℝ) (i : ℕ) : ℝ := ∑ n ∈ range (i % 64 + 1), g (64 * (i / 64) + n)

section Real
variable (q k v : ℕ → ℕ → ℝ) (β g : ℕ → ℝ)

def eF (i j : ℕ) : ℝ := Real.exp (min (cumC g i - cumC g j) 0)
def aF (i j : ℕ) : ℝ := (∑ d ∈ range 128, k i d * β i * k j d) * (if i / 64 = j / 64 ∧ j < i then eF g i j else 0)
def qkF (i j : ℕ) : ℝ := (∑ d ∈ range 128, q i d * k j d) * (if i / 64 = j / 64 ∧ j ≤ i then eF g i j else 0)

/-- A chunk's rows of `x`, the lanes a finite type. -/
def rowsOf (x : ℕ → ℕ → ℝ) (c : ℕ) (i : ℕ) (d : Fin 128) : ℝ := x (64 * c + i) d

/-- The state after `n` tokens from `S`, as a function of plain numbers. -/
def stateAt (S : ℕ → ℕ → ℝ) (n d e : ℕ) : ℝ :=
  Wy.run (fun i (d : Fin 128) => k i d) v β g (fun d e => S d e) n (Fin.ofNat 128 d) e

theorem cum_chunk (c i : ℕ) (hi : i < 64) : Wy.cum (fun n => g (64 * c + n)) i = cumC g (64 * c + i) := by
  unfold Wy.cum cumC
  rw [show (64 * c + i) % 64 = i by omega, show (64 * c + i) / 64 = c by omega]

theorem amat_chunk (c i j : ℕ) (hi : i < 64) (hj : j < 64) :
    Wy.amat (rowsOf k c) (fun n => β (64 * c + n)) (fun n => g (64 * c + n)) i j = aF k β g (64 * c + i) (64 * c + j) := by
  unfold Wy.amat aF eF
  rw [cum_chunk g c i hi, cum_chunk g c j hj, Finset.sum_range]
  have e : ((64 * c + i) / 64 = (64 * c + j) / 64 ∧ 64 * c + j < 64 * c + i) = (j < i) := propext (by omega)
  simp only [e]
  rfl

theorem qkmat_chunk (c i j : ℕ) (hi : i < 64) (hj : j < 64) :
    Wy.qkmat (rowsOf k c) (rowsOf q c) (fun n => g (64 * c + n)) i j = qkF q k g (64 * c + i) (64 * c + j) := by
  unfold Wy.qkmat qkF eF
  rw [cum_chunk g c i hi, cum_chunk g c j hj, Finset.sum_range]
  have e : ((64 * c + i) / 64 = (64 * c + j) / 64 ∧ 64 * c + j ≤ 64 * c + i) = (j ≤ i) := propext (by omega)
  simp only [e]
  rfl

theorem mix_chunk (c i : ℕ) (hc : c < 4) (hi : i < 64) (x : ℕ → ℝ) :
    ∑ j ∈ range 256, qkF q k g (64 * c + i) j * x j = ∑ j ∈ range 64, Wy.qkmat (rowsOf k c) (rowsOf q c) (fun n => g (64 * c + n)) i j * x (64 * c + j) := by
  rw [show 256 = 64 * 4 from rfl, Wy.sum_chunk (fun j => qkF q k g (64 * c + i) j * x j) 4 c hc fun j hj => by
    unfold qkF
    rw [if_neg (by omega), mul_zero, zero_mul]]
  exact Finset.sum_congr rfl fun j hj => by rw [qkmat_chunk q k g c i j hi (Finset.mem_range.mp hj)]

variable (S U W : ℕ → ℕ → ℝ) (hg : ∀ i, g i ≤ 0)
  (hu : ∀ c, c < 4 → ∀ i, i < 64 → ∀ e, U (64 * c + i) e + ∑ j ∈ range 64, aF k β g (64 * c + i) (64 * c + j) * U (64 * c + j) e
    = v (64 * c + i) e * β (64 * c + i))
  (hw : ∀ c, c < 4 → ∀ i, i < 64 → ∀ e, W (64 * c + i) e + ∑ j ∈ range 64, aF k β g (64 * c + i) (64 * c + j) * W (64 * c + j) e
    = k (64 * c + i) e * β (64 * c + i) * Real.exp (cumC g (64 * c + i)))
include hg hu hw

/-- A token's read-out. -/
def readAt (i e : ℕ) : ℝ := ∑ d ∈ range 128, stateAt k v β g S (i + 1) d e * q i d

omit hg hu hw in
theorem stateAt_add (c n d e : ℕ) : stateAt k v β g S (64 * c + n) d e
    = Wy.run (rowsOf k c) (fun i => v (64 * c + i)) (fun i => β (64 * c + i)) (fun i => g (64 * c + i))
        (fun d e => stateAt k v β g S (64 * c) d e) n (Fin.ofNat 128 d) e := by
  unfold stateAt
  rw [Wy.run_add]
  simp only [ofNat_val]
  rfl

theorem out_chunk (c i : ℕ) (hc : c < 4) (hi : i < 64) (e : ℕ) :
    (∑ d ∈ range 128, (q (64 * c + i) d * Real.exp (cumC g (64 * c + i)) - ∑ j ∈ range 256, qkF q k g (64 * c + i) j * W j d) * stateAt k v β g S (64 * c) d e)
      + ∑ j ∈ range 256, qkF q k g (64 * c + i) j * U j e = readAt q k v β g S (64 * c + i) e := by
  have h := Wy.chunk_out (rowsOf k c) (rowsOf q c) (fun i => v (64 * c + i)) (fun i => β (64 * c + i)) (fun i => g (64 * c + i))
    (fun d e => stateAt k v β g S (64 * c) d e) (fun i => U (64 * c + i)) (rowsOf W c) (fun i => hg _)
    (fun i hi e => by
      rw [← hu c hc i hi e]
      congr 1
      exact Finset.sum_congr rfl fun j hj => by rw [amat_chunk k β g c i j hi (Finset.mem_range.mp hj)])
    (fun i hi d => by
      rw [cum_chunk g c i hi]
      refine Eq.trans ?_ (hw c hc i hi d)
      refine congrArg₂ (· + ·) rfl ?_
      exact Finset.sum_congr rfl fun j hj => by rw [amat_chunk k β g c i j hi (Finset.mem_range.mp hj)]; rfl)
    i hi e
  unfold readAt
  simp only [mix_chunk q k g c i hc hi, Nat.add_assoc, stateAt_add k v β g S c (i + 1)]
  rw [Finset.sum_range (n := 128), Finset.sum_range (n := 128)]
  simp only [ofNat_val]
  rw [cum_chunk g c i hi] at h
  exact h.symm

theorem state_chunk (c : ℕ) (hc : c < 4) (d e : ℕ) (hd : d < 128) :
    stateAt k v β g S (64 * c) d e * Real.exp (cumC g (64 * c + 63))
      - (∑ d' ∈ range 128, (∑ j ∈ range 64, k (64 * c + j) d * Real.exp (cumC g (64 * c + 63) - cumC g (64 * c + j)) * W (64 * c + j) d')
          * stateAt k v β g S (64 * c) d' e)
      + ∑ j ∈ range 64, k (64 * c + j) d * Real.exp (cumC g (64 * c + 63) - cumC g (64 * c + j)) * U (64 * c + j) e
      = stateAt k v β g S (64 * c + 64) d e := by
  have h := Wy.chunk_state (rowsOf k c) (fun i => v (64 * c + i)) (fun i => β (64 * c + i)) (fun i => g (64 * c + i))
    (fun d e => stateAt k v β g S (64 * c) d e) (fun i => U (64 * c + i)) (rowsOf W c) (fun i => hg _)
    (fun i hi e => by
      rw [← hu c hc i hi e]
      congr 1
      exact Finset.sum_congr rfl fun j hj => by rw [amat_chunk k β g c i j hi (Finset.mem_range.mp hj)])
    (fun i hi d => by
      rw [cum_chunk g c i hi]
      refine Eq.trans ?_ (hw c hc i hi d)
      refine congrArg₂ (· + ·) rfl ?_
      exact Finset.sum_congr rfl fun j hj => by rw [amat_chunk k β g c i j hi (Finset.mem_range.mp hj)]; rfl)
    ⟨d, hd⟩ e
  have hfd : Fin.ofNat 128 d = ⟨d, hd⟩ := Fin.ext (Nat.mod_eq_of_lt hd)
  rw [stateAt_add k v β g S c 64 d e, hfd, h, cum_chunk g c 63 (by norm_num), Finset.sum_range]
  have e1 : ∀ (x : ℕ → ℝ), ∑ j ∈ range 64, rowsOf k c j ⟨d, hd⟩ * Real.exp (cumC g (64 * c + 63) - Wy.cum (fun i => g (64 * c + i)) j) * x j
      = ∑ j ∈ range 64, k (64 * c + j) d * Real.exp (cumC g (64 * c + 63) - cumC g (64 * c + j)) * x j := fun x =>
    Finset.sum_congr rfl fun j hj => by rw [cum_chunk g c j (Finset.mem_range.mp hj)]; rfl
  rw [e1]
  simp only [e1]
  rfl

end Real

/-! ## The pieces of one head -/

section Pieces
variable {φ : FTy} {o : ℕ}

theorem decay_isM {A : FVec Ideal S256x1 .f32} {B : FVec Ideal S1x256 .f32} {a b : ℕ → ℕ → ℝ} (h : IsM (M := 256) (N := 1) A a)
    (h' : IsM (M := 1) (N := 256) B b) : IsM (M := 256) (N := 256) (decay A B) fun i j => Real.exp (min (a i 0 - b 0 j) 0) :=
  (((IsM.colTo (M := 256) (N := 256) (by norm_num) h _).sub (IsM.rowTo (M := 256) (N := 256) h' _)).min (IsM.splat zero_eq)).exp

theorem pairs_isM {A B : FVec Ideal S256x128 .f32} {E : FVec Ideal S256x256 .f32} {a b e : ℕ → ℕ → ℝ} {m : IVec S256x256 1} {p : ℕ → ℕ → Prop}
    [∀ i j, Decidable (p i j)] (hm : IsMask (M := 256) (N := 256) m p) (h : IsM (M := 256) (N := 128) A a) (h' : IsM (M := 256) (N := 128) B b)
    (he : IsM (M := 256) (N := 256) E e) :
    IsM (M := 256) (N := 256) (pairs m A B E) fun i j => (∑ d ∈ range 128, a i d * b j d) * (if p i j then e i j else 0) :=
  (IsM.mmT (h.trunc Gen.bitsLt_bf16_f32) (h'.trunc Gen.bitsLt_bf16_f32) dot_S256x128_S256x128_S256x256_1_1_0_0_n_n rfl).mul
    (IsM.select hm he (IsM.splat zero_eq))

theorem mix_isM {A : FVec Ideal S256x256 .bf16} {B : FVec Ideal S256x128 .bf16} {a b : ℕ → ℕ → ℝ} (h : IsM (M := 256) (N := 256) A a)
    (h' : IsM (M := 256) (N := 128) B b) : IsM (M := 256) (N := 128) (mix A B) fun i j => ∑ k ∈ range 256, a i k * b k j :=
  IsM.mm h h' dot_S256x256_S256x128_S256x128_1_0_0_1_n_n rfl

theorem gEnd_isM {A : FVec Ideal S256x128 .f32} {a : ℕ → ℕ → ℝ} (h : IsM (M := 256) (N := 128) A a) :
    IsM (M := 256) (N := 128) (gEnd A) fun i j => a (64 * (i / 64) + 63) j := by
  have row : ∀ (o : ℕ) (hs : S256x128.Slices ![o, 0] S1x128),
      IsM (M := 64) (N := 128) (bRow (extractStridedSlice S1x128 ![o, 0] A hs)) fun _ j => a o j := fun o hs =>
    IsM.rowTo (M := 64) (N := 128) ((IsM.rowsFrom (M' := 1) h hs).castSelf _) _
  exact IsM.four (P := ![bRow (extractStridedSlice S1x128 ![63, 0] A Gen.slices_S256x128_o63_0_S1x128),
      bRow (extractStridedSlice S1x128 ![127, 0] A Gen.slices_S256x128_o127_0_S1x128),
      bRow (extractStridedSlice S1x128 ![191, 0] A Gen.slices_S256x128_o191_0_S1x128),
      bRow (extractStridedSlice S1x128 ![255, 0] A Gen.slices_S256x128_o255_0_S1x128)])
    (f := fun c _ j => a (64 * c.val + 63) j)
    (fun c => match c with
      | ⟨0, _⟩ => row 63 Gen.slices_S256x128_o63_0_S1x128
      | ⟨1, _⟩ => row 127 Gen.slices_S256x128_o127_0_S1x128
      | ⟨2, _⟩ => row 191 Gen.slices_S256x128_o191_0_S1x128
      | ⟨3, _⟩ => row 255 Gen.slices_S256x128_o255_0_S1x128)
    (fun c i hi j _ => by
      show a (64 * c.val + 63) j = a (64 * ((64 * c.val + i) / 64) + 63) j
      rw [show (64 * c.val + i) / 64 = c.val by omega]) _

theorem chunkMul_isM {K W U : FVec Ideal S256x128 .bf16} {k w u : ℕ → ℕ → ℝ} (hk : IsM (M := 256) (N := 128) K k)
    (hw : IsM (M := 256) (N := 128) W w) (hu : IsM (M := 256) (N := 128) U u) (h : S256x128.Slices ![o, 0] S64x128) :
    IsM (M := 128) (N := 256) (chunkMul K W U o h) fun i j => ∑ n ∈ range 64, k (o + n) i * (if j < 128 then w (o + n) j else u (o + n) (j - 128)) :=
  IsM.mmTl (IsM.rowsFrom (M' := 64) hk h)
    (IsM.beside (N₁ := 128) (N₂ := 128) (N := 256) rfl (IsM.rowsFrom (M' := 64) hw h) (IsM.rowsFrom (M' := 64) hu h) _)

theorem chunkRead_isM {Q : FVec Ideal S256x128 .bf16} {W : FVec Ideal S128x256 .f32} {S : FVec Ideal S128x128 .f32} {q w s : ℕ → ℕ → ℝ}
    (hq : IsM (M := 256) (N := 128) Q q) (hw : IsM (M := 128) (N := 256) W w) (hs : IsM (M := 128) (N := 128) S s)
    (h : S256x128.Slices ![o, 0] S64x128) :
    IsM (M := 192) (N := 128) (chunkRead Q W S o h) fun i j => ∑ d ∈ range 128, (if i < 64 then q (o + i) d else w (i - 64) d) * s d j := by
  refine (IsM.mm (IsM.below (M₁ := 64) (M₂ := 128) (M := 192) rfl (IsM.rowsFrom (M' := 64) hq h)
      ((IsM.rowsFrom (M' := 128) (N' := 128) (o := 0) hw Gen.slices_S128x256_o0_0_S128x128).trunc Gen.bitsLt_bf16_f32) _)
      (hs.trunc Gen.bitsLt_bf16_f32) dot_S192x128_S128x128_S192x128_1_0_0_1_n_n rfl).congr fun i _ j _ => ?_
  simp only [Nat.zero_add]

theorem chunkOut_isM {R : FVec Ideal S192x128 .f32} {U : FVec Ideal S256x128 .f32} {r u : ℕ → ℕ → ℝ}
    (hr : IsM (M := 192) (N := 128) R r) (hu : IsM (M := 256) (N := 128) U u) (h : S256x128.Slices ![o, 0] S64x128) :
    IsM (M := 64) (N := 128) (chunkOut R U o h) fun i j => r i j + u (o + i) j := by
  refine ((IsM.rowsFrom (M' := 64) (N' := 128) (o := 0) hr Gen.slices_S192x128_o0_0_S64x128).add (IsM.rowsFrom (M' := 64) hu h)).congr
    fun i _ j _ => ?_
  simp only [Nat.zero_add]

theorem chunkState_isM {S : FVec Ideal S128x128 .f32} {E : FVec Ideal S256x128 .f32} {R : FVec Ideal S192x128 .f32} {W : FVec Ideal S128x256 .f32}
    {s e r w : ℕ → ℕ → ℝ} (hs : IsM (M := 128) (N := 128) S s) (he : IsM (M := 256) (N := 128) E e) (hr : IsM (M := 192) (N := 128) R r)
    (hw : IsM (M := 128) (N := 256) W w) (hh : ℕ) (h : S256x128.Slices ![o, hh] S1x1) :
    IsM (M := 128) (N := 128) (chunkState S E R W o hh h) fun i j => s i j * e o hh - r (64 + i) j + w i (128 + j) :=
  ((hs.mul (IsM.cellTo (M := 128) (N := 128) (IsM.slice (M' := 1) (N' := 1) he h) _)).sub
      (IsM.rowsFrom (M' := 128) (N' := 128) hr Gen.slices_S192x128_o64_0_S128x128)).add
    (IsM.lanes (M' := 128) (N' := 128) hw Gen.slices_S128x256_o0_128_S128x128)

end Pieces

/-! ## The head -/

/-- What the heads share holds real numbers: the decays summed inside their chunks. -/
structure SharedIs (T : Shared Ideal) (Q K V B g : ℕ → ℕ → ℝ) : Prop where
  q : IsM (M := 256) (N := 1024) T.q Q
  k : IsM (M := 256) (N := 1024) T.k K
  v : IsM (M := 256) (N := 1024) T.v V
  beta : IsM (M := 256) (N := 128) T.beta B
  gc : IsM (M := 256) (N := 128) T.g fun i h => cumC (fun n => g n h) i
  neg : ∀ i h, g i h ≤ 0

/-- A head's queries, keys and values out of the tile's lanes. -/
def headQ (Q : ℕ → ℕ → ℝ) (o i d : ℕ) : ℝ := unitF (fun i d => Q i (o + d)) i d * scaleR
def headK (K : ℕ → ℕ → ℝ) (o i d : ℕ) : ℝ := unitF (fun i d => K i (o + d)) i d

section Head
variable {T : Shared Ideal} {Q K V B g : ℕ → ℕ → ℝ} (H : SharedIs T Q K V B g) (p : At)
include H

/-- Every piece of the head, with the systems its `u` and `w` solve. -/
theorem head_solved : ∃ U W : ℕ → ℕ → ℝ,
    (∀ c, c < 4 → ∀ i, i < 64 → ∀ e, U (64 * c + i) e
      + ∑ j ∈ range 64, aF (headK K p.o) (fun i => B i p.b) (fun i => g i p.hh) (64 * c + i) (64 * c + j) * U (64 * c + j) e
        = V (64 * c + i) (p.o + e) * B (64 * c + i) p.b) ∧
    (∀ c, c < 4 → ∀ i, i < 64 → ∀ e, W (64 * c + i) e
      + ∑ j ∈ range 64, aF (headK K p.o) (fun i => B i p.b) (fun i => g i p.hh) (64 * c + i) (64 * c + j) * W (64 * c + j) e
        = headK K p.o (64 * c + i) e * B (64 * c + i) p.b * Real.exp (cumC (fun n => g n p.hh) (64 * c + i))) ∧
    IsM (M := 256) (N := 128) (uH T p) U ∧ IsM (M := 256) (N := 128) (wH T p) W ∧
    IsM (M := 256) (N := 128) (qkuH T p) (fun i e => ∑ j ∈ range 256, qkF (headQ Q p.o) (headK K p.o) (fun i => g i p.hh) i j * U j e) ∧
    IsM (M := 256) (N := 128) (qpH T p) (fun i d => headQ Q p.o i d * Real.exp (cumC (fun n => g n p.hh) i)
      - ∑ j ∈ range 256, qkF (headQ Q p.o) (headK K p.o) (fun i => g i p.hh) i j * W j d) ∧
    IsM (M := 256) (N := 128) (kdH T p) (fun i d => headK K p.o i d
      * Real.exp (cumC (fun n => g n p.hh) (64 * (i / 64) + 63) - cumC (fun n => g n p.hh) i)) := by
  have hq : IsM (M := 256) (N := 128) (qH T p) (headQ Q p.o) := (IsM.lanes (M' := 256) (N' := 128) H.q p.ho).qRow
  have hk : IsM (M := 256) (N := 128) (kH T p) (headK K p.o) := (IsM.lanes (M' := 256) (N' := 128) H.k p.ho).unitRow
  have hb : IsM (M := 256) (N := 128) (btH T p) fun i _ => B i p.b := (IsM.lanes (M' := 256) (N' := 1) H.beta p.hb).wide
  have he : IsM (M := 256) (N := 256) (eH T p) (eF fun i => g i p.hh) :=
    decay_isM (IsM.lanes (M' := 256) (N' := 1) H.gc p.hc) (IsM.rowsFrom (M' := 1) (N' := 256) (IsM.transpose (M := 256) (N := 128) H.gc _) p.hr)
  have ha : IsM (M := 256) (N := 256) (aH T p) (aF (headK K p.o) (fun i => B i p.b) (fun i => g i p.hh)) :=
    pairs_isM strict_mask (hk.mul hb) hk he
  have hqk : IsM (M := 256) (N := 256) (qkH T p) (qkF (headQ Q p.o) (headK K p.o) (fun i => g i p.hh)) :=
    pairs_isM tril_mask hq hk he
  have hec : IsM (M := 256) (N := 128) (ecH T p) fun i _ => Real.exp (cumC (fun n => g n p.hh) i) :=
    (IsM.lanes (M' := 256) (N' := 1) H.gc.exp p.hc).wide
  have low : ∀ i j, aF (headK K p.o) (fun i => B i p.b) (fun i => g i p.hh) i j ≠ 0 → i / 64 = j / 64 ∧ j < i := fun i j hne => by
    by_contra hn
    exact hne (by unfold aF; rw [if_neg hn, mul_zero])
  obtain ⟨U, hU, sU⟩ := solve_isM (X := vbH T p) ha ((IsM.lanes (M' := 256) (N' := 128) H.v p.ho).mul hb) low
  obtain ⟨W, hW, sW⟩ := solve_isM (X := kbgH T p) ha ((hk.mul hb).mul hec) low
  exact ⟨U, W, sU, sW, hU, hW, mix_isM hqk hU, (hq.mul hec).sub (mix_isM hqk hW),
    hk.mul (IsM.lanes (M' := 256) (N' := 1) ((gEnd_isM H.gc).sub H.gc).exp p.hc).wide⟩

/-- A head's state after `n` of the tile's tokens, from `S`; and a token's read-out. -/
def headState (K V B g : ℕ → ℕ → ℝ) (p : At) (S : ℕ → ℕ → ℝ) (n : ℕ) : ℕ → ℕ → ℝ :=
  stateAt (headK K p.o) (fun i e => V i (p.o + e)) (fun i => B i p.b) (fun i => g i p.hh) S n
def headRead (Q K V B g : ℕ → ℕ → ℝ) (p : At) (S : ℕ → ℕ → ℝ) : ℕ → ℕ → ℝ :=
  readAt (headQ Q p.o) (headK K p.o) (fun i e => V i (p.o + e)) (fun i => B i p.b) (fun i => g i p.hh) S

/-- One chunk of the head. -/
theorem head_chunk (S : ℕ → ℕ → ℝ) (c o : ℕ) (hc : c < 4) (ho : o = 64 * c) (h : S256x128.Slices ![o, 0] S64x128) (h1 : S256x128.Slices ![o, p.hh] S1x1)
    {st : FVec Ideal S128x128 .f32} (hst : IsM (M := 128) (N := 128) st (headState K V B g p S o)) :
    IsM (M := 64) (N := 128) (oH T p st o h) (fun i e => headRead Q K V B g p S (o + i) e) ∧
      IsM (M := 128) (N := 128) (stH T p st o h h1) (headState K V B g p S (o + 64)) := by
  obtain ⟨U, W, sU, sW, hU, hW, hqu, hqp, hkd⟩ := head_solved H p
  have hm := chunkMul_isM hkd hW hU h
  have hr := chunkRead_isM hqp hm hst h
  subst ho
  constructor
  · refine (chunkOut_isM hr hqu h).congr fun i hi e _ => ?_
    refine Eq.trans ?_ (out_chunk (headQ Q p.o) (headK K p.o) (fun i e => V i (p.o + e)) (fun i => B i p.b) (fun i => g i p.hh) S U W
      (fun i => H.neg i _) sU sW c i hc hi e)
    simp only [if_pos hi]
    rfl
  · refine (chunkState_isM hst (gEnd_isM H.gc).exp hr hm p.hh h1).congr fun d hd e _ => ?_
    refine Eq.trans ?_ (state_chunk (headK K p.o) (fun i e => V i (p.o + e)) (fun i => B i p.b) (fun i => g i p.hh) S U W
      (fun i => H.neg i _) sU sW c hc d e hd)
    have e64 : ∀ n, n < 64 → 64 * ((64 * c + n) / 64) + 63 = 64 * c + 63 := fun n hn => by omega
    have en : ¬ 64 + d < 64 := by omega
    have ee : ¬ 128 + e < 128 := by omega
    simp only [if_neg en, if_neg ee, Nat.add_sub_cancel_left]
    rw [show 64 * (64 * c / 64) + 63 = 64 * c + 63 by omega]
    refine congrArg₂ (· + ·) (congrArg₂ (· - ·) rfl (Finset.sum_congr rfl fun d' hd' => ?_)) (Finset.sum_congr rfl fun n hn => ?_)
    · rw [Finset.sum_congr rfl fun n hn => by rw [if_pos (Finset.mem_range.mp hd'), e64 n (Finset.mem_range.mp hn)]]
      rfl
    · rw [e64 n (Finset.mem_range.mp hn)]

/-- The head over the whole tile: every row, and the state it leaves. -/
theorem head_tile (S : ℕ → ℕ → ℝ) {st : FVec Ideal S128x128 .f32} (hst : IsM (M := 128) (N := 128) st S) :
    IsM (M := 256) (N := 128) (rowsH T p st) (headRead Q K V B g p S) ∧
      IsM (M := 128) (N := 128) (st4 T p st) (headState K V B g p S 256) := by
  have h0 : IsM (M := 128) (N := 128) st (headState K V B g p S 0) := hst.congr fun d hd e _ => by
    show _ = S (d % 128) e
    rw [Nat.mod_eq_of_lt hd]
  have c0 := head_chunk H p S 0 0 (by norm_num) rfl Gen.slices_S256x128_o0_0_S64x128 p.h0 h0
  have c1 := head_chunk H p S 1 64 (by norm_num) rfl Gen.slices_S256x128_o64_0_S64x128 p.h1 c0.2
  have c2 := head_chunk H p S 2 128 (by norm_num) rfl Gen.slices_S256x128_o128_0_S64x128 p.h2 c1.2
  have c3 := head_chunk H p S 3 192 (by norm_num) rfl Gen.slices_S256x128_o192_0_S64x128 p.h3 c2.2
  refine ⟨?_, c3.2⟩
  exact IsM.four (P := ![oH T p st 0 Gen.slices_S256x128_o0_0_S64x128, oH T p (st1 T p st) 64 Gen.slices_S256x128_o64_0_S64x128,
      oH T p (st2 T p st) 128 Gen.slices_S256x128_o128_0_S64x128, oH T p (st3 T p st) 192 Gen.slices_S256x128_o192_0_S64x128])
    (f := fun c i j => headRead Q K V B g p S (64 * c.val + i) j)
    (fun c => match c with
      | ⟨0, _⟩ => c0.1
      | ⟨1, _⟩ => c1.1
      | ⟨2, _⟩ => c2.1
      | ⟨3, _⟩ => c3.1)
    (fun c i hi j _ => rfl) _

end Head

end Cert.Gdn

end
-- ==== Proof.Gates.lean ====
module

public import proofs.«01_k».proof.Proof.Head

/-! The parts of a tile that its heads share: the short convolution with its gate, and the decays. -/

@[expose] public section

noncomputable section

namespace Cert.Gdn

open Cert.KernelIdeal Idealize.ShloMosaic.ValueIdx Finset
open Idealize.ShloMosaic hiding ix0 ix1 ix2 ix3 ix4 ix5 eq_ix1 eq_ix2 eq_ix3 eq_ix4

/-! ## The decays -/

/-- A token's decay as a logarithm, from its lane's parameters. -/
def decayF (al dt a : ℝ) : ℝ := (0 - Real.exp al) * (max (a + dt) 0 + Real.log (1 + Real.exp (0 - |a + dt|)))

theorem decayF_neg (al dt a : ℝ) : decayF al dt a ≤ 0 := by
  unfold decayF
  have h1 : 0 - Real.exp al ≤ 0 := by linarith [Real.exp_pos al]
  have h2 : 0 ≤ max (a + dt) 0 := le_max_right _ _
  have h3 : 0 ≤ Real.log (1 + Real.exp (0 - |a + dt|)) := Real.log_nonneg (by linarith [Real.exp_pos (0 - |a + dt|)])
  exact mul_nonpos_of_nonpos_of_nonneg h1 (add_nonneg h2 h3)

theorem softplus_isM {A : FVec Ideal S256x128 .f32} {a : ℕ → ℕ → ℝ} (h : IsM (M := 256) (N := 128) A a) :
    IsM (M := 256) (N := 128) (softplus A) fun i j => max (a i j) 0 + Real.log (1 + Real.exp (0 - |a i j|)) :=
  (h.max (IsM.splat zero_eq)).add
    (((IsM.splat (M := 256) (N := 128) one_eq).add ((IsM.splat (M := 256) (N := 128) zero_eq).sub h.abs).exp).log
      fun i j => by linarith [Real.exp_pos (0 - |a i j|)])

theorem g0_isM {A : Vec Ideal S1x256x128 .f32} {L D : Vec Ideal S1x1x128 .f32} {a l d : ℕ → ℕ → ℝ} (ha : IsM1 (M := 256) (N := 128) A a)
    (hl : IsM1 (M := 1) (N := 128) L l) (hd : IsM1 (M := 1) (N := 128) D d) :
    IsM (M := 256) (N := 128) (g0 A L D) fun i j => decayF (l 0 j) (d 0 j) (a i j) :=
  (IsM.rowTo (M := 256) (N := 128) ((IsM.splat zero_eq).sub (hl.drop _).exp) _).mul
    (softplus_isM ((ha.drop _).add (IsM.rowTo (M := 256) (N := 128) (hd.drop _) _)))

theorem rowIn_word : ∀ i : Fin 256, (BitVec.ofNat 32 i.val &&& 63#32) = BitVec.ofNat 32 (i.val % 64) := by
  decide +kernel

theorem rowIn_at (i : Fin 256) (j : Fin 128) : rowIn (ix2 i j) = BitVec.ofNat 32 (i.val % 64) := by
  show iota .tc S256x128 32 [0] Gen.iota_S256x128_d0_w32 (ix2 i j) &&& 63#32 = _
  rw [iota_single_apply]
  exact rowIn_word i

theorem dblStep_isM {A : FVec Ideal S256x128 .f32} {γ : ℕ → ℕ → ℝ} (n : ℕ) (hn : n < 6) (s : BitVec 32) (hs : s = BitVec.ofNat 32 (2 ^ n))
    (h : IsM (M := 256) (N := 128) A fun i j => Wy.dbl (fun r => γ r j) n i) :
    IsM (M := 256) (N := 128) (dblStep s A) fun i j => Wy.dbl (fun r => γ r j) (n + 1) i := by
  have hp : 2 ^ n ≤ 32 := by
    have := Nat.pow_le_pow_right (show 0 < 2 by norm_num) (show n ≤ 5 by omega)
    omega
  have hm : IsMask (M := 256) (N := 128) (cmpi .sge rowIn (broadcast S256x128 s)) fun i _ => 2 ^ n ≤ i % 64 := fun i j => by
    show BitVec.ofBool (s.sle (rowIn (ix2 i j))) = 1#1 ↔ _
    rw [ofBool_one, rowIn_at, hs, sle_small _ _ (by omega) (by omega), decide_eq_true_iff]
  refine (h.add (IsM.select hm (h.rotate (s := 2 ^ n) (by rw [hs, BitVec.toNat_ofNat, Nat.mod_eq_of_lt (by omega)]) (by omega)
    Gen.rotates_S256x128_d0) (IsM.splat zero_eq))).congr fun i hi j _ => ?_
  show _ = Wy.dbl (fun r => γ r j) n i + if 2 ^ n ≤ i % 64 then Wy.dbl (fun r => γ r j) n (i - 2 ^ n) else 0
  beta_reduce
  by_cases hc : 2 ^ n ≤ i % 64
  · have e : (i + 256 - 2 ^ n) % 256 = i - 2 ^ n := by
      generalize 2 ^ n = m at hc hp ⊢
      omega
    rw [if_pos hc, if_pos hc, e]
  · rw [if_neg hc, if_neg hc]

theorem gCum_isM {A : FVec Ideal S256x128 .f32} {γ : ℕ → ℕ → ℝ} (h : IsM (M := 256) (N := 128) A γ) :
    IsM (M := 256) (N := 128) (gCum A) fun i j => cumC (fun n => γ n j) i := by
  have h0 : IsM (M := 256) (N := 128) A fun i j => Wy.dbl (fun r => γ r j) 0 i := h
  refine (dblStep_isM 5 (by norm_num) _ rfl (dblStep_isM 4 (by norm_num) _ rfl (dblStep_isM 3 (by norm_num) _ rfl
    (dblStep_isM 2 (by norm_num) _ rfl (dblStep_isM 1 (by norm_num) _ rfl (dblStep_isM 0 (by norm_num) _ rfl h0)))))).congr fun i _ j _ => ?_
  have := Wy.dbl_six (fun r => γ r j) (i / 64) (i % 64) (Nat.mod_lt _ (by norm_num))
  rw [Nat.div_add_mod] at this
  exact this

/-! ## The short convolution -/

/-- Four taps over the rows `e`, eight of which lie before the tile. -/
def convF (w e : ℕ → ℕ → ℝ) (i j : ℕ) : ℝ := w 3 j * e (8 + i) j + w 2 j * e (7 + i) j + w 1 j * e (6 + i) j + w 0 j * e (5 + i) j

/-- A number times its logistic. -/
def siluF (y : ℝ) : ℝ := y * (1 + Real.exp (-y))⁻¹

theorem shiftMul_isM {S : Vec Ideal S1x256x256 .bf16} {X : FVec Ideal S256x1024 .bf16} {x : ℕ → ℕ → ℝ} (d : ℕ)
    (hs : IsM1 (M := 256) (N := 256) S fun i j => if j + d = i then 1 else 0) (hx : IsM (M := 256) (N := 1024) X x) :
    IsM (M := 256) (N := 1024) (shiftMul S X) fun i j => if d ≤ i then x (i - d) j else 0 := by
  refine (IsM.mm (hs.drop Gen.shapeCasts_S1x256x256_S256x256) hx dot_S256x256_S256x1024_S256x1024_1_0_0_1_n_n rfl).congr fun i hi j _ => ?_
  by_cases hd : d ≤ i
  · rw [if_pos hd, Finset.sum_eq_single (i - d)]
    · rw [if_pos (by omega), one_mul]
    · intro b _ hb
      rw [if_neg (by omega), zero_mul]
    · intro hn
      exact absurd (Finset.mem_range.mpr (by omega)) hn
  · rw [if_neg hd]
    refine Finset.sum_eq_zero fun b _ => ?_
    rw [if_neg (by omega), zero_mul]

theorem tap_isM {W : Vec Ideal S1x1x1024 .f32} {X : FVec Ideal S256x1024 .f32} {w x : ℕ → ℕ → ℝ} (hw : IsM1 (M := 1) (N := 1024) W w)
    (hx : IsM (M := 256) (N := 1024) X x) : IsM (M := 256) (N := 1024) (tap W X) fun i j => w 0 j * x i j :=
  (IsM.rowTo (M := 256) (N := 1024) (hw.drop _) _).mul hx

theorem halo_isM {W : Vec Ideal S1x1x1024 .f32} {P : FVec Ideal S8x1024 .f32} {w p : ℕ → ℕ → ℝ} (d : ℕ) (hd : d < 8) (s : BitVec 32)
    (hs : s = BitVec.ofNat 32 d) (hw : IsM1 (M := 1) (N := 1024) W w) (hp : IsM (M := 8) (N := 1024) P p) :
    IsM (M := 8) (N := 1024) (halo s W P) fun i j => w 0 j * if i < d then p ((i + 8 - d) % 8) j else 0 := by
  have hm : IsMask (M := 8) (N := 1024) (cmpi .slt row8 (broadcast S8x1024 s)) fun i _ => i < d := fun i j => by
    show BitVec.ofBool ((iota .tc S8x1024 32 [0] Gen.iota_S8x1024_d0_w32 (ix2 i j)).slt s) = 1#1 ↔ _
    have hi := i.isLt
    rw [ofBool_one, iota_single_apply, hs]
    show (BitVec.ofNat 32 i.val).slt _ = true ↔ _
    rw [slt_small _ _ (by omega) (by omega), decide_eq_true_iff]
  exact (IsM.rowTo (M := 8) (N := 1024) (hw.drop _) _).mul (IsM.select hm (hp.rotate (s := d)
    (by rw [hs, BitVec.toNat_ofNat, Nat.mod_eq_of_lt (by omega)]) hd Gen.rotates_S8x1024_d0) (IsM.splat zero_eq))

theorem conv_isM {X : Vec Ideal S1x256x1024 .bf16} {P : Vec Ideal S1x8x1024 .f32} {W : Fin 4 → Vec Ideal S1x1x1024 .f32}
    {S : Fin 3 → Vec Ideal S1x256x256 .bf16} {w e : ℕ → ℕ → ℝ} (hx : IsM1 (M := 256) (N := 1024) X fun i j => e (8 + i) j)
    (hp : IsM1 (M := 8) (N := 1024) P e) (hw : ∀ n, IsM1 (M := 1) (N := 1024) (W n) fun _ j => w n.val j)
    (hs : ∀ d : Fin 3, IsM1 (M := 256) (N := 256) (S d) fun i j => if j + (d.val + 1) = i then 1 else 0) :
    IsM (M := 256) (N := 1024) (conv X P (W 3) (W 2) (W 1) (W 0) (S 0) (S 1) (S 2)) fun i j => siluF (convF w e i j) := by
  have hX := hx.drop Gen.shapeCasts_S1x256x1024_S256x1024
  have hP := hp.drop Gen.shapeCasts_S1x8x1024_S8x1024
  have hin := (((tap_isM (hw 3) (hX.ext Gen.bitsLt_bf16_f32)).add (tap_isM (hw 2) (shiftMul_isM 1 (hs 0) hX))).add
    (tap_isM (hw 1) (shiftMul_isM 2 (hs 1) hX))).add (tap_isM (hw 0) (shiftMul_isM 3 (hs 2) hX))
  have hh := (((IsM.splat (M := 8) (N := 1024) zero_eq).add (halo_isM 1 (by norm_num) 1#32 rfl (hw 2) hP)).add
    (halo_isM 2 (by norm_num) 2#32 rfl (hw 1) hP)).add (halo_isM 3 (by norm_num) 3#32 rfl (hw 0) hP)
  have hsum := IsM.below (M₁ := 8) (M₂ := 248) (M := 256) rfl
    ((IsM.rowsFrom (M' := 8) (N' := 1024) (o := 0) hin Gen.slices_S256x1024_o0_0_S8x1024).add hh)
    (IsM.rowsFrom (M' := 248) (N' := 1024) hin Gen.slices_S256x1024_o8_0_S248x1024) Gen.concatenates_S8x1024_S248x1024_S256x1024_d0
  refine (hsum.mul hsum.logistic).congr fun i hi j _ => ?_
  have key : ∀ y, y = convF w e i j → y * (1 + Real.exp (-y))⁻¹ = siluF (convF w e i j) := fun y hy => by rw [hy]; rfl
  refine key _ ?_
  unfold convF
  have n0 : (3 : Fin 4).val = 3 := rfl
  by_cases h8 : i < 8
  · rw [if_pos h8]
    rcases Nat.lt_or_ge i 3 with h3 | h3
    · interval_cases i <;> norm_num <;> ring
    · simp only [Nat.zero_add]
      rw [if_pos (by omega : 1 ≤ i), if_pos (by omega : 2 ≤ i), if_pos (by omega : 3 ≤ i), if_neg (by omega : ¬ i < 1), if_neg (by omega : ¬ i < 2),
        if_neg (by omega : ¬ i < 3), show 8 + (i - 1) = 7 + i by omega, show 8 + (i - 2) = 6 + i by omega, show 8 + (i - 3) = 5 + i by omega]
      norm_num
  · rw [if_neg h8]
    have hi8 : 8 + (i - 8) = i := by omega
    simp only [hi8]
    rw [if_pos (by omega : 1 ≤ i), if_pos (by omega : 2 ≤ i), if_pos (by omega : 3 ≤ i),
      show 8 + (i - 1) = 7 + i by omega, show 8 + (i - 2) = 6 + i by omega, show 8 + (i - 3) = 5 + i by omega]
    rfl

theorem lastRows_isM {X : Vec Ideal S1x256x1024 .bf16} {x : ℕ → ℕ → ℝ} (hx : IsM1 (M := 256) (N := 1024) X x) :
    IsM1 (M := 8) (N := 1024) (lastRows X) fun i j => x (248 + i) j :=
  (IsM.rowsFrom (M' := 8) (N' := 1024) ((hx.drop Gen.shapeCasts_S1x256x1024_S256x1024).ext Gen.bitsLt_bf16_f32)
    Gen.slices_S256x1024_o248_0_S8x1024).stack _

/-! ## The norm and the output gate -/

/-- A row of the output: the norm with its gain, times the gate. -/
def finishF (o og z : ℕ → ℕ → ℝ) (i d : ℕ) : ℝ :=
  o i d * (Real.sqrt ((∑ e ∈ range 128, o i e * o i e) / 128 + epsR))⁻¹ * og 0 d * siluF (z i d)

theorem finish_isM {O : FVec Ideal S256x128 .f32} {G : Vec Ideal S1x128 .f32} {Z : Vec Ideal S1x256x128 .bf16} {o og z : ℕ → ℕ → ℝ}
    (ho : IsM (M := 256) (N := 128) O o) (hg : IsM (M := 1) (N := 128) G og) (hz : IsM1 (M := 256) (N := 128) Z z) :
    IsM1 (M := 256) (N := 128) (finish O G Z) (finishF o og z) := by
  have hZ := (hz.drop Gen.shapeCasts_S1x256x128_S256x128).ext Gen.bitsLt_bf16_f32
  have hn := ((ho.sumSq.div (IsM.splat (M := 256) (N := 1) lanes_eq) fun _ _ => by norm_num).add (IsM.splat (M := 256) (N := 1) eps_eq)).rsqrt
    fun i _ => add_pos_of_nonneg_of_pos (div_nonneg (Finset.sum_nonneg fun _ _ => mul_self_nonneg _) (by norm_num)) epsR_pos
  exact (((ho.mul hn.wide).mul (IsM.rowTo (M := 256) (N := 128) (hg.castSelf _) _)).mul (hZ.mul hZ.logistic)).stack _

end Cert.Gdn

end
-- ==== Proof.Tie.lean ====
module

public import proofs.«01_k».proof.Proof.Tile

/-! What one grid point leaves, in the words of the tile: the output's eight heads, the eight states, the three parts' last rows. -/

@[expose] public section

noncomputable section

namespace Cert.Gdn

open Cert.KernelIdeal Cert.KernelIdeal.Gen Idealize.ShloMosaic Idealize.ShloMosaic.TcCoe Idealize.SL.Sem

variable {F : FTy → Type} [FloatOps F]

def readPart (a : Memref sig .tc .vmem S1x256x1024 .bf16) (h : a.IsWhole) (x : Vec F S1x256x1024 .bf16) : Vec F S1x256x1024 .bf16 :=
  View.readAt (Elt F) a.view (Rect.unit (s := S1x256x1024) ![0, 0, 0] S1x256x1024.size (by decide)).toLoadRect (h.unread x)

def readTap (a : Memref sig .tc .vmem S3x4x1024 .f32) (h : a.IsWhole) (x : Vec F S3x4x1024 .f32) (i : Fin 3) (j : Fin 4) : Vec F S1x1x1024 .f32 :=
  View.readAt (Elt F) a.view (Rect.unit (s := S3x4x1024) ![i.val, j.val, 0] S1x1x1024.size (by revert i j; decide)).toLoadRect (h.unread x)

def readShift (a : Memref sig .tc .vmem S3x256x256 .bf16) (h : a.IsWhole) (x : Vec F S3x256x256 .bf16) (i : Fin 3) : Vec F S1x256x256 .bf16 :=
  View.readAt (Elt F) a.view (Rect.unit (s := S3x256x256) ![i.val, 0, 0] S1x256x256.size (by revert i; decide)).toLoadRect (h.unread x)

def readCols (a : Memref sig .tc .vmem S1x256x128 .f32) (h : a.IsWhole) (x : Vec F S1x256x128 .f32) : Vec F S1x256x128 .f32 :=
  View.readAt (Elt F) a.view (Rect.unit (s := S1x256x128) ![0, 0, 0] S1x256x128.size (by decide)).toLoadRect (h.unread x)

def readLane (a : Memref sig .tc .vmem S1x1x128 .f32) (h : a.IsWhole) (x : Vec F S1x1x128 .f32) : Vec F S1x1x128 .f32 :=
  View.readAt (Elt F) a.view (Rect.unit (s := S1x1x128) ![0, 0, 0] S1x1x128.size (by decide)).toLoadRect (h.unread x)

def readGain (a : Memref sig .tc .vmem S1x128 .f32) (h : a.IsWhole) (x : Vec F S1x128 .f32) : Vec F S1x128 .f32 :=
  View.readAt (Elt F) a.view (Rect.unit (s := S1x128) ![0, 0] S1x128.size (by decide)).toLoadRect (h.unread x)

def readGate (a : Memref sig .tc .vmem S1x256x1024 .bf16) (h : a.IsWhole) (x : Vec F S1x256x1024 .bf16) (hh : Fin 8) : Vec F S1x256x128 .bf16 :=
  View.readAt (Elt F) a.view (Rect.unit (s := S1x256x1024) ![0, 0, 128 * hh.val] S1x256x128.size (by revert hh; decide)).toLoadRect (h.unread x)

def readRows (a : Memref sig .tc .vmem S3x8x1024 .f32) (h : a.IsWhole) (x : Vec F S3x8x1024 .f32) (i : Fin 3) : Vec F S1x8x1024 .f32 :=
  View.readAt (Elt F) a.view (Rect.unit (s := S3x8x1024) ![i.val, 0, 0] S1x8x1024.size (by revert i; decide)).toLoadRect (h.unread x)

def readState (a : Memref sig .tc .vmem S8x128x128 .f32) (h : a.IsWhole) (x : Vec F S8x128x128 .f32) (hh : Fin 8) : Vec F S1x128x128 .f32 :=
  View.readAt (Elt F) a.view (Rect.unit (s := S8x128x128) ![hh.val, 0, 0] S1x128x128.size (by revert hh; decide)).toLoadRect (h.unread x)

/-- The states as the first tile of a sequence finds them. -/
def startState (a : Memref sig .tc .vmem S8x128x128 .f32) (hh : Fin 8) : Vec F S1x128x128 .f32 :=
  a.view.readCov (kernelRun0_A.sl.HS1_1) (Rect.unit (s := S8x128x128) ![hh.val, 0, 0] S1x128x128.size (by revert hh; decide)).toLoadRect

def readShared (arg3 : Memref sig .tc .vmem S1x256x1024 .bf16) (harg3 : arg3.IsWhole) (arg4 : Memref sig .tc .vmem S1x256x1024 .bf16) (harg4 : arg4.IsWhole) (arg5 : Memref sig .tc .vmem S1x256x1024 .bf16) (harg5 : arg5.IsWhole) (arg7 : Memref sig .tc .vmem S1x256x128 .f32) (harg7 : arg7.IsWhole) (arg8 : Memref sig .tc .vmem S3x4x1024 .f32) (harg8 : arg8.IsWhole) (arg9 : Memref sig .tc .vmem S1x1x128 .f32) (harg9 : arg9.IsWhole) (arg10 : Memref sig .tc .vmem S1x1x128 .f32) (harg10 : arg10.IsWhole) (arg12 : Memref sig .tc .vmem S3x256x256 .bf16) (harg12 : arg12.IsWhole) (x0 x1 x2 : Vec F S1x256x1024 .bf16) (x4 : Vec F S1x256x128 .f32) (x5 : Vec F S3x4x1024 .f32) (x6 x7 : Vec F S1x1x128 .f32) (x9 : Vec F S3x256x256 .bf16) (p : Fin 3 → Vec F S1x8x1024 .f32) : Shared F :=
  shared ![readPart arg3 harg3 x0, readPart arg4 harg4 x1, readPart arg5 harg5 x2] p (readTap arg8 harg8 x5) (readShift arg12 harg12 x9)
    (readCols arg7 harg7 x4) (readLane arg9 harg9 x6) (readLane arg10 harg10 x7)

set_option maxHeartbeats 1000000

/-- The shared parts among the run's own values, at a later tile. -/
def runB (c : Dev nD) (arg3 : Memref sig .tc .vmem S1x256x1024 .bf16) (harg3 : arg3.IsWhole) (arg4 : Memref sig .tc .vmem S1x256x1024 .bf16) (harg4 : arg4.IsWhole) (arg5 : Memref sig .tc .vmem S1x256x1024 .bf16) (harg5 : arg5.IsWhole) (arg7 : Memref sig .tc .vmem S1x256x128 .f32) (harg7 : arg7.IsWhole) (arg8 : Memref sig .tc .vmem S3x4x1024 .f32) (harg8 : arg8.IsWhole) (arg9 : Memref sig .tc .vmem S1x1x128 .f32) (harg9 : arg9.IsWhole) (arg10 : Memref sig .tc .vmem S1x1x128 .f32) (harg10 : arg10.IsWhole) (arg12 : Memref sig .tc .vmem S3x256x256 .bf16) (harg12 : arg12.IsWhole) (arg14 : Memref sig .tc .vmem S3x8x1024 .f32) (harg14 : arg14.IsWhole) (x0 x1 x2 : Vec F S1x256x1024 .bf16) (x4 : Vec F S1x256x128 .f32) (x5 : Vec F S3x4x1024 .f32) (x6 x7 : Vec F S1x1x128 .f32) (x9 : Vec F S3x256x256 .bf16) (xs0 : Vec F S3x8x1024 .f32) : Shared F where
  q := kernelRun0_B.sl.r_6 (F := F) c arg3 harg3 arg8 harg8 arg12 harg12 arg14 harg14 x0 x5 x9 xs0
  k := kernelRun0_B.sl.r_15 (F := F) c arg4 harg4 arg8 harg8 arg12 harg12 arg14 harg14 x1 x5 x9 xs0
  v := kernelRun0_B.sl.r_23 (F := F) c arg5 harg5 arg8 harg8 arg12 harg12 arg14 harg14 x2 x5 x9 xs0
  beta := kernelRun0_B.sl.r_26 (F := F) c arg7 harg7 x4
  g := kernelRun0_B.sl.r_29 (F := F) c arg7 harg7 arg9 harg9 arg10 harg10 x4 x6 x7

theorem runB_eq (c : Dev nD) (arg3 : Memref sig .tc .vmem S1x256x1024 .bf16) (harg3 : arg3.IsWhole) (arg4 : Memref sig .tc .vmem S1x256x1024 .bf16) (harg4 : arg4.IsWhole) (arg5 : Memref sig .tc .vmem S1x256x1024 .bf16) (harg5 : arg5.IsWhole) (arg7 : Memref sig .tc .vmem S1x256x128 .f32) (harg7 : arg7.IsWhole) (arg8 : Memref sig .tc .vmem S3x4x1024 .f32) (harg8 : arg8.IsWhole) (arg9 : Memref sig .tc .vmem S1x1x128 .f32) (harg9 : arg9.IsWhole) (arg10 : Memref sig .tc .vmem S1x1x128 .f32) (harg10 : arg10.IsWhole) (arg12 : Memref sig .tc .vmem S3x256x256 .bf16) (harg12 : arg12.IsWhole) (arg14 : Memref sig .tc .vmem S3x8x1024 .f32) (harg14 : arg14.IsWhole) (x0 x1 x2 : Vec F S1x256x1024 .bf16) (x4 : Vec F S1x256x128 .f32) (x5 : Vec F S3x4x1024 .f32) (x6 x7 : Vec F S1x1x128 .f32) (x9 : Vec F S3x256x256 .bf16) (xs0 : Vec F S3x8x1024 .f32) :
    runB c arg3 harg3 arg4 harg4 arg5 harg5 arg7 harg7 arg8 harg8 arg9 harg9 arg10 harg10 arg12 harg12 arg14 harg14 x0 x1 x2 x4 x5 x6 x7 x9 xs0 = readShared arg3 harg3 arg4 harg4 arg5 harg5 arg7 harg7 arg8 harg8 arg9 harg9 arg10 harg10 arg12 harg12 x0 x1 x2 x4 x5 x6 x7 x9 (readRows arg14 harg14 xs0) :=
  (Shared.mk.injEq _ _ _ _ _ _ _ _ _ _).mpr ⟨rfl, rfl, rfl, rfl, rfl⟩

section

variable (c : Dev nD) (i : grid0.Coords) (arg3 : Memref sig .tc .vmem S1x256x1024 .bf16) (harg3 : arg3.IsWhole) (arg4 : Memref sig .tc .vmem S1x256x1024 .bf16) (harg4 : arg4.IsWhole) (arg5 : Memref sig .tc .vmem S1x256x1024 .bf16) (harg5 : arg5.IsWhole) (arg6 : Memref sig .tc .vmem S1x256x1024 .bf16) (harg6 : arg6.IsWhole) (arg7 : Memref sig .tc .vmem S1x256x128 .f32) (harg7 : arg7.IsWhole) (arg8 : Memref sig .tc .vmem S3x4x1024 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x128 .f32) (harg11 : arg11.IsWhole) (arg12 : Memref sig .tc .vmem S3x256x256 .bf16) (harg12 : arg12.IsWhole) (arg13 : Memref sig .tc .vmem S1x256x1024 .bf16) (harg13 : arg13.IsWhole) (arg14 : Memref sig .tc .vmem S3x8x1024 .f32) (harg14 : arg14.IsWhole) (arg15 : Memref sig .tc .vmem S8x128x128 .f32) (harg15 : arg15.IsWhole) (hc0 : ¬cond0_0 i)
    (x0 : Vec F S1x256x1024 .bf16) (x1 : Vec F S1x256x1024 .bf16) (x2 : Vec F S1x256x1024 .bf16) (x3 : Vec F S1x256x1024 .bf16) (x4 : Vec F S1x256x128 .f32) (x5 : Vec F S3x4x1024 .f32) (x6 : Vec F S1x1x128 .f32) (x7 : Vec F S1x1x128 .f32) (x8 : Vec F S1x128 .f32) (x9 : Vec F S3x256x256 .bf16) (xs0 : Vec F S3x8x1024 .f32) (xs1 : Vec F S8x128x128 .f32)

theorem outB : (kernelRun0_B c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 xs0 xs1).1
    = outPieces (readShared arg3 harg3 arg4 harg4 arg5 harg5 arg7 harg7 arg8 harg8 arg9 harg9 arg10 harg10 arg12 harg12 x0 x1 x2 x4 x5 x6 x7 x9 (readRows arg14 harg14 xs0)) (readState arg15 harg15 xs1) (readGain arg11 harg11 x8) (readGate arg6 harg6 x3) := by
  rw [← runB_eq]; rfl

theorem stateB : (kernelRun0_B c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 xs0 xs1).2.2.1
    = statePieces (readShared arg3 harg3 arg4 harg4 arg5 harg5 arg7 harg7 arg8 harg8 arg9 harg9 arg10 harg10 arg12 harg12 x0 x1 x2 x4 x5 x6 x7 x9 (readRows arg14 harg14 xs0)) (readState arg15 harg15 xs1) := by
  rw [← runB_eq]; rfl

theorem rowsB : (kernelRun0_B c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 xs0 xs1).2.1
    = rowPieces ![readPart arg3 harg3 x0, readPart arg4 harg4 x1, readPart arg5 harg5 x2] := rfl

end

/-- The shared parts among the run's own values, at the first tile of a sequence. -/
def runA (c : Dev nD) (arg3 : Memref sig .tc .vmem S1x256x1024 .bf16) (harg3 : arg3.IsWhole) (arg4 : Memref sig .tc .vmem S1x256x1024 .bf16) (harg4 : arg4.IsWhole) (arg5 : Memref sig .tc .vmem S1x256x1024 .bf16) (harg5 : arg5.IsWhole) (arg7 : Memref sig .tc .vmem S1x256x128 .f32) (harg7 : arg7.IsWhole) (arg8 : Memref sig .tc .vmem S3x4x1024 .f32) (harg8 : arg8.IsWhole) (arg9 : Memref sig .tc .vmem S1x1x128 .f32) (harg9 : arg9.IsWhole) (arg10 : Memref sig .tc .vmem S1x1x128 .f32) (harg10 : arg10.IsWhole) (arg12 : Memref sig .tc .vmem S3x256x256 .bf16) (harg12 : arg12.IsWhole) (arg14 : Memref sig .tc .vmem S3x8x1024 .f32) (x0 x1 x2 : Vec F S1x256x1024 .bf16) (x4 : Vec F S1x256x128 .f32) (x5 : Vec F S3x4x1024 .f32) (x6 x7 : Vec F S1x1x128 .f32) (x9 : Vec F S3x256x256 .bf16) : Shared F where
  q := kernelRun0_A.sl.r_6 (F := F) c arg3 harg3 arg8 harg8 arg12 harg12 arg14 x0 x5 x9
  k := kernelRun0_A.sl.r_15 (F := F) c arg3 harg3 arg4 harg4 arg8 harg8 arg12 harg12 arg14 x0 x1 x5 x9
  v := kernelRun0_A.sl.r_23 (F := F) c arg3 harg3 arg4 harg4 arg5 harg5 arg8 harg8 arg12 harg12 arg14 x0 x1 x2 x5 x9
  beta := kernelRun0_A.sl.r_26 (F := F) c arg7 harg7 x4
  g := kernelRun0_A.sl.r_29 (F := F) c arg7 harg7 arg9 harg9 arg10 harg10 x4 x6 x7

theorem runA_eq (c : Dev nD) (arg3 : Memref sig .tc .vmem S1x256x1024 .bf16) (harg3 : arg3.IsWhole) (arg4 : Memref sig .tc .vmem S1x256x1024 .bf16) (harg4 : arg4.IsWhole) (arg5 : Memref sig .tc .vmem S1x256x1024 .bf16) (harg5 : arg5.IsWhole) (arg7 : Memref sig .tc .vmem S1x256x128 .f32) (harg7 : arg7.IsWhole) (arg8 : Memref sig .tc .vmem S3x4x1024 .f32) (harg8 : arg8.IsWhole) (arg9 : Memref sig .tc .vmem S1x1x128 .f32) (harg9 : arg9.IsWhole) (arg10 : Memref sig .tc .vmem S1x1x128 .f32) (harg10 : arg10.IsWhole) (arg12 : Memref sig .tc .vmem S3x256x256 .bf16) (harg12 : arg12.IsWhole) (arg14 : Memref sig .tc .vmem S3x8x1024 .f32) (x0 x1 x2 : Vec F S1x256x1024 .bf16) (x4 : Vec F S1x256x128 .f32) (x5 : Vec F S3x4x1024 .f32) (x6 x7 : Vec F S1x1x128 .f32) (x9 : Vec F S3x256x256 .bf16) :
    runA c arg3 harg3 arg4 harg4 arg5 harg5 arg7 harg7 arg8 harg8 arg9 harg9 arg10 harg10 arg12 harg12 arg14 x0 x1 x2 x4 x5 x6 x7 x9 = readShared arg3 harg3 arg4 harg4 arg5 harg5 arg7 harg7 arg8 harg8 arg9 harg9 arg10 harg10 arg12 harg12 x0 x1 x2 x4 x5 x6 x7 x9 ![kernelRun0_A.sl.v7 c arg14, kernelRun0_A.sl.v75 c arg3 harg3 arg14 x0, kernelRun0_A.sl.v143 c arg3 harg3 arg4 harg4 arg14 x0 x1] :=
  (Shared.mk.injEq _ _ _ _ _ _ _ _ _ _).mpr ⟨rfl, rfl, rfl, rfl, rfl⟩

section

variable (c : Dev nD) (i : grid0.Coords) (arg3 : Memref sig .tc .vmem S1x256x1024 .bf16) (harg3 : arg3.IsWhole) (arg4 : Memref sig .tc .vmem S1x256x1024 .bf16) (harg4 : arg4.IsWhole) (arg5 : Memref sig .tc .vmem S1x256x1024 .bf16) (harg5 : arg5.IsWhole) (arg6 : Memref sig .tc .vmem S1x256x1024 .bf16) (harg6 : arg6.IsWhole) (arg7 : Memref sig .tc .vmem S1x256x128 .f32) (harg7 : arg7.IsWhole) (arg8 : Memref sig .tc .vmem S3x4x1024 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x128 .f32) (harg11 : arg11.IsWhole) (arg12 : Memref sig .tc .vmem S3x256x256 .bf16) (harg12 : arg12.IsWhole) (arg13 : Memref sig .tc .vmem S1x256x1024 .bf16) (harg13 : arg13.IsWhole) (arg14 : Memref sig .tc .vmem S3x8x1024 .f32) (harg14 : arg14.IsWhole) (arg15 : Memref sig .tc .vmem S8x128x128 .f32) (harg15 : arg15.IsWhole) (hc0 : cond0_0 i)
    (x0 : Vec F S1x256x1024 .bf16) (x1 : Vec F S1x256x1024 .bf16) (x2 : Vec F S1x256x1024 .bf16) (x3 : Vec F S1x256x1024 .bf16) (x4 : Vec F S1x256x128 .f32) (x5 : Vec F S3x4x1024 .f32) (x6 : Vec F S1x1x128 .f32) (x7 : Vec F S1x1x128 .f32) (x8 : Vec F S1x128 .f32) (x9 : Vec F S3x256x256 .bf16)

theorem outA : (kernelRun0_A c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9).1
    = outPieces (readShared arg3 harg3 arg4 harg4 arg5 harg5 arg7 harg7 arg8 harg8 arg9 harg9 arg10 harg10 arg12 harg12 x0 x1 x2 x4 x5 x6 x7 x9 ![kernelRun0_A.sl.v7 c arg14, kernelRun0_A.sl.v75 c arg3 harg3 arg14 x0, kernelRun0_A.sl.v143 c arg3 harg3 arg4 harg4 arg14 x0 x1]) (startState arg15) (readGain arg11 harg11 x8) (readGate arg6 harg6 x3) := by
  rw [← runA_eq]; rfl

theorem stateA : (kernelRun0_A c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9).2.2.1
    = statePieces (readShared arg3 harg3 arg4 harg4 arg5 harg5 arg7 harg7 arg8 harg8 arg9 harg9 arg10 harg10 arg12 harg12 x0 x1 x2 x4 x5 x6 x7 x9 ![kernelRun0_A.sl.v7 c arg14, kernelRun0_A.sl.v75 c arg3 harg3 arg14 x0, kernelRun0_A.sl.v143 c arg3 harg3 arg4 harg4 arg14 x0 x1]) (startState arg15) ++ kernelRun0_A.sl.HS1_1 := by
  rw [← runA_eq]; rfl

theorem rowsA : (kernelRun0_A c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9).2.1
    = rowPieces ![readPart arg3 harg3 x0, readPart arg4 harg4 x1, readPart arg5 harg5 x2] ++ kernelRun0_A.sl.HS0_1 := rfl

end

end Cert.Gdn

end
-- ==== Proof.Step.lean ====
module

public import proofs.«01_k».proof.Proof.Gates
public import proofs.«01_k».proof.Proof.Tie
public import Idealize.ShloMosaic.Lib.WholeRead
public import Idealize.ShloMosaic.Lib.Pipeline.CanonAppend
public import Idealize.ShloMosaic.Lib.Pipeline.ValueKit.Geometry
import Idealize.ShloMosaic.Lib.Pipeline.ValueKit.Tiles

/-! One tile in real numbers: from what its blocks and the carried buffers hold, what it leaves in the output and in the carried buffers. -/

@[expose] public section

noncomputable section

namespace Cert.Gdn

open Cert.KernelIdeal Cert.KernelIdeal.Gen Idealize.ShloMosaic.ValueIdx Idealize.ShloMosaic.TcCoe Finset
open Idealize.ShloMosaic hiding ix0 ix1 ix2 ix3 ix4 ix5 eq_ix1 eq_ix2 eq_ix3 eq_ix4

/-! ## Stacks of matrices -/

/-- The stack of matrices `V` holds the real numbers `f`. -/
def IsA {A M N : ℕ} (V : (⟨3, ![A, M, N]⟩ : Shape).Idx → EReal) (f : ℕ → ℕ → ℕ → ℝ) : Prop :=
  ∀ (a : Fin A) (i : Fin M) (j : Fin N), V (ix3 a i j) = ((f a i j : ℝ) : EReal)

theorem IsM1.isA {M N : ℕ} {V : (⟨3, ![1, M, N]⟩ : Shape).Idx → EReal} {f : ℕ → ℕ → ℝ} (h : IsM1 V f) : IsA V fun _ => f := fun a i j => by
  rw [show a = 0 from Subsingleton.elim _ _]; exact h i j

/-- The function `f` on the indices of a stack. -/
def onIdx {A M N : ℕ} (f : ℕ → ℕ → ℕ → ℝ) (y : (⟨3, ![A, M, N]⟩ : Shape).Idx) : EReal := ((f (y 0).val (y 1).val (y 2).val : ℝ) : EReal)

section Boxes
variable {A M N M' N' : ℕ} {o₀ o₁ o₂ : ℕ} {f : ℕ → ℕ → ℕ → ℝ}

/-- A box of one matrix read out of a stack. -/
theorem IsA.box {V : (⟨3, ![A, M, N]⟩ : Shape).Idx → EReal} (h : IsA V f)
    (inb : ∀ a, (![o₀, o₁, o₂] : Fin 3 → ℕ) a + (![1, M', N'] : Fin 3 → ℕ) a ≤ (⟨3, ![A, M, N]⟩ : Shape).size a) :
    IsM1 (M := M') (N := N') (fun x => V ((Rect.unit (s := ⟨3, ![A, M, N]⟩) ![o₀, o₁, o₂] ![1, M', N'] inb).emb x)) fun i j => f o₀ (o₁ + i) (o₂ + j) :=
    fun i j => by
  have b0 : o₀ + 1 ≤ A := inb 0
  have b1 : o₁ + M' ≤ M := inb 1
  have b2 : o₂ + N' ≤ N := inb 2
  have hi := i.isLt
  have hj := j.isLt
  have e : (Rect.unit (s := ⟨3, ![A, M, N]⟩) ![o₀, o₁, o₂] ![1, M', N'] inb).emb (ix3 (0 : Fin 1) i j)
      = ix3 (⟨o₀, by omega⟩ : Fin A) (⟨o₁ + i, by omega⟩ : Fin M) (⟨o₂ + j, by omega⟩ : Fin N) := by
    funext a
    refine Fin.ext ?_
    rw [ValueKit.rect_emb_unit_val]
    match a with
    | ⟨0, _⟩ => rfl
    | ⟨1, _⟩ => rfl
    | ⟨2, _⟩ => rfl
  beta_reduce
  rw [e]
  exact h _ _ _

/-- A store of one matrix into a box of the stack is the function `f` there. -/
theorem IsM1.piece {V : (⟨3, ![1, M', N']⟩ : Shape).Idx → EReal} {g : ℕ → ℕ → ℝ} (h : IsM1 V g)
    (inb : ∀ a, (![o₀, o₁, o₂] : Fin 3 → ℕ) a + (![1, M', N'] : Fin 3 → ℕ) a ≤ (⟨3, ![A, M, N]⟩ : Shape).size a)
    (e : ∀ i < M', ∀ j < N', g i j = f o₀ (o₁ + i) (o₂ + j)) (x : (⟨3, ![1, M', N']⟩ : Shape).Idx) :
    V x = onIdx f ((Rect.unit (s := ⟨3, ![A, M, N]⟩) ![o₀, o₁, o₂] ![1, M', N'] inb).emb x) := by
  have hx : x = ix3 (0 : Fin 1) (x 1 : Fin M') (x 2 : Fin N') := by
    have h0 : @Eq (Fin 1) (x 0) 0 := @Subsingleton.elim (Fin 1) _ _ _
    exact (eq_ix3 x).trans (congrArg (fun a : Fin 1 => ix3 a (x 1 : Fin M') (x 2 : Fin N')) h0)
  unfold onIdx
  rw [ValueKit.rect_emb_unit_val, ValueKit.rect_emb_unit_val, ValueKit.rect_emb_unit_val]
  show V x = ((f (o₀ + (x 0).val) (o₁ + (x 1).val) (o₂ + (x 2).val) : ℝ) : EReal)
  rw [show (x 0).val = 0 from by have := (x 0).isLt; exact Nat.lt_one_iff.mp this, Nat.add_zero, ← e _ (x 1).isLt _ (x 2).isLt]
  rw [hx]
  exact h _ _

end Boxes

/-! ## What the blocks hold -/

/-- The real numbers of one tile: the three parts' rows with the eight before the tile, the gate's block, the decays' columns, and the parameters. -/
structure TileData where
  e : Fin 3 → ℕ → ℕ → ℝ
  z : ℕ → ℕ → ℝ
  ab : ℕ → ℕ → ℝ
  w : Fin 3 → ℕ → ℕ → ℝ
  al : ℕ → ℝ
  dt : ℕ → ℝ
  og : ℕ → ℝ

namespace TileData
variable (D : TileData)

def part (a : Fin 3) (i j : ℕ) : ℝ := siluF (convF (D.w a) (D.e a) i j)
def beta (i h : ℕ) : ℝ := (1 + Real.exp (-D.ab i h))⁻¹
def decay (i h : ℕ) : ℝ := decayF (D.al h) (D.dt h) (D.ab i h)
/-- A head's state after `n` tokens of the tile, and a token's row of the output. -/
def state (S : ℕ → ℕ → ℕ → ℝ) (n hh : ℕ) : ℕ → ℕ → ℝ :=
  stateAt (headK (D.part 1) (128 * hh)) (fun i e => D.part 2 i (128 * hh + e)) (fun i => D.beta i (8 + hh)) (fun i => D.decay i hh) (S hh) n
def read (S : ℕ → ℕ → ℕ → ℝ) (hh : ℕ) : ℕ → ℕ → ℝ :=
  readAt (headQ (D.part 0) (128 * hh)) (headK (D.part 1) (128 * hh)) (fun i e => D.part 2 i (128 * hh + e)) (fun i => D.beta i (8 + hh))
    (fun i => D.decay i hh) (S hh)
def out (S : ℕ → ℕ → ℕ → ℝ) (hh : ℕ) : ℕ → ℕ → ℝ :=
  finishF (D.read S hh) (fun _ d => D.og d) (fun i d => D.z i (128 * hh + d))

end TileData

/-- The blocks of one grid point hold the tile's numbers. -/
structure BlocksAre (x : Fin 3 → Vec Ideal S1x256x1024 .bf16) (x3 : Vec Ideal S1x256x1024 .bf16) (x4 : Vec Ideal S1x256x128 .f32)
    (x5 : Vec Ideal S3x4x1024 .f32) (x6 x7 : Vec Ideal S1x1x128 .f32) (x8 : Vec Ideal S1x128 .f32) (x9 : Vec Ideal S3x256x256 .bf16)
    (D : TileData) : Prop where
  parts : ∀ a, IsM1 (M := 256) (N := 1024) (x a) fun i j => D.e a (8 + i) j
  gate : IsM1 (M := 256) (N := 1024) x3 D.z
  cols : IsM1 (M := 256) (N := 128) x4 D.ab
  taps : IsA (A := 3) (M := 4) (N := 1024) x5 fun a n j => D.w (Fin.ofNat 3 a) n j
  alog : IsM1 (M := 1) (N := 128) x6 fun _ j => D.al j
  dtb : IsM1 (M := 1) (N := 128) x7 fun _ j => D.dt j
  gain : IsM (M := 1) (N := 128) x8 fun _ j => D.og j
  shifts : IsA (A := 3) (M := 256) (N := 256) x9 fun d i j => if j + (d + 1) = i then 1 else 0

/-! ## Loads -/

theorem readPart_isM {a : Memref sig .tc .vmem S1x256x1024 .bf16} {h : a.IsWhole} {x : Vec Ideal S1x256x1024 .bf16} {f : ℕ → ℕ → ℝ}
    (hx : IsM1 (M := 256) (N := 1024) x f) : IsM1 (M := 256) (N := 1024) (readPart a h x) f := fun i j => by
  unfold readPart
  rw [h.readAt_unread]
  refine (hx.isA.box (A := 1) (M := 256) (N := 1024) (M' := 256) (N' := 1024) (o₀ := 0) (o₁ := 0) (o₂ := 0) (by decide) i j).trans ?_
  beta_reduce
  rw [Nat.zero_add, Nat.zero_add]

theorem readCols_isM {a : Memref sig .tc .vmem S1x256x128 .f32} {h : a.IsWhole} {x : Vec Ideal S1x256x128 .f32} {f : ℕ → ℕ → ℝ}
    (hx : IsM1 (M := 256) (N := 128) x f) : IsM1 (M := 256) (N := 128) (readCols a h x) f := fun i j => by
  unfold readCols
  rw [h.readAt_unread]
  refine (hx.isA.box (A := 1) (M := 256) (N := 128) (M' := 256) (N' := 128) (o₀ := 0) (o₁ := 0) (o₂ := 0) (by decide) i j).trans ?_
  beta_reduce
  rw [Nat.zero_add, Nat.zero_add]

theorem readLane_isM {a : Memref sig .tc .vmem S1x1x128 .f32} {h : a.IsWhole} {x : Vec Ideal S1x1x128 .f32} {f : ℕ → ℕ → ℝ}
    (hx : IsM1 (M := 1) (N := 128) x f) : IsM1 (M := 1) (N := 128) (readLane a h x) f := fun i j => by
  unfold readLane
  rw [h.readAt_unread]
  refine (hx.isA.box (A := 1) (M := 1) (N := 128) (M' := 1) (N' := 128) (o₀ := 0) (o₁ := 0) (o₂ := 0) (by decide) i j).trans ?_
  beta_reduce
  rw [Nat.zero_add, Nat.zero_add]

theorem readTap_isM {a : Memref sig .tc .vmem S3x4x1024 .f32} {h : a.IsWhole} {x : Vec Ideal S3x4x1024 .f32} {f : ℕ → ℕ → ℕ → ℝ}
    (hx : IsA (A := 3) (M := 4) (N := 1024) x f) (p : Fin 3) (n : Fin 4) :
    IsM1 (M := 1) (N := 1024) (readTap a h x p n) fun _ j => f p.val n.val j := fun i j => by
  unfold readTap
  rw [h.readAt_unread]
  refine (hx.box (M' := 1) (N' := 1024) (o₀ := p.val) (o₁ := n.val) (o₂ := 0) (by revert p n; decide) i j).trans ?_
  beta_reduce
  rw [Nat.zero_add, show i.val = 0 from Nat.lt_one_iff.mp i.isLt, Nat.add_zero]

theorem readShift_isM {a : Memref sig .tc .vmem S3x256x256 .bf16} {h : a.IsWhole} {x : Vec Ideal S3x256x256 .bf16} {f : ℕ → ℕ → ℕ → ℝ}
    (hx : IsA (A := 3) (M := 256) (N := 256) x f) (p : Fin 3) : IsM1 (M := 256) (N := 256) (readShift a h x p) (f p.val) := fun i j => by
  unfold readShift
  rw [h.readAt_unread]
  refine (hx.box (M' := 256) (N' := 256) (o₀ := p.val) (o₁ := 0) (o₂ := 0) (by revert p; decide) i j).trans ?_
  beta_reduce
  rw [Nat.zero_add, Nat.zero_add]

theorem readRows_isM {a : Memref sig .tc .vmem S3x8x1024 .f32} {h : a.IsWhole} {x : Vec Ideal S3x8x1024 .f32} {f : ℕ → ℕ → ℕ → ℝ}
    (hx : IsA (A := 3) (M := 8) (N := 1024) x f) (p : Fin 3) : IsM1 (M := 8) (N := 1024) (readRows a h x p) (f p.val) := fun i j => by
  unfold readRows
  rw [h.readAt_unread]
  refine (hx.box (M' := 8) (N' := 1024) (o₀ := p.val) (o₁ := 0) (o₂ := 0) (by revert p; decide) i j).trans ?_
  beta_reduce
  rw [Nat.zero_add, Nat.zero_add]

theorem readState_isM {a : Memref sig .tc .vmem S8x128x128 .f32} {h : a.IsWhole} {x : Vec Ideal S8x128x128 .f32} {f : ℕ → ℕ → ℕ → ℝ}
    (hx : IsA (A := 8) (M := 128) (N := 128) x f) (p : Fin 8) : IsM1 (M := 128) (N := 128) (readState a h x p) (f p.val) := fun i j => by
  unfold readState
  rw [h.readAt_unread]
  refine (hx.box (M' := 128) (N' := 128) (o₀ := p.val) (o₁ := 0) (o₂ := 0) (by revert p; decide) i j).trans ?_
  beta_reduce
  rw [Nat.zero_add, Nat.zero_add]

theorem readGate_isM {a : Memref sig .tc .vmem S1x256x1024 .bf16} {h : a.IsWhole} {x : Vec Ideal S1x256x1024 .bf16} {f : ℕ → ℕ → ℝ}
    (hx : IsM1 (M := 256) (N := 1024) x f) (p : Fin 8) : IsM1 (M := 256) (N := 128) (readGate a h x p) fun i j => f i (128 * p.val + j) := fun i j => by
  unfold readGate
  rw [h.readAt_unread]
  refine (hx.isA.box (A := 1) (M := 256) (N := 1024) (M' := 256) (N' := 128) (o₀ := 0) (o₁ := 0) (o₂ := 128 * p.val) (by revert p; decide) i j).trans ?_
  beta_reduce
  rw [Nat.zero_add]

theorem readGain_isM {a : Memref sig .tc .vmem S1x128 .f32} {h : a.IsWhole} {x : Vec Ideal S1x128 .f32} {f : ℕ → ℕ → ℝ}
    (hx : IsM (M := 1) (N := 128) x f) : IsM (M := 1) (N := 128) (readGain a h x) f := fun i j => by
  unfold readGain
  rw [h.readAt_unread]
  refine (congrArg x (funext fun b => Fin.ext ?_ : _ = ix2 i j)).trans (hx i j)
  match b with
  | ⟨0, _⟩ => exact (Rect.idx_unit_val (s := S1x128) ![0, 0] S1x128.size (by decide) (ix2 i j) 0).trans (Nat.zero_add _)
  | ⟨1, _⟩ => exact (Rect.idx_unit_val (s := S1x128) ![0, 0] S1x128.size (by decide) (ix2 i j) 1).trans (Nat.zero_add _)

/-! ## The tile's shared parts -/

theorem shared_is (arg3 : Memref sig .tc .vmem S1x256x1024 .bf16) (harg3 : arg3.IsWhole) (arg4 : Memref sig .tc .vmem S1x256x1024 .bf16) (harg4 : arg4.IsWhole)
    (arg5 : Memref sig .tc .vmem S1x256x1024 .bf16) (harg5 : arg5.IsWhole) (arg7 : Memref sig .tc .vmem S1x256x128 .f32) (harg7 : arg7.IsWhole)
    (arg8 : Memref sig .tc .vmem S3x4x1024 .f32) (harg8 : arg8.IsWhole) (arg9 : Memref sig .tc .vmem S1x1x128 .f32) (harg9 : arg9.IsWhole)
    (arg10 : Memref sig .tc .vmem S1x1x128 .f32) (harg10 : arg10.IsWhole) (arg12 : Memref sig .tc .vmem S3x256x256 .bf16) (harg12 : arg12.IsWhole)
    {x0 x1 x2 x3 : Vec Ideal S1x256x1024 .bf16} {x4 : Vec Ideal S1x256x128 .f32} {x5 : Vec Ideal S3x4x1024 .f32} {x6 x7 : Vec Ideal S1x1x128 .f32}
    {x8 : Vec Ideal S1x128 .f32} {x9 : Vec Ideal S3x256x256 .bf16} {D : TileData} (H : BlocksAre ![x0, x1, x2] x3 x4 x5 x6 x7 x8 x9 D)
    {p : Fin 3 → Vec Ideal S1x8x1024 .f32} (hp : ∀ a, IsM1 (M := 8) (N := 1024) (p a) (D.e a)) :
    SharedIs (readShared arg3 harg3 arg4 harg4 arg5 harg5 arg7 harg7 arg8 harg8 arg9 harg9 arg10 harg10 arg12 harg12 x0 x1 x2 x4 x5 x6 x7 x9 p)
      (D.part 0) (D.part 1) (D.part 2) D.beta D.decay where
  q := conv_isM (W := readTap arg8 harg8 x5 0) (S := readShift arg12 harg12 x9) (readPart_isM (H.parts 0)) (hp 0) (fun n => readTap_isM H.taps 0 n)
    fun d => readShift_isM H.shifts d
  k := conv_isM (W := readTap arg8 harg8 x5 1) (S := readShift arg12 harg12 x9) (readPart_isM (H.parts 1)) (hp 1) (fun n => readTap_isM H.taps 1 n)
    fun d => readShift_isM H.shifts d
  v := conv_isM (W := readTap arg8 harg8 x5 2) (S := readShift arg12 harg12 x9) (readPart_isM (H.parts 2)) (hp 2) (fun n => readTap_isM H.taps 2 n)
    fun d => readShift_isM H.shifts d
  beta := ((readCols_isM H.cols).drop _).logistic
  gc := gCum_isM (g0_isM (readCols_isM H.cols) (readLane_isM H.alog) (readLane_isM H.dtb))
  neg := fun _ _ => decayF_neg _ _ _

/-! ## Stores -/

section Stores

theorem mem_eight {α : Type*} (f : Fin 8 → α) (hh : Fin 8) : f hh ∈ eight f := by
  unfold eight; fin_cases hh <;> simp
theorem of_mem_eight {α : Type*} {f : Fin 8 → α} {p : α} (h : p ∈ eight f) : ∃ hh, p = f hh := by
  unfold eight at h
  simp only [List.mem_cons, List.not_mem_nil, or_false] at h
  rcases h with h | h | h | h | h | h | h | h <;> exact ⟨_, h⟩

theorem fits_out (hh : Fin 8) (a : Fin 3) : (![0, 0, 128 * hh.val] : Fin 3 → ℕ) a + (![1, 256, 128] : Fin 3 → ℕ) a ≤ S1x256x1024.size a := by
  revert hh a; decide
theorem fits_rows (a : Fin 3) (b : Fin 3) : (![a.val, 0, 0] : Fin 3 → ℕ) b + (![1, 8, 1024] : Fin 3 → ℕ) b ≤ S3x8x1024.size b := by
  revert a b; decide
theorem fits_state (hh : Fin 8) (a : Fin 3) : (![hh.val, 0, 0] : Fin 3 → ℕ) a + (![1, 128, 128] : Fin 3 → ℕ) a ≤ S8x128x128.size a := by
  revert hh a; decide

variable {T : Shared Ideal} {D : TileData} (HT : SharedIs T (D.part 0) (D.part 1) (D.part 2) D.beta D.decay) {S : ℕ → ℕ → ℕ → ℝ}
  {st : Fin 8 → Vec Ideal S1x128x128 .f32} (hst : ∀ hh, IsM1 (M := 128) (N := 128) (st hh) (S hh.val))
include HT hst

theorem outPieces_canon {og : Vec Ideal S1x128 .f32} (hg : IsM (M := 1) (N := 128) og fun _ d => D.og d) {z : Fin 8 → Vec Ideal S1x256x128 .bf16}
    (hz : ∀ hh, IsM1 (M := 256) (N := 128) (z hh) fun i d => D.z i (128 * hh.val + d)) :
    IsM1 (M := 256) (N := 1024) (View.canon (outPieces T st og z)) fun i j => D.out S (j / 128) i (j % 128) := fun i j => by
  refine (View.canon_apply_of_pieces (onIdx fun _ i j => D.out S (j / 128) i (j % 128)) (outPieces T st og z) (fun p hp x => ?_) (ix3 0 i j) ?_).trans rfl
  · obtain ⟨hh, rfl⟩ := of_mem_eight hp
    refine IsM1.piece (finish_isM (head_tile HT (at_ hh) (S hh.val) ((hst hh).drop _)).1 hg (hz hh)) (fits_out hh) (fun i _ j hj => ?_) x
    show D.out S hh.val i j = D.out S ((128 * hh.val + j) / 128) (0 + i) ((128 * hh.val + j) % 128)
    rw [Nat.zero_add, show (128 * hh.val + j) / 128 = hh.val by omega, show (128 * hh.val + j) % 128 = j by omega]
  · have hj := j.isLt
    refine ⟨_, mem_eight _ ⟨j.val / 128, by omega⟩, (Rect.mem_set_unit (inb := fits_out ⟨j.val / 128, by omega⟩)).mpr fun a => ?_⟩
    match a with
    | ⟨0, _⟩ => exact ⟨Nat.zero_le _, by show 0 < 0 + 1; omega⟩
    | ⟨1, _⟩ => exact ⟨Nat.zero_le _, by show i.val < 0 + 256; have := i.isLt; omega⟩
    | ⟨2, _⟩ => exact ⟨by show 128 * (j.val / 128) ≤ j.val; omega, by show j.val < 128 * (j.val / 128) + 128; omega⟩

theorem statePieces_canon (L : List (View.Piece (Elt Ideal) S8x128x128 .f32)) :
    IsA (A := 8) (M := 128) (N := 128) (View.canon (statePieces T st ++ L)) fun hh => D.state S 256 hh := fun a i j => by
  refine (View.canon_append_of_pieces (onIdx fun hh => D.state S 256 hh) L (statePieces T st) (fun p hp x => ?_) (ix3 a i j) ?_).trans rfl
  · obtain ⟨hh, rfl⟩ := of_mem_eight hp
    refine IsM1.piece ((head_tile HT (at_ hh) (S hh.val) ((hst hh).drop _)).2.stack _) (fits_state hh) (fun i _ j hj => ?_) x
    rw [Nat.zero_add, Nat.zero_add]
    rfl
  · refine ⟨_, mem_eight _ a, (Rect.mem_set_unit (inb := fits_state a)).mpr fun b => ?_⟩
    match b with
    | ⟨0, _⟩ => exact ⟨le_refl a.val, by show a.val < a.val + 1; omega⟩
    | ⟨1, _⟩ => exact ⟨Nat.zero_le _, by show i.val < 0 + 128; have := i.isLt; omega⟩
    | ⟨2, _⟩ => exact ⟨Nat.zero_le _, by show j.val < 0 + 128; have := j.isLt; omega⟩

end Stores

theorem rowPieces_canon {D : TileData} {x : Fin 3 → Vec Ideal S1x256x1024 .bf16} (hx : ∀ a, IsM1 (M := 256) (N := 1024) (x a) fun i j => D.e a (8 + i) j)
    (L : List (View.Piece (Elt Ideal) S3x8x1024 .f32)) :
    IsA (A := 3) (M := 8) (N := 1024) (View.canon (rowPieces x ++ L)) fun a i j => D.e (Fin.ofNat 3 a) (256 + i) j := fun a i j => by
  have last : ∀ (a : Fin 3), IsM1 (M := 8) (N := 1024) (lastRows (x a)) fun i j => D.e a (256 + i) j := fun a i j => by
    refine (lastRows_isM (hx a) i j).trans ?_
    beta_reduce
    rw [show 8 + (248 + i.val) = 256 + i.val by omega]
  have piece : ∀ (a : Fin 3) (inb), ∀ y, lastRows (x a) y = onIdx (A := 3) (M := 8) (N := 1024) (fun a i j => D.e (Fin.ofNat 3 a) (256 + i) j)
      ((Rect.unit (s := S3x8x1024) ![a.val, 0, 0] S1x8x1024.size inb).emb y) := fun a inb y =>
    IsM1.piece (last a) inb (fun i _ j _ => by
      rw [Nat.zero_add, Nat.zero_add, show Fin.ofNat 3 a.val = a from Fin.ext (Nat.mod_eq_of_lt a.isLt)]) y
  refine (View.canon_append_of_pieces (onIdx fun a i j => D.e (Fin.ofNat 3 a) (256 + i) j) L (rowPieces x) (fun p hp y => ?_) (ix3 a i j) ?_).trans rfl
  · unfold rowPieces at hp
    simp only [List.mem_cons, List.not_mem_nil, or_false] at hp
    rcases hp with rfl | rfl | rfl
    · exact piece 2 (by decide) y
    · exact piece 1 (by decide) y
    · exact piece 0 (by decide) y
  · have mem : ∀ (inb), ix3 a i j ∈ (Rect.unit (s := S3x8x1024) ![a.val, 0, 0] S1x8x1024.size inb).set := fun inb => Rect.mem_set_unit.mpr fun b => by
      match b with
      | ⟨0, _⟩ => exact ⟨le_refl a.val, by show a.val < a.val + 1; omega⟩
      | ⟨1, _⟩ => exact ⟨Nat.zero_le _, by show i.val < 0 + 8; have := i.isLt; omega⟩
      | ⟨2, _⟩ => exact ⟨Nat.zero_le _, by show j.val < 0 + 1024; have := j.isLt; omega⟩
    have all : ∀ a : Fin 3, (⟨Rect.unit (s := S3x8x1024) ![a.val, 0, 0] S1x8x1024.size (fits_rows a), lastRows (x a)⟩ : View.Piece (Elt Ideal) S3x8x1024 .f32) ∈ rowPieces x := by
      unfold rowPieces
      intro a
      fin_cases a
      · exact List.mem_cons_of_mem _ (List.mem_cons_of_mem _ List.mem_cons_self)
      · exact List.mem_cons_of_mem _ List.mem_cons_self
      · exact List.mem_cons_self
    exact ⟨_, all a, mem (fits_rows a)⟩

/-! ## The first tile of a sequence: cleared buffers -/

theorem rows_zero (y : S3x8x1024.Idx) : View.canon (kernelRun0_A.sl.HS0_1 (F := Ideal)) y = ((0 : ℝ) : EReal) := by
  have e : kernelRun0_A.sl.HS0_1 (F := Ideal) = [⟨Rect.unit (s := S3x8x1024) ![0, 0, 0] S3x8x1024.size (by decide), k0_pay1 (F := Ideal)⟩] := rfl
  rw [e]
  refine View.canon_apply_of_pieces (fun _ => ((0 : ℝ) : EReal)) _ (fun p hp x => ?_) y ⟨(⟨Rect.unit (s := S3x8x1024) ![0, 0, 0] S3x8x1024.size (by decide), k0_pay1 (F := Ideal)⟩ : View.Piece (Elt Ideal) S3x8x1024 .f32), List.mem_singleton.mpr rfl, (Rect.mem_set_unit (s := S3x8x1024) (off := ![0, 0, 0]) (size := S3x8x1024.size) (inb := by decide)).mpr fun b => ?_⟩
  · obtain rfl := List.mem_singleton.mp hp
    exact zero_eq
  · have h := (y b).isLt
    match b, h with
    | ⟨0, _⟩, h => exact ⟨Nat.zero_le _, by show _ < 0 + _; rw [Nat.zero_add]; exact h⟩
    | ⟨1, _⟩, h => exact ⟨Nat.zero_le _, by show _ < 0 + _; rw [Nat.zero_add]; exact h⟩
    | ⟨2, _⟩, h => exact ⟨Nat.zero_le _, by show _ < 0 + _; rw [Nat.zero_add]; exact h⟩

theorem states_zero (y : S8x128x128.Idx) : View.canon (kernelRun0_A.sl.HS1_1 (F := Ideal)) y = ((0 : ℝ) : EReal) := by
  have e : kernelRun0_A.sl.HS1_1 (F := Ideal) = [⟨Rect.unit (s := S8x128x128) ![0, 0, 0] S8x128x128.size (by decide), k0_pay2 (F := Ideal)⟩] := rfl
  rw [e]
  refine View.canon_apply_of_pieces (fun _ => ((0 : ℝ) : EReal)) _ (fun p hp x => ?_) y ⟨(⟨Rect.unit (s := S8x128x128) ![0, 0, 0] S8x128x128.size (by decide), k0_pay2 (F := Ideal)⟩ : View.Piece (Elt Ideal) S8x128x128 .f32), List.mem_singleton.mpr rfl, (Rect.mem_set_unit (s := S8x128x128) (off := ![0, 0, 0]) (size := S8x128x128.size) (inb := by decide)).mpr fun b => ?_⟩
  · obtain rfl := List.mem_singleton.mp hp
    exact zero_eq
  · have h := (y b).isLt
    match b, h with
    | ⟨0, _⟩, h => exact ⟨Nat.zero_le _, by show _ < 0 + _; rw [Nat.zero_add]; exact h⟩
    | ⟨1, _⟩, h => exact ⟨Nat.zero_le _, by show _ < 0 + _; rw [Nat.zero_add]; exact h⟩
    | ⟨2, _⟩, h => exact ⟨Nat.zero_le _, by show _ < 0 + _; rw [Nat.zero_add]; exact h⟩

theorem cleared_rows (a : Memref sig .tc .vmem S3x8x1024 .f32) (n : Fin 3)
    (inb : ∀ a, (![n.val, 0, 0] : Fin 3 → ℕ) a + S1x8x1024.size a ≤ S3x8x1024.size a) (L : List (View.Piece (Elt Ideal) S3x8x1024 .f32))
    (hL : ∀ p ∈ L, ∀ y ∈ p.1.set, (y 0).val < n.val) :
    IsM1 (M := 8) (N := 1024) (a.view.readCov (L ++ kernelRun0_A.sl.HS0_1 (F := Ideal)) (Rect.unit (s := S3x8x1024) ![n.val, 0, 0] S1x8x1024.size inb).toLoadRect)
      fun _ _ => 0 := fun i j => by
  rw [View.readCov_eq_canon']
  beta_reduce
  generalize hy : ((Rect.unit (s := S3x8x1024) ![n.val, 0, 0] S1x8x1024.size inb).toLoadRect.idx (ix3 (0 : Fin 1) i j)) = y
  have hy0 : (y 0).val = n.val := by
    rw [← hy]
    exact (Rect.idx_unit_val (s := S3x8x1024) ![n.val, 0, 0] S1x8x1024.size inb (ix3 (0 : Fin 1) i j) 0).trans (Nat.add_zero _)
  induction L with
  | nil => exact rows_zero y
  | cons p L ih =>
    rw [List.cons_append, View.canon_cons_of_not_mem]
    · exact ih fun q hq => hL q (List.mem_cons_of_mem _ hq)
    · intro hm
      have := hL p List.mem_cons_self y hm
      omega

theorem startState_isM (a : Memref sig .tc .vmem S8x128x128 .f32) (hh : Fin 8) :
    IsM1 (M := 128) (N := 128) (startState (F := Ideal) a hh) fun _ _ => 0 := fun i j => by
  unfold startState
  rw [View.readCov_eq_canon']
  exact states_zero _

end Cert.Gdn

end
-- ==== Proof.Point.lean ====
module

public import proofs.«01_k».proof.Proof.Step

/-! One grid point in real numbers: from the blocks it reads and what the point before left in the carried buffers, the block it writes and what it
    leaves there. The first point of a sequence clears the carried buffers, so it starts from zero. -/

@[expose] public section

noncomputable section

namespace Cert.Gdn

open Cert.KernelIdeal Cert.KernelIdeal.Gen Idealize.ShloMosaic.ValueIdx Idealize.ShloMosaic.TcCoe Idealize.SL.Sem
open Idealize.ShloMosaic hiding ix0 ix1 ix2 ix3 ix4 ix5 eq_ix1 eq_ix2 eq_ix3 eq_ix4

/-- What a point leaves: its output block, the last rows of its parts and the states after it. -/
structure LeavesAre (o : Vec Ideal S1x256x1024 .bf16) (r : Vec Ideal S3x8x1024 .f32) (s : Vec Ideal S8x128x128 .f32) (D : TileData) (S : ℕ → ℕ → ℕ → ℝ) : Prop where
  out : IsM1 (M := 256) (N := 1024) o fun i j => D.out S (j / 128) i (j % 128)
  rows : IsA (A := 3) (M := 8) (N := 1024) r fun a i j => D.e (Fin.ofNat 3 a) (256 + i) j
  state : IsA (A := 8) (M := 128) (N := 128) s fun hh => D.state S 256 hh

theorem parts_is {x0 x1 x2 x3 : Vec Ideal S1x256x1024 .bf16} {x4 : Vec Ideal S1x256x128 .f32} {x5 : Vec Ideal S3x4x1024 .f32} {x6 x7 : Vec Ideal S1x1x128 .f32}
    {x8 : Vec Ideal S1x128 .f32} {x9 : Vec Ideal S3x256x256 .bf16} {D : TileData} (H : BlocksAre ![x0, x1, x2] x3 x4 x5 x6 x7 x8 x9 D)
    (arg3 : Memref sig .tc .vmem S1x256x1024 .bf16) (harg3 : arg3.IsWhole) (arg4 : Memref sig .tc .vmem S1x256x1024 .bf16) (harg4 : arg4.IsWhole)
    (arg5 : Memref sig .tc .vmem S1x256x1024 .bf16) (harg5 : arg5.IsWhole) (a : Fin 3) :
    IsM1 (M := 256) (N := 1024) ((![readPart arg3 harg3 x0, readPart arg4 harg4 x1, readPart arg5 harg5 x2] : Fin 3 → Vec Ideal S1x256x1024 .bf16) a)
      fun i j => D.e a (8 + i) j := by
  fin_cases a
  · exact readPart_isM (H.parts 0)
  · exact readPart_isM (H.parts 1)
  · exact readPart_isM (H.parts 2)

section

variable (c : Dev nD) (i : grid0.Coords) (arg3 : Memref sig .tc .vmem S1x256x1024 .bf16) (harg3 : arg3.IsWhole) (arg4 : Memref sig .tc .vmem S1x256x1024 .bf16) (harg4 : arg4.IsWhole) (arg5 : Memref sig .tc .vmem S1x256x1024 .bf16) (harg5 : arg5.IsWhole) (arg6 : Memref sig .tc .vmem S1x256x1024 .bf16) (harg6 : arg6.IsWhole) (arg7 : Memref sig .tc .vmem S1x256x128 .f32) (harg7 : arg7.IsWhole) (arg8 : Memref sig .tc .vmem S3x4x1024 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x128 .f32) (harg11 : arg11.IsWhole) (arg12 : Memref sig .tc .vmem S3x256x256 .bf16) (harg12 : arg12.IsWhole) (arg13 : Memref sig .tc .vmem S1x256x1024 .bf16) (harg13 : arg13.IsWhole) (arg14 : Memref sig .tc .vmem S3x8x1024 .f32) (harg14 : arg14.IsWhole) (arg15 : Memref sig .tc .vmem S8x128x128 .f32) (harg15 : arg15.IsWhole) (hc0 : ¬cond0_0 i)
    (x0 : Vec Ideal S1x256x1024 .bf16) (x1 : Vec Ideal S1x256x1024 .bf16) (x2 : Vec Ideal S1x256x1024 .bf16) (x3 : Vec Ideal S1x256x1024 .bf16) (x4 : Vec Ideal S1x256x128 .f32) (x5 : Vec Ideal S3x4x1024 .f32) (x6 : Vec Ideal S1x1x128 .f32) (x7 : Vec Ideal S1x1x128 .f32) (x8 : Vec Ideal S1x128 .f32) (x9 : Vec Ideal S3x256x256 .bf16) (xs0 : Vec Ideal S3x8x1024 .f32) (xs1 : Vec Ideal S8x128x128 .f32)

theorem pointB {D : TileData} (H : BlocksAre ![x0, x1, x2] x3 x4 x5 x6 x7 x8 x9 D) {S : ℕ → ℕ → ℕ → ℝ}
    (h0 : IsA (A := 3) (M := 8) (N := 1024) xs0 fun a i j => D.e (Fin.ofNat 3 a) i j) (h1 : IsA (A := 8) (M := 128) (N := 128) xs1 S) :
    LeavesAre (out0_B_10 c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 xs0 xs1) (sout0_B_0 c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 xs0 xs1) (sout0_B_1 c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 xs0 xs1) D S := by
  have hp : ∀ a, IsM1 (M := 8) (N := 1024) (readRows arg14 harg14 xs0 a) (D.e a) := fun a i j => by
    refine (readRows_isM h0 a i j).trans ?_
    rw [show Fin.ofNat 3 a.val = a from Fin.ext (Nat.mod_eq_of_lt a.isLt)]
  have HT := shared_is arg3 harg3 arg4 harg4 arg5 harg5 arg7 harg7 arg8 harg8 arg9 harg9 arg10 harg10 arg12 harg12 H hp
  have hst : ∀ hh : Fin 8, IsM1 (M := 128) (N := 128) (readState arg15 harg15 xs1 hh) (S hh.val) := fun hh => readState_isM h1 hh
  refine ⟨?_, ?_, ?_⟩
  · unfold out0_B_10
    rw [View.read_writes_junk_eq_canon, outB]
    exact outPieces_canon HT hst (readGain_isM H.gain) fun hh => readGate_isM H.gate hh
  · unfold sout0_B_0
    rw [View.read_writes_junk_eq_canon, rowsB, ← List.append_nil (rowPieces _)]
    exact rowPieces_canon (parts_is H arg3 harg3 arg4 harg4 arg5 harg5) _
  · unfold sout0_B_1
    rw [View.read_writes_junk_eq_canon, stateB, ← List.append_nil (statePieces _ _)]
    exact statePieces_canon HT hst _

end

section

variable (c : Dev nD) (i : grid0.Coords) (arg3 : Memref sig .tc .vmem S1x256x1024 .bf16) (harg3 : arg3.IsWhole) (arg4 : Memref sig .tc .vmem S1x256x1024 .bf16) (harg4 : arg4.IsWhole) (arg5 : Memref sig .tc .vmem S1x256x1024 .bf16) (harg5 : arg5.IsWhole) (arg6 : Memref sig .tc .vmem S1x256x1024 .bf16) (harg6 : arg6.IsWhole) (arg7 : Memref sig .tc .vmem S1x256x128 .f32) (harg7 : arg7.IsWhole) (arg8 : Memref sig .tc .vmem S3x4x1024 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x128 .f32) (harg11 : arg11.IsWhole) (arg12 : Memref sig .tc .vmem S3x256x256 .bf16) (harg12 : arg12.IsWhole) (arg13 : Memref sig .tc .vmem S1x256x1024 .bf16) (harg13 : arg13.IsWhole) (arg14 : Memref sig .tc .vmem S3x8x1024 .f32) (harg14 : arg14.IsWhole) (arg15 : Memref sig .tc .vmem S8x128x128 .f32) (harg15 : arg15.IsWhole) (hc0 : cond0_0 i)
    (x0 : Vec Ideal S1x256x1024 .bf16) (x1 : Vec Ideal S1x256x1024 .bf16) (x2 : Vec Ideal S1x256x1024 .bf16) (x3 : Vec Ideal S1x256x1024 .bf16) (x4 : Vec Ideal S1x256x128 .f32) (x5 : Vec Ideal S3x4x1024 .f32) (x6 : Vec Ideal S1x1x128 .f32) (x7 : Vec Ideal S1x1x128 .f32) (x8 : Vec Ideal S1x128 .f32) (x9 : Vec Ideal S3x256x256 .bf16)

theorem pointA {D : TileData} (H : BlocksAre ![x0, x1, x2] x3 x4 x5 x6 x7 x8 x9 D) (h0 : ∀ a i j, i < 8 → D.e a i j = 0) :
    LeavesAre (out0_A_10 c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9) (sout0_A_0 c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9) (sout0_A_1 c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9) D fun _ _ _ => 0 := by
  have low : ∀ (n k : ℕ) (hk : n < k) (inb) (v), ∀ y ∈ (⟨Rect.unit (s := S3x8x1024) ![n, 0, 0] S1x8x1024.size inb, v⟩ : View.Piece (Elt Ideal) S3x8x1024 .f32).1.set,
      (y 0).val < k := fun n k hk inb v y hy => by
    have h : (y 0).val < n + 1 := ((Rect.mem_set_unit (inb := inb)).mp hy 0).2
    omega
  have hz : ∀ a : Fin 3, IsM1 (M := 8) (N := 1024) ((![kernelRun0_A.sl.v7 c arg14, kernelRun0_A.sl.v75 c arg3 harg3 arg14 x0,
      kernelRun0_A.sl.v143 c arg3 harg3 arg4 harg4 arg14 x0 x1] : Fin 3 → Vec Ideal S1x8x1024 .f32) a) fun _ _ => 0 := fun a => by
    fin_cases a
    · exact cleared_rows arg14 0 (fits_rows 0) [] (by intro p hp; cases hp)
    · refine cleared_rows arg14 1 (fits_rows 1) [⟨Rect.unit (s := S3x8x1024) ![0, 0, 0] S1x8x1024.size (fits_rows 0), lastRows (readPart arg3 harg3 x0)⟩] ?_
      intro p hp
      rw [List.mem_singleton.mp hp]
      exact low 0 1 (by omega) _ _
    · refine cleared_rows arg14 2 (fits_rows 2) [⟨Rect.unit (s := S3x8x1024) ![1, 0, 0] S1x8x1024.size (fits_rows 1), lastRows (readPart arg4 harg4 x1)⟩,
        ⟨Rect.unit (s := S3x8x1024) ![0, 0, 0] S1x8x1024.size (fits_rows 0), lastRows (readPart arg3 harg3 x0)⟩] ?_
      intro p hp
      rcases List.mem_cons.mp hp with rfl | hp
      · exact low 1 2 (by omega) _ _
      · rw [List.mem_singleton.mp hp]
        exact low 0 2 (by omega) _ _
  have hp : ∀ a : Fin 3, IsM1 (M := 8) (N := 1024) ((![kernelRun0_A.sl.v7 c arg14, kernelRun0_A.sl.v75 c arg3 harg3 arg14 x0,
      kernelRun0_A.sl.v143 c arg3 harg3 arg4 harg4 arg14 x0 x1] : Fin 3 → Vec Ideal S1x8x1024 .f32) a) (D.e a) := fun a i j => by
    rw [hz a i j, h0 a i j i.isLt]
  have HT := shared_is arg3 harg3 arg4 harg4 arg5 harg5 arg7 harg7 arg8 harg8 arg9 harg9 arg10 harg10 arg12 harg12 H hp
  have hst : ∀ hh : Fin 8, IsM1 (M := 128) (N := 128) (startState (F := Ideal) arg15 hh) ((fun _ _ _ => 0 : ℕ → ℕ → ℕ → ℝ) hh.val) := fun hh => startState_isM arg15 hh
  refine ⟨?_, ?_, ?_⟩
  · unfold out0_A_10
    rw [View.read_writes_junk_eq_canon, outA]
    exact outPieces_canon HT hst (readGain_isM H.gain) fun hh => readGate_isM H.gate hh
  · unfold sout0_A_0
    rw [View.read_writes_junk_eq_canon, rowsA]
    exact rowPieces_canon (parts_is H arg3 harg3 arg4 harg4 arg5 harg5) _
  · unfold sout0_A_1
    rw [View.read_writes_junk_eq_canon, stateA]
    exact statePieces_canon HT hst _

end

end Cert.Gdn

end
-- ==== Proof.Host.lean ====
module

public import proofs.«01_k».proof.Proof.Step
public import proofs.«01_k».proof.Proof.Gen.KernelIdeal.Frame
public import Idealize.ShloMosaic.Lib.StableHlo.ReadAt
import Idealize.ShloMosaic.Lib.Claim

/-! What the arrays the kernel reads hold, in terms of the arguments. -/

@[expose] public section

noncomputable section

namespace Cert.Gdn

open Cert.KernelIdeal Cert.KernelIdeal.Gen Idealize.ShloMosaic.ValueIdx Idealize.ShloMosaic.TcCoe Idealize.SL.Sem
open Idealize.ShloMosaic hiding ix0 ix1 ix2 ix3 ix4 ix5 eq_ix1 eq_ix2 eq_ix3 eq_ix4

variable (m : (ℓ : Loc nD τ sig) → Buf (Elt Ideal) ℓ) (c : Dev nD)

theorem v1_at (a : Fin 3) (n : Fin 4) (j : Fin 2048) :
    V m c main_v1 (ix3 a n j) = m ((c : Thread nD τ).loc main_arg2) (ix2 n (⟨2048 * a + j, by omega⟩ : Fin 6144)) := by
  unfold V
  after_reads_at
  refine congrArg (m ((c : Thread nD τ).loc main_arg2)) (congrArg (ix2 n) (Fin.ext ?_))
  show a.val * 2048 + j.val = 2048 * a.val + j.val
  omega

theorem zero_word : (FloatOps.sitofp FTy.f32 (0#32) : Ideal .f32) = ((0 : ℝ) : EReal) := by
  show (((0#32 : BitVec 32).toInt : ℝ) : EReal) = _
  simp

theorem v3_at (a : Fin 2) (j : Fin 128) :
    V m c main_v3 (ix3 a (0 : Fin 1) j) = if h : j.val < 8 then m ((c : Thread nD τ).loc main_arg3) (ix1 (⟨8 * a + j, by omega⟩ : Fin 16)) else ((0 : ℝ) : EReal) := by
  unfold V
  after_reads_at
  show (if h : j.val < 8 then m ((c : Thread nD τ).loc main_arg3) (ix1 (⟨a.val * 8 + j.val, by omega⟩ : Fin 16))
    else (FloatOps.sitofp FTy.f32 (0#32) : Ideal .f32)) = _
  by_cases h : j.val < 8
  · rw [dif_pos h, dif_pos h]
    refine congrArg (m ((c : Thread nD τ).loc main_arg3)) (congrArg ix1 (Fin.ext ?_))
    show a.val * 8 + j.val = 8 * a.val + j.val
    omega
  · rw [dif_neg h, dif_neg h]
    exact zero_word

theorem v5_at (a : Fin 2) (j : Fin 128) :
    V m c main_v5 (ix3 a (0 : Fin 1) j) = if h : j.val < 8 then m ((c : Thread nD τ).loc main_arg4) (ix1 (⟨8 * a + j, by omega⟩ : Fin 16)) else ((0 : ℝ) : EReal) := by
  unfold V
  after_reads_at
  show (if h : j.val < 8 then m ((c : Thread nD τ).loc main_arg4) (ix1 (⟨a.val * 8 + j.val, by omega⟩ : Fin 16))
    else (FloatOps.sitofp FTy.f32 (0#32) : Ideal .f32)) = _
  by_cases h : j.val < 8
  · rw [dif_pos h, dif_pos h]
    refine congrArg (m ((c : Thread nD τ).loc main_arg4)) (congrArg ix1 (Fin.ext ?_))
    show a.val * 8 + j.val = 8 * a.val + j.val
    omega
  · rw [dif_neg h, dif_neg h]
    exact zero_word

theorem v6_at (j : Fin 128) : V m c main_v6 (ix2 (0 : Fin 1) j) = m ((c : Thread nD τ).loc main_arg5) (ix1 j) := by
  unfold V
  after_reads_at
  rfl

theorem v15_at (d : Fin 3) (i j : Fin 256) : V m c main_v15 (ix3 d i j) = (((if j.val + (d.val + 1) = i.val then 1 else 0 : ℝ)) : EReal) := by
  unfold V
  after_reads_at
  have hj := j.isLt
  have hi := i.isLt
  have hd := d.isLt
  show Scalar.select (IntOp.cmpi CmpIPredicate.eq (BitVec.ofNat 32 j.val) (BitVec.ofNat 32 i.val - (BitVec.ofNat 32 d.val + 1#32)))
    (FloatOps.ofBits FTy.f32 1065353216#32 : Ideal .f32) (FloatOps.ofBits FTy.f32 0#32) = _
  have e : BitVec.ofNat 32 j.val = BitVec.ofNat 32 i.val - (BitVec.ofNat 32 d.val + 1#32) ↔ j.val + (d.val + 1) = i.val := by
    rw [← BitVec.toNat_inj]
    simp only [BitVec.toNat_ofNat, BitVec.toNat_sub, BitVec.toNat_add]
    omega
  by_cases h : j.val + (d.val + 1) = i.val
  · rw [if_pos h, ← e.mpr h]
    refine Eq.trans ?_ one_eq
    simp [IntOp.cmpi, Scalar.select]
  · rw [if_neg h]
    have h' := beq_false_of_ne fun q => h (e.mp q)
    refine Eq.trans ?_ zero_eq
    simp [IntOp.cmpi, Scalar.select, h']

/-! ## The arguments as real numbers -/

/-- The arguments' elements as real numbers: the projections, the gates' columns, the taps, the decay's two rows, the gain. -/
structure Arrays where
  P3 : ℕ → ℕ → ℕ → ℝ
  PS : ℕ → ℕ → ℕ → ℝ
  CW : ℕ → ℕ → ℝ
  AL : ℕ → ℝ
  DT : ℕ → ℝ
  OG : ℕ → ℝ

structure Holds (A : Arrays) : Prop where
  p3 : IsA (A := 4) (M := 4096) (N := 17408) (m ((c : Thread nD τ).loc main_arg0)) A.P3
  ps : IsA (A := 4) (M := 4096) (N := 768) (m ((c : Thread nD τ).loc main_arg1)) A.PS
  cw : IsM (M := 4) (N := 6144) (m ((c : Thread nD τ).loc main_arg2)) A.CW
  al : ∀ i : Fin 16, m ((c : Thread nD τ).loc main_arg3) (ix1 i) = ((A.AL i.val : ℝ) : EReal)
  dt : ∀ i : Fin 16, m ((c : Thread nD τ).loc main_arg4) (ix1 i) = ((A.DT i.val : ℝ) : EReal)
  og : ∀ i : Fin 128, m ((c : Thread nD τ).loc main_arg5) (ix1 i) = ((A.OG i.val : ℝ) : EReal)

namespace Arrays
variable (A : Arrays)

/-- A part's columns of a sequence, eight rows of zeros before the first. -/
def rows (b g : ℕ) (a : ℕ) (n j : ℕ) : ℝ := if n < 8 then 0 else A.P3 b (n - 8) (1024 * (5 + 2 * a + g) + j)

/-- Tile `k` of sequence `b` and head group `g`. -/
def tile (b g k : ℕ) : TileData where
  e a n j := A.rows b g a.val (256 * k + n) j
  z i j := A.P3 b (256 * k + i) (1024 * (11 + g) + j)
  ab i j := A.PS b (256 * k + i) (128 * (4 + g) + j)
  w a n j := A.CW n (2048 * a.val + (1024 * g + j))
  al j := if j < 8 then A.AL (8 * g + j) else 0
  dt j := if j < 8 then A.DT (8 * g + j) else 0
  og j := A.OG j

end Arrays

/-! ## The blocks -/

theorem IsA.at {A M N A' M' N' : ℕ} {X : (⟨3, ![A, M, N]⟩ : Shape).Idx → EReal} {f : ℕ → ℕ → ℕ → ℝ} (h : IsA (A := A) (M := M) (N := N) X f)
    (p : (⟨3, ![A', M', N']⟩ : Shape).Idx → (⟨3, ![A, M, N]⟩ : Shape).Idx) (o₀ o₁ o₂ : ℕ)
    (e : ∀ y, (p y 0).val = o₀ + (y 0).val ∧ (p y 1).val = o₁ + (y 1).val ∧ (p y 2).val = o₂ + (y 2).val) :
    IsA (A := A') (M := M') (N := N') (fun y => X (p y)) fun a i j => f (o₀ + a) (o₁ + i) (o₂ + j) := fun a i j => by
  have h' := h (p (ix3 a i j) 0 : Fin A) (p (ix3 a i j) 1 : Fin M) (p (ix3 a i j) 2 : Fin N)
  obtain ⟨e0, e1, e2⟩ := e (ix3 a i j)
  rw [e0, e1, e2] at h'
  exact (congrArg X (eq_ix3 (p (ix3 a i j)))).trans h'

theorem IsA.isM1 {M N : ℕ} {X : (⟨3, ![1, M, N]⟩ : Shape).Idx → EReal} {f : ℕ → ℕ → ℕ → ℝ} {g : ℕ → ℕ → ℝ} (h : IsA (A := 1) (M := M) (N := N) X f)
    (e : ∀ i < M, ∀ j < N, f 0 i j = g i j) : IsM1 (M := M) (N := N) X g := fun i j => by
  rw [← e i i.isLt j j.isLt]
  exact h 0 i j

theorem index_eq : ∀ t : Fin cfg0.N,
    win0_0.index t = ![t.val / 32, t.val % 16, 5 + t.val / 16 % 2] ∧ win0_1.index t = ![t.val / 32, t.val % 16, 7 + t.val / 16 % 2]
      ∧ win0_2.index t = ![t.val / 32, t.val % 16, 9 + t.val / 16 % 2] ∧ win0_3.index t = ![t.val / 32, t.val % 16, 11 + t.val / 16 % 2]
      ∧ win0_4.index t = ![t.val / 32, t.val % 16, 4 + t.val / 16 % 2] ∧ win0_5.index t = ![0, 0, t.val / 16 % 2]
      ∧ win0_6.index t = ![t.val / 16 % 2, 0, 0] ∧ win0_7.index t = ![t.val / 16 % 2, 0, 0] ∧ win0_8.index t = ![0, 0]
      ∧ win0_9.index t = ![0, 0, 0] ∧ win0_10.index t = ![t.val / 32, t.val % 16, t.val / 16 % 2] :=
  (by decide +kernel : ∀ t : Fin grid0.N,
    win0_0.index t = ![t.val / 32, t.val % 16, 5 + t.val / 16 % 2] ∧ win0_1.index t = ![t.val / 32, t.val % 16, 7 + t.val / 16 % 2]
      ∧ win0_2.index t = ![t.val / 32, t.val % 16, 9 + t.val / 16 % 2] ∧ win0_3.index t = ![t.val / 32, t.val % 16, 11 + t.val / 16 % 2]
      ∧ win0_4.index t = ![t.val / 32, t.val % 16, 4 + t.val / 16 % 2] ∧ win0_5.index t = ![0, 0, t.val / 16 % 2]
      ∧ win0_6.index t = ![t.val / 16 % 2, 0, 0] ∧ win0_7.index t = ![t.val / 16 % 2, 0, 0] ∧ win0_8.index t = ![0, 0]
      ∧ win0_9.index t = ![0, 0, 0] ∧ win0_10.index t = ![t.val / 32, t.val % 16, t.val / 16 % 2])

variable {m c} {A : Arrays} (H : Holds m c A) (t : Fin cfg0.N)

include H in
theorem Holds.v1 : IsA (A := 3) (M := 4) (N := 2048) (V m c main_v1) fun a n j => A.CW n (2048 * a + j) := fun a n j => by
  rw [v1_at]
  exact H.cw _ _
include H in
theorem Holds.v3 : IsA (A := 2) (M := 1) (N := 128) (V m c main_v3) fun a _ j => if j < 8 then A.AL (8 * a + j) else 0 := fun a i j => by
  rw [show i = 0 from Subsingleton.elim _ _, v3_at]
  show _ = ((if j.val < 8 then A.AL (8 * a.val + j.val) else 0 : ℝ) : EReal)
  by_cases h : j.val < 8
  · rw [dif_pos h, if_pos h]
    exact H.al _
  · rw [dif_neg h, if_neg h]
include H in
theorem Holds.v5 : IsA (A := 2) (M := 1) (N := 128) (V m c main_v5) fun a _ j => if j < 8 then A.DT (8 * a + j) else 0 := fun a i j => by
  rw [show i = 0 from Subsingleton.elim _ _, v5_at]
  show _ = ((if j.val < 8 then A.DT (8 * a.val + j.val) else 0 : ℝ) : EReal)
  by_cases h : j.val < 8
  · rw [dif_pos h, if_pos h]
    exact H.dt _
  · rw [dif_neg h, if_neg h]
theorem v15_isA (m : (ℓ : Loc nD τ sig) → Buf (Elt Ideal) ℓ) (c : Dev nD) :
    IsA (A := 3) (M := 256) (N := 256) (V m c main_v15) fun d i j => if j + (d + 1) = i then 1 else 0 := fun d i j => v15_at m c d i j

include H in
theorem blk0 : IsA (A := 1) (M := 256) (N := 1024) (iblk m c 0 t) fun a i j => A.P3 (t.val / 32 + a) (256 * (t.val % 16) + i) (1024 * (5 + t.val / 16 % 2) + j) := by
  have hi := (index_eq t).1
  have h := IsA.at (X := V m c main_arg0) (A' := 1) (M' := 256) (N' := 1024) (by rw [V_main_arg0]; exact H.p3) (fun y => ((cfg0.win 0).blk t).view.emb y) (t.val / 32) (256 * (t.val % 16)) (1024 * (5 + t.val / 16 % 2)) fun y => by
    refine ⟨?_, ?_, ?_⟩
    · show win0_0.index t 0 * 1 + 1 * (y 0).val = _; rw [hi]; show (t.val / 32) * 1 + 1 * (y 0).val = _; omega
    · show win0_0.index t 1 * 256 + 1 * (y 1).val = _; rw [hi]; show (t.val % 16) * 256 + 1 * (y 1).val = _; omega
    · show win0_0.index t 2 * 1024 + 1 * (y 2).val = _; rw [hi]; show (5 + t.val / 16 % 2) * 1024 + 1 * (y 2).val = _; omega
  exact h

include H in
theorem blk1 : IsA (A := 1) (M := 256) (N := 1024) (iblk m c 1 t) fun a i j => A.P3 (t.val / 32 + a) (256 * (t.val % 16) + i) (1024 * (7 + t.val / 16 % 2) + j) := by
  have hi := (index_eq t).2.1
  have h := IsA.at (X := V m c main_arg0) (A' := 1) (M' := 256) (N' := 1024) (by rw [V_main_arg0]; exact H.p3) (fun y => ((cfg0.win 1).blk t).view.emb y) (t.val / 32) (256 * (t.val % 16)) (1024 * (7 + t.val / 16 % 2)) fun y => by
    refine ⟨?_, ?_, ?_⟩
    · show win0_1.index t 0 * 1 + 1 * (y 0).val = _; rw [hi]; show (t.val / 32) * 1 + 1 * (y 0).val = _; omega
    · show win0_1.index t 1 * 256 + 1 * (y 1).val = _; rw [hi]; show (t.val % 16) * 256 + 1 * (y 1).val = _; omega
    · show win0_1.index t 2 * 1024 + 1 * (y 2).val = _; rw [hi]; show (7 + t.val / 16 % 2) * 1024 + 1 * (y 2).val = _; omega
  exact h

include H in
theorem blk2 : IsA (A := 1) (M := 256) (N := 1024) (iblk m c 2 t) fun a i j => A.P3 (t.val / 32 + a) (256 * (t.val % 16) + i) (1024 * (9 + t.val / 16 % 2) + j) := by
  have hi := (index_eq t).2.2.1
  have h := IsA.at (X := V m c main_arg0) (A' := 1) (M' := 256) (N' := 1024) (by rw [V_main_arg0]; exact H.p3) (fun y => ((cfg0.win 2).blk t).view.emb y) (t.val / 32) (256 * (t.val % 16)) (1024 * (9 + t.val / 16 % 2)) fun y => by
    refine ⟨?_, ?_, ?_⟩
    · show win0_2.index t 0 * 1 + 1 * (y 0).val = _; rw [hi]; show (t.val / 32) * 1 + 1 * (y 0).val = _; omega
    · show win0_2.index t 1 * 256 + 1 * (y 1).val = _; rw [hi]; show (t.val % 16) * 256 + 1 * (y 1).val = _; omega
    · show win0_2.index t 2 * 1024 + 1 * (y 2).val = _; rw [hi]; show (9 + t.val / 16 % 2) * 1024 + 1 * (y 2).val = _; omega
  exact h

include H in
theorem blk3 : IsA (A := 1) (M := 256) (N := 1024) (iblk m c 3 t) fun a i j => A.P3 (t.val / 32 + a) (256 * (t.val % 16) + i) (1024 * (11 + t.val / 16 % 2) + j) := by
  have hi := (index_eq t).2.2.2.1
  have h := IsA.at (X := V m c main_arg0) (A' := 1) (M' := 256) (N' := 1024) (by rw [V_main_arg0]; exact H.p3) (fun y => ((cfg0.win 3).blk t).view.emb y) (t.val / 32) (256 * (t.val % 16)) (1024 * (11 + t.val / 16 % 2)) fun y => by
    refine ⟨?_, ?_, ?_⟩
    · show win0_3.index t 0 * 1 + 1 * (y 0).val = _; rw [hi]; show (t.val / 32) * 1 + 1 * (y 0).val = _; omega
    · show win0_3.index t 1 * 256 + 1 * (y 1).val = _; rw [hi]; show (t.val % 16) * 256 + 1 * (y 1).val = _; omega
    · show win0_3.index t 2 * 1024 + 1 * (y 2).val = _; rw [hi]; show (11 + t.val / 16 % 2) * 1024 + 1 * (y 2).val = _; omega
  exact h

include H in
theorem blk4 : IsA (A := 1) (M := 256) (N := 128) (iblk m c 4 t) fun a i j => A.PS (t.val / 32 + a) (256 * (t.val % 16) + i) (128 * (4 + t.val / 16 % 2) + j) := by
  have hi := (index_eq t).2.2.2.2.1
  have h := IsA.at (X := V m c main_arg1) (A' := 1) (M' := 256) (N' := 128) (by rw [V_main_arg1]; exact H.ps) (fun y => ((cfg0.win 4).blk t).view.emb y) (t.val / 32) (256 * (t.val % 16)) (128 * (4 + t.val / 16 % 2)) fun y => by
    refine ⟨?_, ?_, ?_⟩
    · show win0_4.index t 0 * 1 + 1 * (y 0).val = _; rw [hi]; show (t.val / 32) * 1 + 1 * (y 0).val = _; omega
    · show win0_4.index t 1 * 256 + 1 * (y 1).val = _; rw [hi]; show (t.val % 16) * 256 + 1 * (y 1).val = _; omega
    · show win0_4.index t 2 * 128 + 1 * (y 2).val = _; rw [hi]; show (4 + t.val / 16 % 2) * 128 + 1 * (y 2).val = _; omega
  exact h

include H in
theorem blk5 : IsA (A := 3) (M := 4) (N := 1024) (iblk m c 5 t) fun a i j => A.CW (0 + i) (2048 * (0 + a) + (1024 * (t.val / 16 % 2) + j)) := by
  have hi := (index_eq t).2.2.2.2.2.1
  have h := IsA.at (X := V m c main_v1) (A' := 3) (M' := 4) (N' := 1024) H.v1 (fun y => ((cfg0.win 5).blk t).view.emb y) 0 0 (1024 * (t.val / 16 % 2)) fun y => by
    refine ⟨?_, ?_, ?_⟩
    · show win0_5.index t 0 * 3 + 1 * (y 0).val = _; rw [hi]; show 0 * 3 + 1 * (y 0).val = _; omega
    · show win0_5.index t 1 * 4 + 1 * (y 1).val = _; rw [hi]; show 0 * 4 + 1 * (y 1).val = _; omega
    · show win0_5.index t 2 * 1024 + 1 * (y 2).val = _; rw [hi]; show (t.val / 16 % 2) * 1024 + 1 * (y 2).val = _; omega
  exact h

include H in
theorem blk6 : IsA (A := 1) (M := 1) (N := 128) (iblk m c 6 t) fun a i j => if 0 + j < 8 then A.AL (8 * (t.val / 16 % 2 + a) + (0 + j)) else 0 := by
  have hi := (index_eq t).2.2.2.2.2.2.1
  have h := IsA.at (X := V m c main_v3) (A' := 1) (M' := 1) (N' := 128) H.v3 (fun y => ((cfg0.win 6).blk t).view.emb y) (t.val / 16 % 2) 0 0 fun y => by
    refine ⟨?_, ?_, ?_⟩
    · show win0_6.index t 0 * 1 + 1 * (y 0).val = _; rw [hi]; show (t.val / 16 % 2) * 1 + 1 * (y 0).val = _; omega
    · show win0_6.index t 1 * 1 + 1 * (y 1).val = _; rw [hi]; show 0 * 1 + 1 * (y 1).val = _; omega
    · show win0_6.index t 2 * 128 + 1 * (y 2).val = _; rw [hi]; show 0 * 128 + 1 * (y 2).val = _; omega
  exact h

include H in
theorem blk7 : IsA (A := 1) (M := 1) (N := 128) (iblk m c 7 t) fun a i j => if 0 + j < 8 then A.DT (8 * (t.val / 16 % 2 + a) + (0 + j)) else 0 := by
  have hi := (index_eq t).2.2.2.2.2.2.2.1
  have h := IsA.at (X := V m c main_v5) (A' := 1) (M' := 1) (N' := 128) H.v5 (fun y => ((cfg0.win 7).blk t).view.emb y) (t.val / 16 % 2) 0 0 fun y => by
    refine ⟨?_, ?_, ?_⟩
    · show win0_7.index t 0 * 1 + 1 * (y 0).val = _; rw [hi]; show (t.val / 16 % 2) * 1 + 1 * (y 0).val = _; omega
    · show win0_7.index t 1 * 1 + 1 * (y 1).val = _; rw [hi]; show 0 * 1 + 1 * (y 1).val = _; omega
    · show win0_7.index t 2 * 128 + 1 * (y 2).val = _; rw [hi]; show 0 * 128 + 1 * (y 2).val = _; omega
  exact h

theorem blk9 : IsA (A := 3) (M := 256) (N := 256) (iblk m c 9 t) fun a i j => if 0 + j + (0 + a + 1) = 0 + i then 1 else 0 := by
  have hi := (index_eq t).2.2.2.2.2.2.2.2.2.1
  have h := IsA.at (X := V m c main_v15) (A' := 3) (M' := 256) (N' := 256) (v15_isA m c) (fun y => ((cfg0.win 9).blk t).view.emb y) 0 0 0 fun y => by
    refine ⟨?_, ?_, ?_⟩
    · show win0_9.index t 0 * 3 + 1 * (y 0).val = _; rw [hi]; show 0 * 3 + 1 * (y 0).val = _; omega
    · show win0_9.index t 1 * 256 + 1 * (y 1).val = _; rw [hi]; show 0 * 256 + 1 * (y 1).val = _; omega
    · show win0_9.index t 2 * 256 + 1 * (y 2).val = _; rw [hi]; show 0 * 256 + 1 * (y 2).val = _; omega
  exact h

include H in
theorem blk8 : IsM (M := 1) (N := 128) (iblk m c 8 t) fun _ j => A.OG j := fun i j => by
  have hi := (index_eq t).2.2.2.2.2.2.2.2.1
  refine Eq.trans ?_ ((v6_at m c j).trans (H.og j))
  show V m c main_v6 _ = _
  refine congrArg (V m c main_v6) (funext fun a => Fin.ext ?_)
  match a with
  | ⟨0, _⟩ => show win0_8.index t 0 * 1 + 1 * i.val = 0; rw [hi]; have := i.isLt; show 0 * 1 + 1 * i.val = 0; omega
  | ⟨1, _⟩ => show win0_8.index t 1 * 128 + 1 * j.val = j.val; rw [hi]; show 0 * 128 + 1 * j.val = j.val; omega

include H in
/-- The blocks of point `t`: tile `t % 16` of sequence `t / 32` and head group `t / 16 % 2`. -/
theorem blocks_are : BlocksAre ![iblk m c 0 t, iblk m c 1 t, iblk m c 2 t] (iblk m c 3 t) (iblk m c 4 t) (iblk m c 5 t) (iblk m c 6 t) (iblk m c 7 t)
    (iblk m c 8 t) (iblk m c 9 t) (A.tile (t.val / 32) (t.val / 16 % 2) (t.val % 16)) where
  parts := fun a => by
    fin_cases a
    · exact (blk0 H t).isM1 fun i hi j hj => by
        show _ = (if _ then _ else _)
        rw [if_neg (by omega), show 256 * (t.val % 16) + (8 + i) - 8 = 256 * (t.val % 16) + i by omega]; rfl
    · exact (blk1 H t).isM1 fun i hi j hj => by
        show _ = (if _ then _ else _)
        rw [if_neg (by omega), show 256 * (t.val % 16) + (8 + i) - 8 = 256 * (t.val % 16) + i by omega]; rfl
    · exact (blk2 H t).isM1 fun i hi j hj => by
        show _ = (if _ then _ else _)
        rw [if_neg (by omega), show 256 * (t.val % 16) + (8 + i) - 8 = 256 * (t.val % 16) + i by omega]; rfl
  gate := (blk3 H t).isM1 fun i hi j hj => rfl
  cols := (blk4 H t).isM1 fun i hi j hj => rfl
  taps := fun a n j => by
    refine (blk5 H t a n j).trans ?_
    simp only [Nat.zero_add]
    show _ = ((A.CW n.val (2048 * (Fin.ofNat 3 a.val).val + (1024 * (t.val / 16 % 2) + j.val)) : ℝ) : EReal)
    rw [show Fin.ofNat 3 a.val = a from Fin.ext (Nat.mod_eq_of_lt a.isLt)]
  alog := (blk6 H t).isM1 fun i hi j hj => by
    simp only [Nat.zero_add]; rfl
  dtb := (blk7 H t).isM1 fun i hi j hj => by
    simp only [Nat.zero_add]; rfl
  gain := blk8 H t
  shifts := fun d i j => by
    refine (blk9 t d i j).trans ?_
    simp only [Nat.zero_add]

end Cert.Gdn

end
-- ==== Proof.Sequence.lean ====
module

public import proofs.«01_k».proof.Proof.Point
public import proofs.«01_k».proof.Proof.Host
public import proofs.«01_k».proof.Proof.Gen.KernelIdeal.Value
import Idealize.ShloMosaic.Lib.Pipeline.ValueKit

/-! The sixteen tiles of a sequence, and the array they fill. -/

@[expose] public section

set_option maxRecDepth 16384

noncomputable section

namespace Cert.Gdn

open Cert.KernelIdeal Cert.KernelIdeal.Gen Idealize.ShloMosaic.ValueIdx Idealize.ShloMosaic.TcCoe Idealize.SL.Sem Finset
open Idealize.ShloMosaic hiding ix0 ix1 ix2 ix3 ix4 ix5 eq_ix1 eq_ix2 eq_ix3 eq_ix4

namespace Arrays
variable (A : Arrays) (b g k : ℕ)

/-- The whole sequence, as one tile without an end. -/
def whole : TileData := A.tile b g 0

theorem part_tile (a : Fin 3) (i j : ℕ) : (A.tile b g k).part a i j = (A.whole b g).part a (256 * k + i) j := by
  unfold TileData.part convF
  show siluF (_ * A.rows b g a.val (256 * k + (8 + i)) j + _ * A.rows b g a.val (256 * k + (7 + i)) j
      + _ * A.rows b g a.val (256 * k + (6 + i)) j + _ * A.rows b g a.val (256 * k + (5 + i)) j)
    = siluF (_ * A.rows b g a.val (256 * 0 + (8 + (256 * k + i))) j + _ * A.rows b g a.val (256 * 0 + (7 + (256 * k + i))) j
      + _ * A.rows b g a.val (256 * 0 + (6 + (256 * k + i))) j + _ * A.rows b g a.val (256 * 0 + (5 + (256 * k + i))) j)
  simp only [show ∀ s, 256 * 0 + (s + (256 * k + i)) = 256 * k + (s + i) from fun s => by omega]
  rfl

theorem ab_tile (i h : ℕ) : (A.tile b g k).ab i h = (A.whole b g).ab (256 * k + i) h := by
  show A.PS b (256 * k + i) _ = A.PS b (256 * 0 + (256 * k + i)) _
  rw [show 256 * 0 + (256 * k + i) = 256 * k + i by omega]

theorem beta_tile (i h : ℕ) : (A.tile b g k).beta i h = (A.whole b g).beta (256 * k + i) h := by
  unfold TileData.beta
  rw [ab_tile]

theorem decay_tile (i h : ℕ) : (A.tile b g k).decay i h = (A.whole b g).decay (256 * k + i) h := by
  unfold TileData.decay
  rw [ab_tile]
  rfl

/-- The states before tile `k`. -/
abbrev before : ℕ → ℕ → ℕ → ℝ := fun hh => (A.whole b g).state (fun _ _ _ => 0) (256 * k) hh

theorem headK_tile (hh i d : ℕ) : headK ((A.tile b g k).part 1) (128 * hh) i d = headK ((A.whole b g).part 1) (128 * hh) (256 * k + i) d := by
  unfold headK unitF
  simp only [part_tile]

theorem headQ_tile (hh i d : ℕ) : headQ ((A.tile b g k).part 0) (128 * hh) i d = headQ ((A.whole b g).part 0) (128 * hh) (256 * k + i) d := by
  unfold headQ unitF
  simp only [part_tile]

theorem state_tile (hh n d e : ℕ) :
    (A.tile b g k).state (A.before b g k) n hh d e = (A.whole b g).state (fun _ _ _ => 0) (256 * k + n) hh d e := by
  unfold TileData.state
  rw [show 256 * k + n = 64 * (4 * k) + n by omega, stateAt_add,
    show headK ((A.tile b g k).part 1) (128 * hh) = fun i d => headK ((A.whole b g).part 1) (128 * hh) (256 * k + i) d from
      funext fun i => funext fun d => A.headK_tile b g k hh i d]
  simp only [ part_tile, beta_tile, decay_tile, before, show 256 * k = 64 * (4 * k) by omega]
  rfl

theorem read_tile (hh i e : ℕ) :
    (A.tile b g k).read (A.before b g k) hh i e = (A.whole b g).read (fun _ _ _ => 0) hh (256 * k + i) e := by
  show ∑ d ∈ range 128, (A.tile b g k).state (A.before b g k) (i + 1) hh d e * headQ ((A.tile b g k).part 0) (128 * hh) i d
    = ∑ d ∈ range 128, (A.whole b g).state (fun _ _ _ => 0) (256 * k + i + 1) hh d e * headQ ((A.whole b g).part 0) (128 * hh) (256 * k + i) d
  simp only [state_tile, headQ_tile, show 256 * k + (i + 1) = 256 * k + i + 1 from rfl]

theorem out_tile (hh i d : ℕ) :
    (A.tile b g k).out (A.before b g k) hh i d = (A.whole b g).out (fun _ _ _ => 0) hh (256 * k + i) d := by
  unfold TileData.out finishF
  simp only [read_tile]
  have hz : (A.tile b g k).z i (128 * hh + d) = (A.whole b g).z (256 * k + i) (128 * hh + d) := by
    show A.P3 b (256 * k + i) _ = A.P3 b (256 * 0 + (256 * k + i)) _
    rw [show 256 * 0 + (256 * k + i) = 256 * k + i by omega]
  rw [hz]
  rfl

theorem before_zero : A.before b g 0 = fun _ _ _ => 0 := rfl

theorem before_succ (hh d e : ℕ) : (A.tile b g k).state (A.before b g k) 256 hh d e = A.before b g (k + 1) hh d e := by
  rw [state_tile]
  rfl

end Arrays

variable {m : (ℓ : Loc nD τ sig) → Buf (Elt Ideal) ℓ} {c : Dev nD} {A : Arrays} (H : Holds m c A)

include H in
theorem leaves_first (t : Fin cfg0.N) (h0 : t.val % 16 = 0) :
    LeavesAre (outsAt0 m c t.val t.isLt).1 (outsAt0 m c t.val t.isLt).2.1 (outsAt0 m c t.val t.isLt).2.2 (A.tile (t.val / 32) (t.val / 16 % 2) (t.val % 16))
      fun _ _ _ => 0 := by
  have hp := pointA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (blocks_are H t) fun a i j hi => by
    show A.rows _ _ _ (256 * (t.val % 16) + i) _ = 0
    unfold Arrays.rows
    rw [if_pos (by omega)]
  rw [outsAt0_A m c t h0]
  dsimp only
  exact hp
include H in
theorem leaves_next (t : Fin cfg0.N) (h0 : ¬t.val % 16 = 0) {S : ℕ → ℕ → ℕ → ℝ}
    (hr : IsA (A := 3) (M := 8) (N := 1024) (outsAt0 m c (t.val - 1) (Nat.lt_of_le_of_lt (Nat.sub_le _ _) t.isLt)).2.1
      fun a i j => (A.tile (t.val / 32) (t.val / 16 % 2) (t.val % 16)).e (Fin.ofNat 3 a) i j)
    (hs : IsA (A := 8) (M := 128) (N := 128) (outsAt0 m c (t.val - 1) (Nat.lt_of_le_of_lt (Nat.sub_le _ _) t.isLt)).2.2 S) :
    LeavesAre (outsAt0 m c t.val t.isLt).1 (outsAt0 m c t.val t.isLt).2.1 (outsAt0 m c t.val t.isLt).2.2 (A.tile (t.val / 32) (t.val / 16 % 2) (t.val % 16)) S := by
  have hp := pointB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.1 (outsAt0 m c (t.val - 1) (Nat.lt_of_le_of_lt (Nat.sub_le _ _) t.isLt)).2.2 (blocks_are H t) hr hs
  rw [outsAt0_B m c t h0]
  dsimp only
  exact hp

include H in
/-- What every point leaves. -/
theorem leaves (n : ℕ) : ∀ h : n < cfg0.N,
    LeavesAre (outsAt0 m c n h).1 (outsAt0 m c n h).2.1 (outsAt0 m c n h).2.2 (A.tile (n / 32) (n / 16 % 2) (n % 16))
      (A.before (n / 32) (n / 16 % 2) (n % 16)) := by
  induction n using Nat.strong_induction_on with
  | _ n ih =>
    intro h
    by_cases h0 : n % 16 = 0
    · rw [show A.before (n / 32) (n / 16 % 2) (n % 16) = fun _ _ _ => 0 by rw [h0]; rfl]
      exact leaves_first H ⟨n, h⟩ h0
    · have hp := ih (n - 1) (by omega) (Nat.lt_of_le_of_lt (Nat.sub_le _ _) h)
      rw [show (n - 1) / 32 = n / 32 by omega, show (n - 1) / 16 % 2 = n / 16 % 2 by omega] at hp
      refine leaves_next H ⟨n, h⟩ h0 (fun a i j => ?_) fun hh d e => ?_
      · refine (hp.rows a i j).trans ?_
        show ((A.rows _ _ _ (256 * ((n - 1) % 16) + (256 + i.val)) _ : ℝ) : EReal) = ((A.rows _ _ _ (256 * (n % 16) + i.val) _ : ℝ) : EReal)
        rw [show 256 * ((n - 1) % 16) + (256 + i.val) = 256 * (n % 16) + i.val by omega]
      · refine (hp.state hh d e).trans ?_
        beta_reduce
        rw [Arrays.before_succ, show (n - 1) % 16 + 1 = n % 16 by omega]

/-- The array the kernel fills. -/
def filled (A : Arrays) : S4x4096x2048.Idx → EReal := fun i =>
  (((A.whole (i 0).val ((i 2).val / 1024)).out (fun _ _ _ => 0) ((i 2).val % 1024 / 128) (i 1).val ((i 2).val % 128) : ℝ) : EReal)

include H in
theorem filled_eq : (dats m 0 c).arrAt 10 cfg0.N = filled A := by
  refine (dats m 0 c).arrAt_eq_of_covers 10 _ (by decide +kernel) fun t hf y => ?_
  have e0 : (((cfg0.win 10).blk t).view.emb y 0).val = t.val / 32 + (y 0).val := by
    have hi := (index_eq t).2.2.2.2.2.2.2.2.2.2
    show win0_10.index t 0 * 1 + 1 * (y 0).val = _; rw [hi]; show (t.val / 32) * 1 + 1 * (y 0).val = _; omega
  have e1 : (((cfg0.win 10).blk t).view.emb y 1).val = 256 * (t.val % 16) + (y 1).val := by
    have hi := (index_eq t).2.2.2.2.2.2.2.2.2.2
    show win0_10.index t 1 * 256 + 1 * (y 1).val = _; rw [hi]; show (t.val % 16) * 256 + 1 * (y 1).val = _; omega
  have e2 : (((cfg0.win 10).blk t).view.emb y 2).val = 1024 * (t.val / 16 % 2) + (y 2).val := by
    have hi := (index_eq t).2.2.2.2.2.2.2.2.2.2
    show win0_10.index t 2 * 1024 + 1 * (y 2).val = _; rw [hi]; show (t.val / 16 % 2) * 1024 + 1 * (y 2).val = _; omega
  have h0 : (y 0).val < 1 := (y 0).isLt
  have h2 : (y 2).val < 1024 := (y 2).isLt
  unfold filled
  rw [e0, e1, e2]
  blk_simp
  rw [after0_10]
  have hl := (leaves H t.val t.isLt).out (y 1 : Fin 256) (y 2 : Fin 1024)
  beta_reduce at hl
  rw [Arrays.out_tile] at hl
  rw [show (1024 * (t.val / 16 % 2) + (y 2).val) / 1024 = t.val / 16 % 2 by omega,
    show (1024 * (t.val / 16 % 2) + (y 2).val) % 1024 / 128 = (y 2).val / 128 by omega, show (1024 * (t.val / 16 % 2) + (y 2).val) % 128 = (y 2).val % 128 by omega]
  refine Eq.trans ?_ hl
  refine congrArg (outsAt0 m c t.val t.isLt).1 ((eq_ix3 (n0 := 1) (n1 := 256) (n2 := 1024) y).trans ?_)
  exact congrArg (fun z : Fin 1 => ix3 z (y 1 : Fin 256) (y 2 : Fin 1024)) (Subsingleton.elim _ _)

end Cert.Gdn
-- ==== Proof.RefConv.lean ====
module

public import proofs.«01_k».proof.Proof.Sequence
public import proofs.«01_k».proof.Proof.Gen.ReferenceIdeal.Step
import Idealize.ShloMosaic.Lib.Pointwise
import Idealize.ShloMosaic.Lib.Tactic.CleanTypes
import Idealize.ShloMosaic.Lib.IdealHost

/-! What the reference computes before its loop. -/

@[expose] public section

noncomputable section

namespace Cert.Gdn.Ref

open Cert.ReferenceIdeal Cert.ReferenceIdeal.Gen Cert.ReferenceIdeal.Step Idealize.ShloMosaic.ValueIdx Finset
open Idealize.ShloMosaic hiding ix0 ix1 ix2 ix3 ix4 ix5 eq_ix1 eq_ix2 eq_ix3 eq_ix4

/-! ## Single numbers -/

theorem coe_div {x y : ℝ} (h : y ≠ 0) : Ideal.div (x : EReal) (y : EReal) = ((x / y : ℝ) : EReal) := by
  rw [Ideal.div_coe h, ← EReal.coe_mul, mul_one_div]
theorem coe_rsqrt {x : ℝ} (h : 0 < x) : Ideal.rsqrt (x : EReal) = (((Real.sqrt x)⁻¹ : ℝ) : EReal) := by
  rw [Ideal.rsqrt_coe, if_neg (not_lt.mpr h.le), if_neg h.ne']
theorem coe_log1p {x : ℝ} (h : 0 < 1 + x) : Ideal.log1p (x : EReal) = ((Real.log (1 + x) : ℝ) : EReal) := by
  unfold Ideal.log1p
  rw [← EReal.coe_one, ← EReal.coe_add, Ideal.log_coe, if_neg (not_le.mpr h)]
theorem coe_max (x y : ℝ) : max (x : EReal) (y : EReal) = ((max x y : ℝ) : EReal) := (EReal.coe_strictMono.monotone.map_max).symm
theorem coe_abs (x : ℝ) : max (x : EReal) (-(x : EReal)) = ((|x| : ℝ) : EReal) := by
  rw [← EReal.coe_neg]; exact coe_max x (-x)
theorem one_bits : (Ideal.ofBits .f32 1065353216#32 : EReal) = ((1 : ℝ) : EReal) := Ideal.ofBits_one_f32
theorem zero_bits : (Ideal.ofBits .f32 0#32 : EReal) = ((0 : ℝ) : EReal) := Ideal.ofBits_zero_f32

/-- A logistic written out. -/
theorem logistic_long (x : ℝ) : Ideal.div ((1 : ℝ) : EReal) (((1 : ℝ) : EReal) + Ideal.exp (-(x : EReal))) = (((1 + Real.exp (-x))⁻¹ : ℝ) : EReal) := by
  have h : (1 : ℝ) + Real.exp (-x) ≠ 0 := by positivity
  rw [← EReal.coe_neg, Ideal.exp_coe, ← EReal.coe_add, coe_div h, one_div]

/-! ## The arguments -/

variable {a0 : FVec Ideal S4x4096x17408 .bf16} {a1 : FVec Ideal S4x4096x768 .f32} {a2 : FVec Ideal S4x6144 .f32} {a3 a4 : FVec Ideal S16 .f32}
  {a5 : FVec Ideal S128 .f32}

/-- The arguments hold real numbers. -/
structure ArgsAre (a0 : FVec Ideal S4x4096x17408 .bf16) (a1 : FVec Ideal S4x4096x768 .f32) (a2 : FVec Ideal S4x6144 .f32) (a3 a4 : FVec Ideal S16 .f32)
    (a5 : FVec Ideal S128 .f32) (A : Arrays) : Prop where
  p3 : IsA (A := 4) (M := 4096) (N := 17408) a0 A.P3
  ps : IsA (A := 4) (M := 4096) (N := 768) a1 A.PS
  cw : IsM (M := 4) (N := 6144) a2 A.CW
  al : ∀ i : Fin 16, a3 (ix1 i) = ((A.AL i.val : ℝ) : EReal)
  dt : ∀ i : Fin 16, a4 (ix1 i) = ((A.DT i.val : ℝ) : EReal)
  og : ∀ i : Fin 128, a5 (ix1 i) = ((A.OG i.val : ℝ) : EReal)

/-- A column of the projections with three zeros before it. -/
def padR (A : Arrays) (b n j : ℕ) : ℝ := if n < 3 then 0 else A.P3 b (n - 3) (5120 + j)
/-- The convolved column, and it times its logistic. -/
def convR (A : Arrays) (b n j : ℕ) : ℝ :=
  A.CW 0 j * padR A b n j + A.CW 1 j * padR A b (n + 1) j + A.CW 2 j * padR A b (n + 2) j + A.CW 3 j * padR A b (n + 3) j
def actR (A : Arrays) (b n j : ℕ) : ℝ := siluF (convR A b n j)
/-- The columns of a head's decay and rate. -/
def decayCol (h : ℕ) : ℕ := if h < 8 then 512 + h else 640 + (h - 8)
def rateCol (h : ℕ) : ℕ := if h < 8 then 520 + h else 648 + (h - 8)

variable {A : Arrays} (H : ArgsAre a0 a1 a2 a3 a4 a5 A)

include H in
theorem v8_at (b : Fin 4) (n : Fin 4099) (j : Fin 6144) :
    A_main_v8 (F := Ideal) a0 a1 a2 a3 a4 (ix3 b n j) = ((padR A b n j : ℝ) : EReal) := by
  simp only [A_main_v8, A_main_v1, A_main_v0, K_main_call0_v0, K_main_c]
  clean_types
  pointwise
  unfold padR
  have hz : (FloatOps.sitofp FTy.f32 (0#32) : Ideal .f32) = ((0 : ℝ) : EReal) := zero_word
  by_cases h : n.val < 3
  · rw [if_pos h, dif_neg (fun h' => absurd h'.1 (by show ¬3 ≤ n.val; omega))]
    exact hz
  · rw [if_neg h, dif_pos (⟨by show 3 ≤ n.val; omega, by show n.val - 3 < 4096; have := n.isLt; omega⟩)]
    exact H.p3 b (⟨n.val - 3, by have := n.isLt; omega⟩ : Fin 4096) (⟨5120 + j.val, by have := j.isLt; omega⟩ : Fin 17408)

include H in
theorem v35_at (b : Fin 4) (n : Fin 4096) (j : Fin 6144) :
    A_main_v35 (F := Ideal) a0 a1 a2 a3 a4 (ix3 b n j) = ((convR A b n j : ℝ) : EReal) := by
  have hX := fun k : Fin 4099 => v8_at H b k j
  simp only [A_main_v35, A_main_v34, A_main_v33, A_main_v32, A_main_v31, A_main_v30, A_main_v29, A_main_v28, A_main_v27, A_main_v26, A_main_v25, A_main_v24,
    A_main_v23, A_main_v22, A_main_v21, A_main_v20, A_main_v19, A_main_v18, A_main_v17, A_main_v16, A_main_v15, A_main_v14, A_main_v13, A_main_v12, A_main_v11,
    A_main_v10, A_main_v9]
  generalize A_main_v8 (F := Ideal) a0 a1 a2 a3 a4 = P at hX
  clean_types
  pointwise
  have e : ∀ (k : ℕ) (hk : k + n.val < 4099), P (ix3 b (⟨k + n.val, hk⟩ : Fin 4099) j) = ((padR A b (n + k) j : ℝ) : EReal) := fun k hk => by
    rw [hX]
    exact congrArg (fun i => ((padR A b i j : ℝ) : EReal)) (Nat.add_comm k n.val)
  have hn := n.isLt
  have w : ∀ k : Fin 4, a2 (ix2 k j) = ((A.CW k.val j : ℝ) : EReal) := fun k => H.cw k j
  unfold convR
  refine Eq.trans (b := ((A.CW 0 j : ℝ) : EReal) * ((padR A b n j : ℝ) : EReal) + ((A.CW 1 j : ℝ) : EReal) * ((padR A b (n + 1) j : ℝ) : EReal)
    + ((A.CW 2 j : ℝ) : EReal) * ((padR A b (n + 2) j : ℝ) : EReal) + ((A.CW 3 j : ℝ) : EReal) * ((padR A b (n + 3) j : ℝ) : EReal)) ?_ ?_
  · exact congrArg₂ (· + ·) (congrArg₂ (· + ·) (congrArg₂ (· + ·) (congrArg₂ (· * ·) (w 0) (hX ⟨n.val, by omega⟩)) (congrArg₂ (· * ·) (w 1) (e 1 (by omega))))
      (congrArg₂ (· * ·) (w 2) (e 2 (by omega)))) (congrArg₂ (· * ·) (w 3) (e 3 (by omega)))
  · simp only [EReal.coe_add, EReal.coe_mul]

include H in
theorem v36_at (b : Fin 4) (n : Fin 4096) (j : Fin 6144) : A_main_v36 (F := Ideal) a0 a1 a2 a3 a4 (ix3 b n j) = ((actR A b n j : ℝ) : EReal) := by
  have hX := v35_at H b n j
  simp only [A_main_v36, A_main_call1_v5, A_main_call1_v3, A_main_call1_v1, A_main_call1_v0, K_main_call1_v4, K_main_call1_v2, K_main_call1_cst, K_main_call1_cst_0]
  generalize A_main_v35 (F := Ideal) a0 a1 a2 a3 a4 = P at hX
  clean_types
  pointwise
  show P (ix3 b n j) * Ideal.div 1 (1 + Ideal.exp (-(P (ix3 b n j)))) = _
  rw [hX, ← EReal.coe_one, logistic_long, ← EReal.coe_mul]
  rfl

theorem coe_sum_fin (n : ℕ) (a : Fin n → EReal) (f : ℕ → ℝ) (h : ∀ k, a k = ((f k : ℝ) : EReal)) : ∑ k, a k = ((∑ k ∈ range n, f k : ℝ) : EReal) :=
  coe_sum_range n a f h

theorem unit_at {P : FVec Ideal S4x4096x16x128 .f32} {f : ℕ → ℕ → ℝ} (b : Fin 4) (n : Fin 4096) (h : Fin 16)
    (hP : ∀ d : Fin 128, P (ix4 b n h d) = ((f n d : ℝ) : EReal)) (d : Fin 128) :
    P (ix4 b n h d) * Ideal.rsqrt ((∑ k : Fin 128, P (ix4 b n h k) * P (ix4 b n h k)) + ((epsR : ℝ) : EReal)) = ((unitF f n d : ℝ) : EReal) := by
  rw [coe_sum_fin 128 _ (fun k => f n k * f n k) (fun k => by rw [hP, EReal.coe_mul]), hP, ← EReal.coe_add,
    coe_rsqrt (add_pos_of_nonneg_of_pos (Finset.sum_nonneg fun _ _ => mul_self_nonneg _) epsR_pos), ← EReal.coe_mul]
  rfl

include H in
theorem v40_at (b : Fin 4) (n : Fin 4096) (h : Fin 16) (d : Fin 128) :
    A_main_v40 (F := Ideal) a0 a1 a2 a3 a4 (ix4 b n h d) = ((actR A b n (128 * h + d) : ℝ) : EReal) := by
  have hX := fun k : Fin 6144 => v36_at H b n k
  simp only [A_main_v40, A_main_v37]
  generalize A_main_v36 (F := Ideal) a0 a1 a2 a3 a4 = P at hX
  clean_types
  pointwise
  have h1 := h.isLt
  have h2 := d.isLt
  refine (hX ⟨h.val * 128 + d.val, by omega⟩).trans ?_
  show ((actR A b n ((h.val * 128 + d.val)) : ℝ) : EReal) = _
  rw [Nat.mul_comm]

include H in
theorem v51_at (b : Fin 4) (n : Fin 4096) (h : Fin 16) (d : Fin 128) :
    A_main_v51 (F := Ideal) a0 a1 a2 a3 a4 (ix4 b n h d) = ((actR A b n (2048 + (128 * h + d)) : ℝ) : EReal) := by
  have hX := fun k : Fin 6144 => v36_at H b n k
  simp only [A_main_v51, A_main_v38]
  generalize A_main_v36 (F := Ideal) a0 a1 a2 a3 a4 = P at hX
  clean_types
  pointwise
  have h1 := h.isLt
  have h2 := d.isLt
  refine (hX ⟨2048 + (h.val * 128 + d.val), by omega⟩).trans ?_
  show ((actR A b n (2048 + (h.val * 128 + d.val)) : ℝ) : EReal) = _
  rw [Nat.mul_comm]

include H in
theorem v60_at (b : Fin 4) (n : Fin 4096) (h : Fin 16) (d : Fin 128) :
    A_main_v60 (F := Ideal) a0 a1 a2 a3 a4 (ix4 b n h d) = ((actR A b n (4096 + (128 * h + d)) : ℝ) : EReal) := by
  have hX := fun k : Fin 6144 => v36_at H b n k
  simp only [A_main_v60, A_main_v39]
  generalize A_main_v36 (F := Ideal) a0 a1 a2 a3 a4 = P at hX
  clean_types
  pointwise
  have h1 := h.isLt
  have h2 := d.isLt
  refine (hX ⟨4096 + (h.val * 128 + d.val), by omega⟩).trans ?_
  show ((actR A b n (4096 + (h.val * 128 + d.val)) : ℝ) : EReal) = _
  rw [Nat.mul_comm]

include H in
theorem v50_at (b : Fin 4) (n : Fin 4096) (h : Fin 16) (d : Fin 128) : A_main_v50 (F := Ideal) a0 a1 a2 a3 a4 (ix4 b n h d)
    = ((unitF (fun n d => actR A b n (128 * h + d)) n d * scaleR : ℝ) : EReal) := by
  have hX := unit_at (f := fun n d => actR A b n (128 * h + d)) b n h (fun d => v40_at H b n h d) d
  simp only [A_main_v50, A_main_v48, A_main_v47, A_main_v46, A_main_v45, A_main_v43, A_main_v42, A_main_v41, K_main_v44, K_main_v49, K_main_cst, K_main_cst_0, K_main_cst_1]
  generalize A_main_v40 (F := Ideal) a0 a1 a2 a3 a4 = P at hX
  clean_types
  pointwise
  rw [EReal.coe_mul, ← hX, ← scale_eq, ← eps_eq]
  rfl

include H in
theorem v59_at (b : Fin 4) (n : Fin 4096) (h : Fin 16) (d : Fin 128) : A_main_v59 (F := Ideal) a0 a1 a2 a3 a4 (ix4 b n h d)
    = ((unitF (fun n d => actR A b n (2048 + (128 * h + d))) n d : ℝ) : EReal) := by
  have hX := unit_at (f := fun n d => actR A b n (2048 + (128 * h + d))) b n h (fun d => v51_at H b n h d) d
  simp only [A_main_v59, A_main_v58, A_main_v57, A_main_v56, A_main_v54, A_main_v53, A_main_v52, K_main_v55, K_main_cst_2, K_main_cst_3]
  generalize A_main_v51 (F := Ideal) a0 a1 a2 a3 a4 = P at hX
  clean_types
  pointwise
  rw [← hX, ← eps_eq]
  rfl

include H in
theorem v4_at (b : Fin 4) (n : Fin 4096) (h : Fin 16) : A_main_v4 (F := Ideal) a0 a1 a2 a3 a4 (ix3 b n h) = ((A.PS b n (decayCol h) : ℝ) : EReal) := by
  simp only [A_main_v4, A_main_v3, A_main_v2]
  clean_types
  pointwise
  unfold decayCol
  have h1 := h.isLt
  by_cases h0 : h.val < 8
  · rw [dif_pos h0, if_pos h0]
    exact H.ps b n (⟨512 + h.val, by omega⟩ : Fin 768)
  · rw [dif_neg h0, if_neg h0]
    exact H.ps b n (⟨640 + (h.val - 8), by omega⟩ : Fin 768)

include H in
theorem v7_at (b : Fin 4) (n : Fin 4096) (h : Fin 16) : A_main_v7 (F := Ideal) a0 a1 a2 a3 a4 (ix3 b n h) = ((A.PS b n (rateCol h) : ℝ) : EReal) := by
  simp only [A_main_v7, A_main_v6, A_main_v5]
  clean_types
  pointwise
  unfold rateCol
  have h1 := h.isLt
  by_cases h0 : h.val < 8
  · rw [dif_pos h0, if_pos h0]
    exact H.ps b n (⟨520 + h.val, by omega⟩ : Fin 768)
  · rw [dif_neg h0, if_neg h0]
    exact H.ps b n (⟨648 + (h.val - 8), by omega⟩ : Fin 768)

include H in
theorem v66_at (b : Fin 4) (n : Fin 4096) (h : Fin 16) :
    A_main_v66 (F := Ideal) a0 a1 a2 a3 a4 (ix3 b n h) = (((1 + Real.exp (-A.PS b n (rateCol h)))⁻¹ : ℝ) : EReal) := by
  have hX := v7_at H b n h
  simp only [A_main_v66, A_main_v64, A_main_v62, A_main_v61, K_main_v65, K_main_v63, K_main_cst_4, K_main_cst_5]
  generalize A_main_v7 (F := Ideal) a0 a1 a2 a3 a4 = P at hX
  clean_types
  pointwise
  show Ideal.div 1 (1 + Ideal.exp (-(P (ix3 b n h)))) = _
  rw [hX, ← EReal.coe_one, logistic_long]

include H in
theorem v76_at (b : Fin 4) (n : Fin 4096) (h : Fin 16) : A_main_v76 (F := Ideal) a0 a1 a2 a3 a4 (ix3 b n h)
    = ((Real.exp (decayF (A.AL h) (A.DT h) (A.PS b n (decayCol h))) : ℝ) : EReal) := by
  have hX := v4_at H b n h
  simp only [A_main_v76, A_main_v75, A_main_v74, A_main_v73, A_main_v72, A_main_call2_v11, A_main_call2_v10, A_main_call2_v9, A_main_call2_v8, A_main_call2_v7,
    A_main_call2_v6, A_main_call2_v4, A_main_call2_v3, A_main_call2_v1, A_main_v71, A_main_v70, A_main_v69, A_main_v68, A_main_v67, K_main_call2_v5, K_main_call2_v2, K_main_call2_v0, K_main_call2_cst]
  generalize A_main_v4 (F := Ideal) a0 a1 a2 a3 a4 = P at hX
  clean_types
  pointwise
  show Ideal.exp (-Ideal.exp (a3 (ix1 h)) * if P (ix3 b n h) + a4 (ix1 h) ≠ P (ix3 b n h) + a4 (ix1 h) then P (ix3 b n h) + a4 (ix1 h)
    else max (P (ix3 b n h) + a4 (ix1 h)) 0 + Ideal.log1p (Ideal.exp (-(max (P (ix3 b n h) + a4 (ix1 h)) (-(P (ix3 b n h) + a4 (ix1 h))))))) = _
  have e3 := H.al h
  have e4 := H.dt h
  generalize A.AL h.val = x at e3 ⊢
  generalize A.DT h.val = y at e4 ⊢
  generalize A.PS b n (decayCol h) = z at hX ⊢
  have hs : (P (ix3 b n h) + a4 (ix1 h) : EReal) = ((z + y : ℝ) : EReal) := by rw [hX, e4, EReal.coe_add]
  rw [if_neg (fun h => h rfl), hs, coe_abs, e3, Ideal.exp_coe, ← EReal.coe_neg, ← EReal.coe_neg, Ideal.exp_coe, coe_log1p (by positivity), ← EReal.coe_zero, coe_max,
    ← EReal.coe_add, ← EReal.coe_mul, Ideal.exp_coe]
  unfold decayF
  rw [zero_sub, zero_sub]

end Cert.Gdn.Ref
-- ==== Proof.RefLoop.lean ====
module

public import proofs.«01_k».proof.Proof.RefConv
import Idealize.ShloMosaic.Lib.Pointwise
import Idealize.ShloMosaic.Lib.Tactic.CleanTypes
import Idealize.ShloMosaic.Lib.IdealHost

/-! What the reference's loop computes, and what follows the loop. -/

@[expose] public section

noncomputable section

namespace Cert.Gdn.Ref

open Cert.ReferenceIdeal Cert.ReferenceIdeal.Gen Cert.ReferenceIdeal.Step Idealize.ShloMosaic.ValueIdx Finset
open Idealize.ShloMosaic hiding ix0 ix1 ix2 ix3 ix4 ix5 eq_ix1 eq_ix2 eq_ix3 eq_ix4

variable (s : State Ideal) (t : ℕ) (ht : t < 4096) (b : Fin 4) (h : Fin 16)

/-! ## A trip's rows -/

theorem at4 {n0 n1 n2 n3 : ℕ} {x x' : Fin n0} {y y' : Fin n1} {z z' : Fin n2} {w w' : Fin n3} (hx : x.val = x'.val) (hy : y.val = y'.val)
    (hz : z.val = z'.val) (hw : w.val = w'.val) : ix4 x y z w = ix4 x' y' z' w' := by
  rw [Fin.ext hx, Fin.ext hy, Fin.ext hz, Fin.ext hw]
theorem at3 {n0 n1 n2 : ℕ} {x x' : Fin n0} {y y' : Fin n1} {z z' : Fin n2} (hx : x.val = x'.val) (hy : y.val = y'.val)
    (hz : z.val = z'.val) : ix3 x y z = ix3 x' y' z' := by
  rw [Fin.ext hx, Fin.ext hy, Fin.ext hz]

/-- Where a trip's slices start. -/
def starts4 (t : ℕ) : Fin 4 → Int := ![(t : ℤ), 0, 0, 0]
def starts3 (t : ℕ) : Fin 3 → Int := ![(t : ℤ), 0, 0]

theorem starts4_eq (ht : t < 4096) : (fun k => (((![(constantI S_ 32 (BitVec.ofNat 32 t) : (⟨S_, .i32⟩ : BufTy).Contents (Elt Ideal)), (constantI S_ 32 0#32),
    (constantI S_ 32 0#32), (constantI S_ 32 0#32)] : Fin 4 → (⟨S_, .i32⟩ : BufTy).Contents (Elt Ideal))) k (Shape.Idx.first h_S_)).toInt) = starts4 t := by
  have e : (BitVec.ofNat 32 t).toInt = (t : ℤ) := WordCmp.toInt_ofNat_of_lt (by omega)
  funext k
  fin_cases k
  · exact e
  all_goals rfl
theorem starts3_eq (ht : t < 4096) : (fun k => (((![(constantI S_ 32 (BitVec.ofNat 32 t) : (⟨S_, .i32⟩ : BufTy).Contents (Elt Ideal)), (constantI S_ 32 0#32),
    (constantI S_ 32 0#32)] : Fin 3 → (⟨S_, .i32⟩ : BufTy).Contents (Elt Ideal))) k (Shape.Idx.first h_S_)).toInt) = starts3 t := by
  have e : (BitVec.ofNat 32 t).toInt = (t : ℤ) := WordCmp.toInt_ofNat_of_lt (by omega)
  funext k
  fin_cases k
  · exact e
  all_goals rfl

theorem clamp4 (ht : t < 4096) (r : S1x4x16x128.rank = S4096x4x16x128.rank) (a : Fin 4) :
    Host.clampedStart S4096x4x16x128 S1x4x16x128 r (starts4 t) a = ![t, 0, 0, 0] a := by
  fin_cases a
  · exact Host.clampedStart_of_le _ _ _ t rfl (by show t + 1 ≤ 4096; omega)
  · exact Host.clampedStart_of_le _ _ _ 0 rfl (by show 0 + 4 ≤ 4; omega)
  · exact Host.clampedStart_of_le _ _ _ 0 rfl (by show 0 + 16 ≤ 16; omega)
  · exact Host.clampedStart_of_le _ _ _ 0 rfl (by show 0 + 128 ≤ 128; omega)
theorem clamp3 (ht : t < 4096) (r : S1x4x16.rank = S4096x4x16.rank) (a : Fin 3) :
    Host.clampedStart S4096x4x16 S1x4x16 r (starts3 t) a = ![t, 0, 0] a := by
  fin_cases a
  · exact Host.clampedStart_of_le _ _ _ t rfl (by show t + 1 ≤ 4096; omega)
  · exact Host.clampedStart_of_le _ _ _ 0 rfl (by show 0 + 4 ≤ 4; omega)
  · exact Host.clampedStart_of_le _ _ _ 0 rfl (by show 0 + 16 ≤ 16; omega)

/-- A trip's row of an array with a row a token. -/
theorem row4 (ht : t < 4096) (X : (⟨S4096x4x16x128, .f32⟩ : BufTy).Contents (Elt Ideal)) (f : S4096x4x16x128.Slices (fun _ => 0) S1x4x16x128) (d : Fin 128) :
    shapeCast S4x16x128 (Host.dynamicSlice S1x4x16x128 X (starts4 t) f) shapeCasts_S1x4x16x128_S4x16x128 (ix3 b h d)
      = X (ix4 (⟨t, ht⟩ : Fin 4096) b h d) := by
  pointwise
  refine congrArg X (at4 ?_ ?_ ?_ ?_)
  · exact clamp4 t ht rfl 0
  · show Host.clampedStart _ _ _ _ _ + b.val = b.val
    exact (congrArg (· + b.val) (clamp4 t ht rfl 1)).trans (Nat.zero_add _)
  · show Host.clampedStart _ _ _ _ _ + h.val = h.val
    exact (congrArg (· + h.val) (clamp4 t ht rfl 2)).trans (Nat.zero_add _)
  · show Host.clampedStart _ _ _ _ _ + d.val = d.val
    exact (congrArg (· + d.val) (clamp4 t ht rfl 3)).trans (Nat.zero_add _)
theorem row3 (ht : t < 4096) (X : (⟨S4096x4x16, .f32⟩ : BufTy).Contents (Elt Ideal)) (f : S4096x4x16.Slices (fun _ => 0) S1x4x16) :
    shapeCast S4x16 (Host.dynamicSlice S1x4x16 X (starts3 t) f) shapeCasts_S1x4x16_S4x16 (ix2 b h) = X (ix3 (⟨t, ht⟩ : Fin 4096) b h) := by
  pointwise
  refine congrArg X (at3 ?_ ?_ ?_)
  · exact clamp3 t ht rfl 0
  · show Host.clampedStart _ _ _ _ _ + b.val = b.val
    exact (congrArg (· + b.val) (clamp3 t ht rfl 1)).trans (Nat.zero_add _)
  · show Host.clampedStart _ _ _ _ _ + h.val = h.val
    exact (congrArg (· + h.val) (clamp3 t ht rfl 2)).trans (Nat.zero_add _)

theorem q_row (d : Fin 128) : b4 t s (ix3 b h d) = s.main_v84_0 (ix4 (⟨t, ht⟩ : Fin 4096) b h d) := by
  simp only [b4, b3, b2, b1, b0]
  rw [starts4_eq t ht]
  exact row4 t b h ht _ _ d
theorem k_row (d : Fin 128) : b9 t s (ix3 b h d) = s.main_v84_1 (ix4 (⟨t, ht⟩ : Fin 4096) b h d) := by
  simp only [b9, b8, b7, b6, b5]
  rw [starts4_eq t ht]
  exact row4 t b h ht _ _ d
theorem v_row (d : Fin 128) : b14 t s (ix3 b h d) = s.main_v84_2 (ix4 (⟨t, ht⟩ : Fin 4096) b h d) := by
  simp only [b14, b13, b12, b11, b10]
  rw [starts4_eq t ht]
  exact row4 t b h ht _ _ d
theorem decay_row : b18 t s (ix2 b h) = s.main_v84_3 (ix3 (⟨t, ht⟩ : Fin 4096) b h) := by
  simp only [b18, b17, b16, b15]
  rw [starts3_eq t ht]
  exact row3 t b h ht _ _
theorem beta_row : b22 t s (ix2 b h) = s.main_v84_4 (ix3 (⟨t, ht⟩ : Fin 4096) b h) := by
  simp only [b22, b21, b20, b19]
  rw [starts3_eq t ht]
  exact row3 t b h ht _ _

theorem err_at (e : Fin 128) : b30 t s (ix3 b h e)
    = b22 t s (ix2 b h) * (b14 t s (ix3 b h e) - ∑ x : Fin 128, b18 t s (ix2 b h) * s.main_v84_6 (ix4 b h x e) * b9 t s (ix3 b h x)) := by
  simp only [b30, b29, b28, b27, b26, b25, b24, b23]
  generalize b9 t s = K
  generalize b14 t s = V
  generalize b18 t s = G
  generalize b22 t s = B
  generalize s.main_v84_6 = S
  clean_types
  pointwise
  rfl

theorem new_at (d e : Fin 128) : b36 t s (ix4 b h d e)
    = b18 t s (ix2 b h) * s.main_v84_6 (ix4 b h d e) + b9 t s (ix3 b h d) * b30 t s (ix3 b h e) := by
  simp only [b36, b35, b34, b33, b32, b31, b25, b24, b23]
  generalize b9 t s = K
  generalize b30 t s = V
  generalize b18 t s = G
  generalize s.main_v84_6 = S
  clean_types
  pointwise
  rfl

theorem row_at (e : Fin 128) : b37 t s (ix3 b h e) = ∑ d : Fin 128, b36 t s (ix4 b h d e) * b4 t s (ix3 b h d) := by
  simp only [b37]
  generalize b36 t s = K
  generalize b4 t s = V
  clean_types
  pointwise
  rfl

theorem outs_at (ht : t < 4096) (i : Fin 4096) (e : Fin 128) : b42 t s (ix4 i b h e) = if i.val = t then b37 t s (ix3 b h e) else s.main_v84_7 (ix4 i b h e) := by
  simp only [b42, b41, b40, b39, b38]
  generalize b37 t s = K
  generalize s.main_v84_7 = V
  rw [starts4_eq t ht]
  clean_types
  pointwise
  simp only [clamp4 t ht]
  by_cases hi : i.val = t
  · rw [if_pos hi, dif_pos (⟨⟨hi.ge, Nat.lt_succ_of_le hi.le⟩, Nat.zero_le _, Nat.zero_le _, Nat.zero_le _⟩)]
    exact congrArg K (at3 rfl rfl rfl)
  · rw [if_neg hi, dif_neg (fun h' => hi (le_antisymm (Nat.lt_succ_iff.mp h'.1.2) h'.1.1))]

theorem res_at (a0 : FVec Ideal S4x4096x17408 .bf16) (a5 : FVec Ideal S128 .f32) (n : Fin 4096) (h : Fin 16) (d : Fin 128) (j : Fin 2048) (hj : j.val = 128 * h.val + d.val)
    (z : Fin 17408) (hz : z.val = 11264 + j.val) :
    R_main_v105 s a0 a5 (ix3 b n j) = s.main_v84_7 (ix4 n b h d)
      * Ideal.rsqrt (Ideal.div (∑ x : Fin 128, s.main_v84_7 (ix4 n b h x) * s.main_v84_7 (ix4 n b h x)) (Ideal.ofBits FTy.f32 1124073472#32)
          + Ideal.ofBits FTy.f32 897988541#32) * a5 (ix1 d)
      * (a0 (ix3 b n z) * Ideal.div 1 (1 + Ideal.exp (-a0 (ix3 b n z)))) := by
  simp only [R_main_v105]
  generalize s.main_v84_7 = V
  clean_types
  pointwise
  have h1 := d.isLt
  have h2 := j.isLt
  have p1 : j.val / 128 < 16 := by omega
  have p2 : 11264 + j.val < 17408 := by omega
  have eh : (⟨j.val / 128, p1⟩ : Fin 16) = h := Fin.ext (by show j.val / 128 = h.val; omega)
  have ed : (⟨j.val % 128, Nat.mod_lt _ (by norm_num)⟩ : Fin 128) = d := Fin.ext (by show j.val % 128 = d.val; omega)
  have ez : (⟨11264 + j.val, p2⟩ : Fin 17408) = z := Fin.ext hz.symm
  rw [← eh, ← ed, ← ez]
  rfl

/-! ## The loop -/

/-- The loop's states. -/
def iter (s : State Ideal) : ℕ → State Ideal
  | 0 => s
  | n + 1 => step n (iter s n)

theorem stateAt_succ (k v : ℕ → ℕ → ℝ) (β g : ℕ → ℝ) (S : ℕ → ℕ → ℝ) (n d e : ℕ) (hd : d < 128) : stateAt k v β g S (n + 1) d e
    = Real.exp (g n) * stateAt k v β g S n d e + k n d * (β n * (v n e - ∑ x ∈ range 128, Real.exp (g n) * stateAt k v β g S n x e * k n x)) := by
  have hm : ((Fin.ofNat 128 d : Fin 128) : ℕ) = d := Nat.mod_eq_of_lt hd
  rw [Finset.sum_range (n := 128)]
  unfold stateAt
  simp only [Wy.run, Wy.wr, hm, ofNat_val]

/-- The rows the loop reads. -/
structure RowsAre (s : State Ideal) (q k v : ℕ → ℕ → ℕ → ℕ → ℝ) (g β : ℕ → ℕ → ℕ → ℝ) : Prop where
  q : ∀ (t : Fin 4096) (b : Fin 4) (h : Fin 16) (d : Fin 128), s.main_v84_0 (ix4 t b h d) = ((q b h t d : ℝ) : EReal)
  k : ∀ (t : Fin 4096) (b : Fin 4) (h : Fin 16) (d : Fin 128), s.main_v84_1 (ix4 t b h d) = ((k b h t d : ℝ) : EReal)
  v : ∀ (t : Fin 4096) (b : Fin 4) (h : Fin 16) (d : Fin 128), s.main_v84_2 (ix4 t b h d) = ((v b h t d : ℝ) : EReal)
  g : ∀ (t : Fin 4096) (b : Fin 4) (h : Fin 16), s.main_v84_3 (ix3 t b h) = ((Real.exp (g b h t) : ℝ) : EReal)
  β : ∀ (t : Fin 4096) (b : Fin 4) (h : Fin 16), s.main_v84_4 (ix3 t b h) = ((β b h t : ℝ) : EReal)

section Loop
variable {q k v : ℕ → ℕ → ℕ → ℕ → ℝ} {g β : ℕ → ℕ → ℕ → ℝ}

theorem step_rows {s : State Ideal} (R : RowsAre s q k v g β) : RowsAre (step t s) q k v g β :=
  ⟨R.q, R.k, R.v, R.g, R.β⟩

theorem step_state {s : State Ideal} (R : RowsAre s q k v g β) (ht : t < 4096) (hs : ∀ d e : Fin 128, s.main_v84_6 (ix4 b h d e)
      = ((stateAt (k b h) (v b h) (β b h) (g b h) (fun _ _ => 0) t d e : ℝ) : EReal)) (d e : Fin 128) :
    (step t s).main_v84_6 (ix4 b h d e) = ((stateAt (k b h) (v b h) (β b h) (g b h) (fun _ _ => 0) (t + 1) d e : ℝ) : EReal) := by
  rw [step_main_v84_6, new_at, err_at, decay_row s t ht, beta_row s t ht, v_row s t ht, k_row s t ht, R.g, R.β, R.v, R.k, hs,
    coe_sum_fin 128 _ (fun x => Real.exp (g b h t) * stateAt (k b h) (v b h) (β b h) (g b h) (fun _ _ => 0) t x e * k b h t x)
      (fun x => by rw [hs, k_row s t ht, R.k, EReal.coe_mul, EReal.coe_mul]), stateAt_succ _ _ _ _ _ _ _ _ d.isLt]
  simp only [EReal.coe_add, EReal.coe_mul, EReal.coe_sub]

theorem step_out {s : State Ideal} (R : RowsAre s q k v g β) (ht : t < 4096) (hs : ∀ d e : Fin 128, s.main_v84_6 (ix4 b h d e)
      = ((stateAt (k b h) (v b h) (β b h) (g b h) (fun _ _ => 0) t d e : ℝ) : EReal)) (i : Fin 4096) (e : Fin 128) :
    (step t s).main_v84_7 (ix4 i b h e) = if i.val = t then ((readAt (q b h) (k b h) (v b h) (β b h) (g b h) (fun _ _ => 0) t e : ℝ) : EReal)
      else s.main_v84_7 (ix4 i b h e) := by
  have hn : ∀ d e, b36 t s (ix4 b h d e) = _ := step_state t b h R ht hs
  rw [step_main_v84_7, outs_at s t b h ht, row_at, coe_sum_fin 128 _ (fun d => stateAt (k b h) (v b h) (β b h) (g b h) (fun _ _ => 0) (t + 1) d e * q b h t d)
      (fun d => by rw [hn, q_row s t ht, R.q, EReal.coe_mul])]
  rfl

theorem loop_at {s : State Ideal} (R : RowsAre s q k v g β) (h0 : ∀ b h d e, s.main_v84_6 (ix4 b h d e) = ((0 : ℝ) : EReal)) (n : ℕ) (hn : n ≤ 4096) :
    RowsAre (iter s n) q k v g β
    ∧ (∀ (b : Fin 4) (h : Fin 16) (d e : Fin 128), (iter s n).main_v84_6 (ix4 b h d e)
        = ((stateAt (k b h) (v b h) (β b h) (g b h) (fun _ _ => 0) n d e : ℝ) : EReal))
    ∧ ∀ (i : Fin 4096) (b : Fin 4) (h : Fin 16) (e : Fin 128), i.val < n → (iter s n).main_v84_7 (ix4 i b h e)
        = ((readAt (q b h) (k b h) (v b h) (β b h) (g b h) (fun _ _ => 0) i e : ℝ) : EReal) := by
  induction n with
  | zero => exact ⟨R, fun b h d e => h0 b h d e, fun i _ _ _ hi => absurd hi (Nat.not_lt_zero _)⟩
  | succ n ih =>
    obtain ⟨r, hs, ho⟩ := ih (by omega)
    refine ⟨step_rows n r, fun b h => step_state n b h r (by omega) (hs b h), fun i b h e hi => ?_⟩
    refine (step_out n b h r (by omega) (hs b h) i e).trans ?_
    by_cases hin : i.val = n
    · rw [if_pos hin, hin]
    · rw [if_neg hin]; exact ho i b h e (by omega)

end Loop

/-! ## The reference's numbers and the kernel's -/

/-- The convolution from the rows with eight zeros before them is the one from the rows with three. -/
theorem part_eq (A : Arrays) (b g : ℕ) (a : Fin 3) (i j : ℕ) : (A.whole b g).part a i j = actR A b i (2048 * a.val + (1024 * g + j)) := by
  have e : ∀ k, A.rows b g a.val (256 * 0 + (5 + k + i)) j = padR A b (i + k) (2048 * a.val + (1024 * g + j)) := fun k => by
    unfold Arrays.rows padR
    by_cases h : i + k < 3
    · rw [if_pos h, if_pos (by omega)]
    · rw [if_neg h, if_neg (by omega), show 256 * 0 + (5 + k + i) - 8 = i + k - 3 by omega,
        show 1024 * (5 + 2 * a.val + g) + j = 5120 + (2048 * a.val + (1024 * g + j)) by omega]
  unfold TileData.part convF actR convR
  show siluF (A.CW 3 _ * A.rows b g a.val (256 * 0 + (5 + 3 + i)) j + A.CW 2 _ * A.rows b g a.val (256 * 0 + (5 + 2 + i)) j
    + A.CW 1 _ * A.rows b g a.val (256 * 0 + (5 + 1 + i)) j + A.CW 0 _ * A.rows b g a.val (256 * 0 + (5 + 0 + i)) j) = _
  rw [e, e, e, e, Nat.add_zero]
  refine congrArg siluF ?_
  ring_nf

section Result
variable {a0 : FVec Ideal S4x4096x17408 .bf16} {a1 : FVec Ideal S4x4096x768 .f32} {a2 : FVec Ideal S4x6144 .f32} {a3 a4 : FVec Ideal S16 .f32}
  {a5 : FVec Ideal S128 .f32} {A : Arrays} (H : ArgsAre a0 a1 a2 a3 a4 a5 A)
include H

/-- What the loop reads, by the kernel's names. -/
theorem init_rows : RowsAre (init (F := Ideal) a0 a1 a2 a3 a4)
    (fun b h => headQ ((A.whole b (h / 8)).part 0) (128 * (h % 8))) (fun b h => headK ((A.whole b (h / 8)).part 1) (128 * (h % 8)))
    (fun b h i e => (A.whole b (h / 8)).part 2 i (128 * (h % 8) + e)) (fun b h i => (A.whole b (h / 8)).decay i (h % 8))
    (fun b h i => (A.whole b (h / 8)).beta i (8 + h % 8)) := by
  have hc : ∀ h d : ℕ, 1024 * (h / 8) + (128 * (h % 8) + d) = 128 * h + d := fun h d => by omega
  refine ⟨fun t b h d => ?_, fun t b h d => ?_, fun t b h d => ?_, fun t b h => ?_, fun t b h => ?_⟩
  · have e : (init (F := Ideal) a0 a1 a2 a3 a4).main_v84_0 (ix4 t b h d) = A_main_v50 (F := Ideal) a0 a1 a2 a3 a4 (ix4 b t h d) := by
      simp only [init, A_main_v77]
      generalize A_main_v50 (F := Ideal) a0 a1 a2 a3 a4 = P
      pointwise
      rfl
    rw [e, v50_at H]
    unfold headQ
    simp only [part_eq, hc]
    simp
  · have e : (init (F := Ideal) a0 a1 a2 a3 a4).main_v84_1 (ix4 t b h d) = A_main_v59 (F := Ideal) a0 a1 a2 a3 a4 (ix4 b t h d) := by
      simp only [init, A_main_v78]
      generalize A_main_v59 (F := Ideal) a0 a1 a2 a3 a4 = P
      pointwise
      rfl
    rw [e, v59_at H]
    unfold headK
    simp only [part_eq, hc]
    simp
  · have e : (init (F := Ideal) a0 a1 a2 a3 a4).main_v84_2 (ix4 t b h d) = A_main_v60 (F := Ideal) a0 a1 a2 a3 a4 (ix4 b t h d) := by
      simp only [init, A_main_v79]
      generalize A_main_v60 (F := Ideal) a0 a1 a2 a3 a4 = P
      pointwise
      rfl
    rw [e, v60_at H]
    simp only [part_eq, hc]
    simp
  · have e : (init (F := Ideal) a0 a1 a2 a3 a4).main_v84_3 (ix3 t b h) = A_main_v76 (F := Ideal) a0 a1 a2 a3 a4 (ix3 b t h) := by
      simp only [init, A_main_v80]
      generalize A_main_v76 (F := Ideal) a0 a1 a2 a3 a4 = P
      pointwise
      rfl
    rw [e, v76_at H]
    have hl : h.val % 8 < 8 := Nat.mod_lt _ (by norm_num)
    show _ = ((Real.exp (decayF (if h.val % 8 < 8 then A.AL (8 * (h.val / 8) + h.val % 8) else 0) (if h.val % 8 < 8 then A.DT (8 * (h.val / 8) + h.val % 8) else 0)
      (A.PS b (256 * 0 + t.val) (128 * (4 + h.val / 8) + h.val % 8))) : ℝ) : EReal)
    rw [if_pos hl, if_pos hl, Nat.div_add_mod, show 256 * 0 + t.val = t.val by omega,
      show 128 * (4 + h.val / 8) + h.val % 8 = decayCol h.val by have := h.isLt; unfold decayCol; split <;> omega]
  · have e : (init (F := Ideal) a0 a1 a2 a3 a4).main_v84_4 (ix3 t b h) = A_main_v66 (F := Ideal) a0 a1 a2 a3 a4 (ix3 b t h) := by
      simp only [init, A_main_v81]
      generalize A_main_v66 (F := Ideal) a0 a1 a2 a3 a4 = P
      pointwise
      rfl
    rw [e, v66_at H]
    show _ = (((1 + Real.exp (-A.PS b (256 * 0 + t.val) (128 * (4 + h.val / 8) + (8 + h.val % 8))))⁻¹ : ℝ) : EReal)
    rw [show 256 * 0 + t.val = t.val by omega,
      show 128 * (4 + h.val / 8) + (8 + h.val % 8) = rateCol h.val by have := h.isLt; unfold rateCol; split <;> omega]

theorem result_at (b : Fin 4) (n : Fin 4096) (j : Fin 2048) :
    R_main_v105 (iter (init (F := Ideal) a0 a1 a2 a3 a4) 4096) a0 a5 (ix3 b n j)
      = (((A.whole b (j.val / 1024)).out (fun _ _ _ => 0) (j.val % 1024 / 128) n (j.val % 128) : ℝ) : EReal) := by
  have lj := j.isLt
  have h0 : ∀ b h d e, (init (F := Ideal) a0 a1 a2 a3 a4).main_v84_6 (ix4 b h d e) = ((0 : ℝ) : EReal) := fun b h d e => zero_bits
  obtain ⟨-, -, ho⟩ := loop_at (init_rows H) h0 4096 le_rfl
  refine (res_at _ b a0 a5 n ⟨j.val / 128, by omega⟩ ⟨j.val % 128, Nat.mod_lt _ (by norm_num)⟩ j (by show j.val = 128 * (j.val / 128) + j.val % 128; omega)
    ⟨11264 + j.val, by omega⟩ rfl).trans ?_
  generalize iter (init (F := Ideal) a0 a1 a2 a3 a4) 4096 = s at ho
  have hr : ∀ e : Fin 128, s.main_v84_7 (ix4 n b (⟨j.val / 128, by omega⟩ : Fin 16) e)
      = (((A.whole b (j.val / 1024)).read (fun _ _ _ => 0) (j.val % 1024 / 128) n e : ℝ) : EReal) := fun e => by
    refine (ho n b ⟨j.val / 128, by omega⟩ e n.isLt).trans ?_
    unfold TileData.read
    show ((readAt (headQ ((A.whole b (j.val / 128 / 8)).part 0) (128 * (j.val / 128 % 8))) (headK ((A.whole b (j.val / 128 / 8)).part 1) (128 * (j.val / 128 % 8)))
      (fun i e => (A.whole b (j.val / 128 / 8)).part 2 i (128 * (j.val / 128 % 8) + e)) (fun i => (A.whole b (j.val / 128 / 8)).beta i (8 + j.val / 128 % 8))
      (fun i => (A.whole b (j.val / 128 / 8)).decay i (j.val / 128 % 8)) (fun _ _ => 0) n e : ℝ) : EReal) = _
    rw [show j.val / 128 / 8 = j.val / 1024 by omega, show j.val / 128 % 8 = j.val % 1024 / 128 by omega]
  have hz : a0 (ix3 b n (⟨11264 + j.val, by omega⟩ : Fin 17408))
      = (((A.whole b (j.val / 1024)).z n (128 * (j.val % 1024 / 128) + j.val % 128) : ℝ) : EReal) := by
    refine (H.p3 b n (⟨11264 + j.val, by omega⟩ : Fin 17408)).trans ?_
    show ((A.P3 b n (11264 + j.val) : ℝ) : EReal) = ((A.P3 b (256 * 0 + n) (1024 * (11 + j.val / 1024) + (128 * (j.val % 1024 / 128) + j.val % 128)) : ℝ) : EReal)
    rw [show 256 * 0 + n.val = n.val by omega, show 1024 * (11 + j.val / 1024) + (128 * (j.val % 1024 / 128) + j.val % 128) = 11264 + j.val by omega]
  have hg : a5 (ix1 (⟨j.val % 128, Nat.mod_lt _ (by norm_num)⟩ : Fin 128)) = (((A.whole b (j.val / 1024)).og (j.val % 128) : ℝ) : EReal) :=
    H.og ⟨j.val % 128, Nat.mod_lt _ (by norm_num)⟩
  rw [hz, hg, hr, coe_sum_fin 128 _ (fun e => (A.whole b (j.val / 1024)).read (fun _ _ _ => 0) (j.val % 1024 / 128) n e
      * (A.whole b (j.val / 1024)).read (fun _ _ _ => 0) (j.val % 1024 / 128) n e) (fun e => by rw [hr, EReal.coe_mul])]
  unfold TileData.out finishF
  have hl : (Ideal.ofBits FTy.f32 1124073472#32 : EReal) = ((128 : ℝ) : EReal) := lanes_eq
  have he : (Ideal.ofBits FTy.f32 897988541#32 : EReal) = ((epsR : ℝ) : EReal) := eps_eq
  rw [hl, he, coe_div (by norm_num), ← EReal.coe_add,
    coe_rsqrt (add_pos_of_nonneg_of_pos (div_nonneg (Finset.sum_nonneg fun _ _ => mul_self_nonneg _) (by norm_num)) epsR_pos), ← EReal.coe_one, logistic_long,
    ← EReal.coe_mul, ← EReal.coe_mul, ← EReal.coe_mul, ← EReal.coe_mul]
  rfl

/-- The reference's result. -/
theorem result_eq : R_main_v105 (iter (init (F := Ideal) a0 a1 a2 a3 a4) 4096) a0 a5 = filled A := by
  funext i
  rw [eq_ix3 (n0 := 4) (n1 := 4096) (n2 := 2048) i]
  exact result_at H (i 0) (i 1) (i 2)

end Result

end Cert.Gdn.Ref
-- ==== Proof.LoopRun.lean ====
/- The reference's run over the states of its loop: at a valuation that holds a state — the state at the buffers a trip
   writes, the constants set up before the loop, the trip's number — every value of one trip is the step's, so a trip
   keeps holding with `step` applied; what is left before the loop holds `init`; and the result is read off the state
   after the last trip. -/
module

public import proofs.«01_k».proof.Proof.Gen.ReferenceIdeal.Run
public import proofs.«01_k».proof.Proof.Gen.ReferenceIdeal.Step

@[expose] public section

noncomputable section

namespace Cert.GdnLoop

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_6 : V0 (Proc.devRef .tc main_v84_6) = s.main_v84_6
  f_7 : V0 (Proc.devRef .tc main_v84_7) = s.main_v84_7
  f_0 : V0 (Proc.devRef .tc main_v84_0) = s.main_v84_0
  f_1 : V0 (Proc.devRef .tc main_v84_1) = s.main_v84_1
  f_2 : V0 (Proc.devRef .tc main_v84_2) = s.main_v84_2
  f_3 : V0 (Proc.devRef .tc main_v84_3) = s.main_v84_3
  f_4 : V0 (Proc.devRef .tc main_v84_4) = s.main_v84_4
  n_5 : V0 (Proc.devRef .tc main_v84_5) = constantI S_ 32 (BitVec.ofNat 32 j)

variable {V0 s j}

set_option maxRecDepth 8192 in
theorem al_0 (h : Holds V0 s j) : (constantI S_ 32 0#32 : (Proc.devRef .tc main_while0b_call3_c : DevRef τ sig).ty.Contents (Elt F)) = Cert.ReferenceIdeal.Step.b0 j s := by
  unfold Cert.ReferenceIdeal.Step.b0
  rfl
set_option maxRecDepth 8192 in
theorem al_1 (h : Holds V0 s j) : (constantI S_ 32 0#32 : (Proc.devRef .tc main_while0b_call3_c_0 : DevRef τ sig).ty.Contents (Elt F)) = Cert.ReferenceIdeal.Step.b1 j s := by
  unfold Cert.ReferenceIdeal.Step.b1
  rfl
set_option maxRecDepth 8192 in
theorem al_2 (h : Holds V0 s j) : (constantI S_ 32 0#32 : (Proc.devRef .tc main_while0b_call3_c_1 : DevRef τ sig).ty.Contents (Elt F)) = Cert.ReferenceIdeal.Step.b2 j s := by
  unfold Cert.ReferenceIdeal.Step.b2
  rfl
set_option maxRecDepth 8192 in
theorem al_3 (h : Holds V0 s j) : (Host.dynamicSlice S1x4x16x128 (V0 (Proc.devRef .tc main_v84_0)) (fun k => (((![V0 (Proc.devRef .tc main_v84_5), constantI S_ 32 0#32, constantI S_ 32 0#32, constantI S_ 32 0#32] : Fin 4 → (⟨S_, .i32⟩ : BufTy).Contents (Elt F))) k (Shape.Idx.first h_S_)).toInt) sliceFits_S4096x4x16x128_S1x4x16x128 : (Proc.devRef .tc main_while0b_call3_v0 : DevRef τ sig).ty.Contents (Elt F)) = Cert.ReferenceIdeal.Step.b3 j s := by
  unfold Cert.ReferenceIdeal.Step.b3
  rw [← al_0 h, ← al_1 h, ← al_2 h, h.f_0, h.n_5]
  try rfl
set_option maxRecDepth 8192 in
theorem al_4 (h : Holds V0 s j) : (shapeCast S4x16x128 (Host.dynamicSlice S1x4x16x128 (V0 (Proc.devRef .tc main_v84_0)) (fun k => (((![V0 (Proc.devRef .tc main_v84_5), constantI S_ 32 0#32, constantI S_ 32 0#32, constantI S_ 32 0#32] : Fin 4 → (⟨S_, .i32⟩ : BufTy).Contents (Elt F))) k (Shape.Idx.first h_S_)).toInt) sliceFits_S4096x4x16x128_S1x4x16x128) shapeCasts_S1x4x16x128_S4x16x128 : (Proc.devRef .tc main_while0b_v106 : DevRef τ sig).ty.Contents (Elt F)) = Cert.ReferenceIdeal.Step.b4 j s := by
  unfold Cert.ReferenceIdeal.Step.b4
  rw [← al_3 h]
  try rfl
set_option maxRecDepth 8192 in
theorem al_5 (h : Holds V0 s j) : (constantI S_ 32 0#32 : (Proc.devRef .tc main_while0b_call4_c : DevRef τ sig).ty.Contents (Elt F)) = Cert.ReferenceIdeal.Step.b5 j s := by
  unfold Cert.ReferenceIdeal.Step.b5
  rfl
set_option maxRecDepth 8192 in
theorem al_6 (h : Holds V0 s j) : (constantI S_ 32 0#32 : (Proc.devRef .tc main_while0b_call4_c_0 : DevRef τ sig).ty.Contents (Elt F)) = Cert.ReferenceIdeal.Step.b6 j s := by
  unfold Cert.ReferenceIdeal.Step.b6
  rfl
set_option maxRecDepth 8192 in
theorem al_7 (h : Holds V0 s j) : (constantI S_ 32 0#32 : (Proc.devRef .tc main_while0b_call4_c_1 : DevRef τ sig).ty.Contents (Elt F)) = Cert.ReferenceIdeal.Step.b7 j s := by
  unfold Cert.ReferenceIdeal.Step.b7
  rfl
set_option maxRecDepth 8192 in
theorem al_8 (h : Holds V0 s j) : (Host.dynamicSlice S1x4x16x128 (V0 (Proc.devRef .tc main_v84_1)) (fun k => (((![V0 (Proc.devRef .tc main_v84_5), constantI S_ 32 0#32, constantI S_ 32 0#32, constantI S_ 32 0#32] : Fin 4 → (⟨S_, .i32⟩ : BufTy).Contents (Elt F))) k (Shape.Idx.first h_S_)).toInt) sliceFits_S4096x4x16x128_S1x4x16x128 : (Proc.devRef .tc main_while0b_call4_v0 : DevRef τ sig).ty.Contents (Elt F)) = Cert.ReferenceIdeal.Step.b8 j s := by
  unfold Cert.ReferenceIdeal.Step.b8
  rw [← al_5 h, ← al_6 h, ← al_7 h, h.f_1, h.n_5]
  try rfl
set_option maxRecDepth 8192 in
theorem al_9 (h : Holds V0 s j) : (res_main_while0b_v107 V0 : (Proc.devRef .tc main_while0b_v107 : DevRef τ sig).ty.Contents (Elt F)) = Cert.ReferenceIdeal.Step.b9 j s := by
  unfold res_main_while0b_v107 Cert.ReferenceIdeal.Step.b9
  rw [← al_8 h]
  try rfl
set_option maxRecDepth 8192 in
theorem al_10 (h : Holds V0 s j) : (constantI S_ 32 0#32 : (Proc.devRef .tc main_while0b_call5_c : DevRef τ sig).ty.Contents (Elt F)) = Cert.ReferenceIdeal.Step.b10 j s := by
  unfold Cert.ReferenceIdeal.Step.b10
  rfl
set_option maxRecDepth 8192 in
theorem al_11 (h : Holds V0 s j) : (constantI S_ 32 0#32 : (Proc.devRef .tc main_while0b_call5_c_0 : DevRef τ sig).ty.Contents (Elt F)) = Cert.ReferenceIdeal.Step.b11 j s := by
  unfold Cert.ReferenceIdeal.Step.b11
  rfl
set_option maxRecDepth 8192 in
theorem al_12 (h : Holds V0 s j) : (constantI S_ 32 0#32 : (Proc.devRef .tc main_while0b_call5_c_1 : DevRef τ sig).ty.Contents (Elt F)) = Cert.ReferenceIdeal.Step.b12 j s := by
  unfold Cert.ReferenceIdeal.Step.b12
  rfl
set_option maxRecDepth 8192 in
theorem al_13 (h : Holds V0 s j) : (Host.dynamicSlice S1x4x16x128 (V0 (Proc.devRef .tc main_v84_2)) (fun k => (((![V0 (Proc.devRef .tc main_v84_5), constantI S_ 32 0#32, constantI S_ 32 0#32, constantI S_ 32 0#32] : Fin 4 → (⟨S_, .i32⟩ : BufTy).Contents (Elt F))) k (Shape.Idx.first h_S_)).toInt) sliceFits_S4096x4x16x128_S1x4x16x128 : (Proc.devRef .tc main_while0b_call5_v0 : DevRef τ sig).ty.Contents (Elt F)) = Cert.ReferenceIdeal.Step.b13 j s := by
  unfold Cert.ReferenceIdeal.Step.b13
  rw [← al_10 h, ← al_11 h, ← al_12 h, h.f_2, h.n_5]
  try rfl
set_option maxRecDepth 8192 in
theorem al_14 (h : Holds V0 s j) : (shapeCast S4x16x128 (Host.dynamicSlice S1x4x16x128 (V0 (Proc.devRef .tc main_v84_2)) (fun k => (((![V0 (Proc.devRef .tc main_v84_5), constantI S_ 32 0#32, constantI S_ 32 0#32, constantI S_ 32 0#32] : Fin 4 → (⟨S_, .i32⟩ : BufTy).Contents (Elt F))) k (Shape.Idx.first h_S_)).toInt) sliceFits_S4096x4x16x128_S1x4x16x128) shapeCasts_S1x4x16x128_S4x16x128 : (Proc.devRef .tc main_while0b_v108 : DevRef τ sig).ty.Contents (Elt F)) = Cert.ReferenceIdeal.Step.b14 j s := by
  unfold Cert.ReferenceIdeal.Step.b14
  rw [← al_13 h]
  try rfl
set_option maxRecDepth 8192 in
theorem al_15 (h : Holds V0 s j) : (constantI S_ 32 0#32 : (Proc.devRef .tc main_while0b_call6_c : DevRef τ sig).ty.Contents (Elt F)) = Cert.ReferenceIdeal.Step.b15 j s := by
  unfold Cert.ReferenceIdeal.Step.b15
  rfl
set_option maxRecDepth 8192 in
theorem al_16 (h : Holds V0 s j) : (constantI S_ 32 0#32 : (Proc.devRef .tc main_while0b_call6_c_0 : DevRef τ sig).ty.Contents (Elt F)) = Cert.ReferenceIdeal.Step.b16 j s := by
  unfold Cert.ReferenceIdeal.Step.b16
  rfl
set_option maxRecDepth 8192 in
theorem al_17 (h : Holds V0 s j) : (Host.dynamicSlice S1x4x16 (V0 (Proc.devRef .tc main_v84_3)) (fun k => (((![V0 (Proc.devRef .tc main_v84_5), constantI S_ 32 0#32, constantI S_ 32 0#32] : Fin 3 → (⟨S_, .i32⟩ : BufTy).Contents (Elt F))) k (Shape.Idx.first h_S_)).toInt) sliceFits_S4096x4x16_S1x4x16 : (Proc.devRef .tc main_while0b_call6_v0 : DevRef τ sig).ty.Contents (Elt F)) = Cert.ReferenceIdeal.Step.b17 j s := by
  unfold Cert.ReferenceIdeal.Step.b17
  rw [← al_15 h, ← al_16 h, h.f_3, h.n_5]
  try rfl
set_option maxRecDepth 8192 in
theorem al_18 (h : Holds V0 s j) : (shapeCast S4x16 (Host.dynamicSlice S1x4x16 (V0 (Proc.devRef .tc main_v84_3)) (fun k => (((![V0 (Proc.devRef .tc main_v84_5), constantI S_ 32 0#32, constantI S_ 32 0#32] : Fin 3 → (⟨S_, .i32⟩ : BufTy).Contents (Elt F))) k (Shape.Idx.first h_S_)).toInt) sliceFits_S4096x4x16_S1x4x16) shapeCasts_S1x4x16_S4x16 : (Proc.devRef .tc main_while0b_v109 : DevRef τ sig).ty.Contents (Elt F)) = Cert.ReferenceIdeal.Step.b18 j s := by
  unfold Cert.ReferenceIdeal.Step.b18
  rw [← al_17 h]
  try rfl
set_option maxRecDepth 8192 in
theorem al_19 (h : Holds V0 s j) : (constantI S_ 32 0#32 : (Proc.devRef .tc main_while0b_call7_c : DevRef τ sig).ty.Contents (Elt F)) = Cert.ReferenceIdeal.Step.b19 j s := by
  unfold Cert.ReferenceIdeal.Step.b19
  rfl
set_option maxRecDepth 8192 in
theorem al_20 (h : Holds V0 s j) : (constantI S_ 32 0#32 : (Proc.devRef .tc main_while0b_call7_c_0 : DevRef τ sig).ty.Contents (Elt F)) = Cert.ReferenceIdeal.Step.b20 j s := by
  unfold Cert.ReferenceIdeal.Step.b20
  rfl
set_option maxRecDepth 8192 in
theorem al_21 (h : Holds V0 s j) : (Host.dynamicSlice S1x4x16 (V0 (Proc.devRef .tc main_v84_4)) (fun k => (((![V0 (Proc.devRef .tc main_v84_5), constantI S_ 32 0#32, constantI S_ 32 0#32] : Fin 3 → (⟨S_, .i32⟩ : BufTy).Contents (Elt F))) k (Shape.Idx.first h_S_)).toInt) sliceFits_S4096x4x16_S1x4x16 : (Proc.devRef .tc main_while0b_call7_v0 : DevRef τ sig).ty.Contents (Elt F)) = Cert.ReferenceIdeal.Step.b21 j s := by
  unfold Cert.ReferenceIdeal.Step.b21
  rw [← al_19 h, ← al_20 h, h.f_4, h.n_5]
  try rfl
set_option maxRecDepth 8192 in
theorem al_22 (h : Holds V0 s j) : (shapeCast S4x16 (Host.dynamicSlice S1x4x16 (V0 (Proc.devRef .tc main_v84_4)) (fun k => (((![V0 (Proc.devRef .tc main_v84_5), constantI S_ 32 0#32, constantI S_ 32 0#32] : Fin 3 → (⟨S_, .i32⟩ : BufTy).Contents (Elt F))) k (Shape.Idx.first h_S_)).toInt) sliceFits_S4096x4x16_S1x4x16) shapeCasts_S1x4x16_S4x16 : (Proc.devRef .tc main_while0b_v110 : DevRef τ sig).ty.Contents (Elt F)) = Cert.ReferenceIdeal.Step.b22 j s := by
  unfold Cert.ReferenceIdeal.Step.b22
  rw [← al_21 h]
  try rfl
set_option maxRecDepth 8192 in
theorem al_23 (h : Holds V0 s j) : (broadcastInDim S4x16x1x1 ![0, 1] bcast_S4x16_S4x16x1x1_0_1 (shapeCast S4x16 (Host.dynamicSlice S1x4x16 (V0 (Proc.devRef .tc main_v84_3)) (fun k => (((![V0 (Proc.devRef .tc main_v84_5), constantI S_ 32 0#32, constantI S_ 32 0#32] : Fin 3 → (⟨S_, .i32⟩ : BufTy).Contents (Elt F))) k (Shape.Idx.first h_S_)).toInt) sliceFits_S4096x4x16_S1x4x16) shapeCasts_S1x4x16_S4x16) : (Proc.devRef .tc main_while0b_v111 : DevRef τ sig).ty.Contents (Elt F)) = Cert.ReferenceIdeal.Step.b23 j s := by
  unfold Cert.ReferenceIdeal.Step.b23
  rw [← al_18 h]
  try rfl
set_option maxRecDepth 8192 in
theorem al_24 (h : Holds V0 s j) : (broadcastInDim S4x16x128x128 ![0, 1, 2, 3] bcast_S4x16x1x1_S4x16x128x128_0_1_2_3 (broadcastInDim S4x16x1x1 ![0, 1] bcast_S4x16_S4x16x1x1_0_1 (shapeCast S4x16 (Host.dynamicSlice S1x4x16 (V0 (Proc.devRef .tc main_v84_3)) (fun k => (((![V0 (Proc.devRef .tc main_v84_5), constantI S_ 32 0#32, constantI S_ 32 0#32] : Fin 3 → (⟨S_, .i32⟩ : BufTy).Contents (Elt F))) k (Shape.Idx.first h_S_)).toInt) sliceFits_S4096x4x16_S1x4x16) shapeCasts_S1x4x16_S4x16)) : (Proc.devRef .tc main_while0b_v112 : DevRef τ sig).ty.Contents (Elt F)) = Cert.ReferenceIdeal.Step.b24 j s := by
  unfold Cert.ReferenceIdeal.Step.b24
  rw [← al_23 h]
  try rfl
set_option maxRecDepth 8192 in
theorem al_25 (h : Holds V0 s j) : (res_main_while0b_v113 V0 : (Proc.devRef .tc main_while0b_v113 : DevRef τ sig).ty.Contents (Elt F)) = Cert.ReferenceIdeal.Step.b25 j s := by
  unfold res_main_while0b_v113 Cert.ReferenceIdeal.Step.b25
  rw [← al_24 h, h.f_6]
  try rfl
set_option maxRecDepth 8192 in
theorem al_26 (h : Holds V0 s j) : (broadcastInDim S4x16x1 ![0, 1] bcast_S4x16_S4x16x1_0_1 (shapeCast S4x16 (Host.dynamicSlice S1x4x16 (V0 (Proc.devRef .tc main_v84_4)) (fun k => (((![V0 (Proc.devRef .tc main_v84_5), constantI S_ 32 0#32, constantI S_ 32 0#32] : Fin 3 → (⟨S_, .i32⟩ : BufTy).Contents (Elt F))) k (Shape.Idx.first h_S_)).toInt) sliceFits_S4096x4x16_S1x4x16) shapeCasts_S1x4x16_S4x16) : (Proc.devRef .tc main_while0b_v114 : DevRef τ sig).ty.Contents (Elt F)) = Cert.ReferenceIdeal.Step.b26 j s := by
  unfold Cert.ReferenceIdeal.Step.b26
  rw [← al_22 h]
  try rfl
set_option maxRecDepth 8192 in
theorem al_27 (h : Holds V0 s j) : (Host.dotGeneral dot_S4x16x128x128_S4x16x128_S4x16x128_2_2_3_n_01_01 none (res_main_while0b_v113 V0) (res_main_while0b_v107 V0) : (Proc.devRef .tc main_while0b_v115 : DevRef τ sig).ty.Contents (Elt F)) = Cert.ReferenceIdeal.Step.b27 j s := by
  unfold Cert.ReferenceIdeal.Step.b27
  rw [← al_25 h, ← al_9 h]
  try rfl
set_option maxRecDepth 8192 in
theorem al_28 (h : Holds V0 s j) : (subf (shapeCast S4x16x128 (Host.dynamicSlice S1x4x16x128 (V0 (Proc.devRef .tc main_v84_2)) (fun k => (((![V0 (Proc.devRef .tc main_v84_5), constantI S_ 32 0#32, constantI S_ 32 0#32, constantI S_ 32 0#32] : Fin 4 → (⟨S_, .i32⟩ : BufTy).Contents (Elt F))) k (Shape.Idx.first h_S_)).toInt) sliceFits_S4096x4x16x128_S1x4x16x128) shapeCasts_S1x4x16x128_S4x16x128) (Host.dotGeneral dot_S4x16x128x128_S4x16x128_S4x16x128_2_2_3_n_01_01 none (res_main_while0b_v113 V0) (res_main_while0b_v107 V0)) : (Proc.devRef .tc main_while0b_v116 : DevRef τ sig).ty.Contents (Elt F)) = Cert.ReferenceIdeal.Step.b28 j s := by
  unfold Cert.ReferenceIdeal.Step.b28
  rw [← al_14 h, ← al_27 h]
  try rfl
set_option maxRecDepth 8192 in
theorem al_29 (h : Holds V0 s j) : (broadcastInDim S4x16x128 ![0, 1, 2] bcast_S4x16x1_S4x16x128_0_1_2 (broadcastInDim S4x16x1 ![0, 1] bcast_S4x16_S4x16x1_0_1 (shapeCast S4x16 (Host.dynamicSlice S1x4x16 (V0 (Proc.devRef .tc main_v84_4)) (fun k => (((![V0 (Proc.devRef .tc main_v84_5), constantI S_ 32 0#32, constantI S_ 32 0#32] : Fin 3 → (⟨S_, .i32⟩ : BufTy).Contents (Elt F))) k (Shape.Idx.first h_S_)).toInt) sliceFits_S4096x4x16_S1x4x16) shapeCasts_S1x4x16_S4x16)) : (Proc.devRef .tc main_while0b_v117 : DevRef τ sig).ty.Contents (Elt F)) = Cert.ReferenceIdeal.Step.b29 j s := by
  unfold Cert.ReferenceIdeal.Step.b29
  rw [← al_26 h]
  try rfl
set_option maxRecDepth 8192 in
theorem al_30 (h : Holds V0 s j) : (mulf (broadcastInDim S4x16x128 ![0, 1, 2] bcast_S4x16x1_S4x16x128_0_1_2 (broadcastInDim S4x16x1 ![0, 1] bcast_S4x16_S4x16x1_0_1 (shapeCast S4x16 (Host.dynamicSlice S1x4x16 (V0 (Proc.devRef .tc main_v84_4)) (fun k => (((![V0 (Proc.devRef .tc main_v84_5), constantI S_ 32 0#32, constantI S_ 32 0#32] : Fin 3 → (⟨S_, .i32⟩ : BufTy).Contents (Elt F))) k (Shape.Idx.first h_S_)).toInt) sliceFits_S4096x4x16_S1x4x16) shapeCasts_S1x4x16_S4x16))) (subf (shapeCast S4x16x128 (Host.dynamicSlice S1x4x16x128 (V0 (Proc.devRef .tc main_v84_2)) (fun k => (((![V0 (Proc.devRef .tc main_v84_5), constantI S_ 32 0#32, constantI S_ 32 0#32, constantI S_ 32 0#32] : Fin 4 → (⟨S_, .i32⟩ : BufTy).Contents (Elt F))) k (Shape.Idx.first h_S_)).toInt) sliceFits_S4096x4x16x128_S1x4x16x128) shapeCasts_S1x4x16x128_S4x16x128) (Host.dotGeneral dot_S4x16x128x128_S4x16x128_S4x16x128_2_2_3_n_01_01 none (res_main_while0b_v113 V0) (res_main_while0b_v107 V0))) : (Proc.devRef .tc main_while0b_v118 : DevRef τ sig).ty.Contents (Elt F)) = Cert.ReferenceIdeal.Step.b30 j s := by
  unfold Cert.ReferenceIdeal.Step.b30
  rw [← al_29 h, ← al_28 h]
  try rfl
set_option maxRecDepth 8192 in
theorem al_31 (h : Holds V0 s j) : (broadcastInDim S4x16x128x1 ![0, 1, 2] bcast_S4x16x128_S4x16x128x1_0_1_2 (res_main_while0b_v107 V0) : (Proc.devRef .tc main_while0b_v119 : DevRef τ sig).ty.Contents (Elt F)) = Cert.ReferenceIdeal.Step.b31 j s := by
  unfold Cert.ReferenceIdeal.Step.b31
  rw [← al_9 h]
  try rfl
set_option maxRecDepth 8192 in
theorem al_32 (h : Holds V0 s j) : (broadcastInDim S4x16x1x128 ![0, 1, 3] bcast_S4x16x128_S4x16x1x128_0_1_3 (mulf (broadcastInDim S4x16x128 ![0, 1, 2] bcast_S4x16x1_S4x16x128_0_1_2 (broadcastInDim S4x16x1 ![0, 1] bcast_S4x16_S4x16x1_0_1 (shapeCast S4x16 (Host.dynamicSlice S1x4x16 (V0 (Proc.devRef .tc main_v84_4)) (fun k => (((![V0 (Proc.devRef .tc main_v84_5), constantI S_ 32 0#32, constantI S_ 32 0#32] : Fin 3 → (⟨S_, .i32⟩ : BufTy).Contents (Elt F))) k (Shape.Idx.first h_S_)).toInt) sliceFits_S4096x4x16_S1x4x16) shapeCasts_S1x4x16_S4x16))) (subf (shapeCast S4x16x128 (Host.dynamicSlice S1x4x16x128 (V0 (Proc.devRef .tc main_v84_2)) (fun k => (((![V0 (Proc.devRef .tc main_v84_5), constantI S_ 32 0#32, constantI S_ 32 0#32, constantI S_ 32 0#32] : Fin 4 → (⟨S_, .i32⟩ : BufTy).Contents (Elt F))) k (Shape.Idx.first h_S_)).toInt) sliceFits_S4096x4x16x128_S1x4x16x128) shapeCasts_S1x4x16x128_S4x16x128) (Host.dotGeneral dot_S4x16x128x128_S4x16x128_S4x16x128_2_2_3_n_01_01 none (res_main_while0b_v113 V0) (res_main_while0b_v107 V0)))) : (Proc.devRef .tc main_while0b_v120 : DevRef τ sig).ty.Contents (Elt F)) = Cert.ReferenceIdeal.Step.b32 j s := by
  unfold Cert.ReferenceIdeal.Step.b32
  rw [← al_30 h]
  try rfl
set_option maxRecDepth 8192 in
theorem al_33 (h : Holds V0 s j) : (broadcastInDim S4x16x128x128 ![0, 1, 2, 3] bcast_S4x16x128x1_S4x16x128x128_0_1_2_3 (broadcastInDim S4x16x128x1 ![0, 1, 2] bcast_S4x16x128_S4x16x128x1_0_1_2 (res_main_while0b_v107 V0)) : (Proc.devRef .tc main_while0b_v121 : DevRef τ sig).ty.Contents (Elt F)) = Cert.ReferenceIdeal.Step.b33 j s := by
  unfold Cert.ReferenceIdeal.Step.b33
  rw [← al_31 h]
  try rfl
set_option maxRecDepth 8192 in
theorem al_34 (h : Holds V0 s j) : (broadcastInDim S4x16x128x128 ![0, 1, 2, 3] bcast_S4x16x1x128_S4x16x128x128_0_1_2_3 (broadcastInDim S4x16x1x128 ![0, 1, 3] bcast_S4x16x128_S4x16x1x128_0_1_3 (mulf (broadcastInDim S4x16x128 ![0, 1, 2] bcast_S4x16x1_S4x16x128_0_1_2 (broadcastInDim S4x16x1 ![0, 1] bcast_S4x16_S4x16x1_0_1 (shapeCast S4x16 (Host.dynamicSlice S1x4x16 (V0 (Proc.devRef .tc main_v84_4)) (fun k => (((![V0 (Proc.devRef .tc main_v84_5), constantI S_ 32 0#32, constantI S_ 32 0#32] : Fin 3 → (⟨S_, .i32⟩ : BufTy).Contents (Elt F))) k (Shape.Idx.first h_S_)).toInt) sliceFits_S4096x4x16_S1x4x16) shapeCasts_S1x4x16_S4x16))) (subf (shapeCast S4x16x128 (Host.dynamicSlice S1x4x16x128 (V0 (Proc.devRef .tc main_v84_2)) (fun k => (((![V0 (Proc.devRef .tc main_v84_5), constantI S_ 32 0#32, constantI S_ 32 0#32, constantI S_ 32 0#32] : Fin 4 → (⟨S_, .i32⟩ : BufTy).Contents (Elt F))) k (Shape.Idx.first h_S_)).toInt) sliceFits_S4096x4x16x128_S1x4x16x128) shapeCasts_S1x4x16x128_S4x16x128) (Host.dotGeneral dot_S4x16x128x128_S4x16x128_S4x16x128_2_2_3_n_01_01 none (res_main_while0b_v113 V0) (res_main_while0b_v107 V0))))) : (Proc.devRef .tc main_while0b_v122 : DevRef τ sig).ty.Contents (Elt F)) = Cert.ReferenceIdeal.Step.b34 j s := by
  unfold Cert.ReferenceIdeal.Step.b34
  rw [← al_32 h]
  try rfl
set_option maxRecDepth 8192 in
theorem al_35 (h : Holds V0 s j) : (mulf (broadcastInDim S4x16x128x128 ![0, 1, 2, 3] bcast_S4x16x128x1_S4x16x128x128_0_1_2_3 (broadcastInDim S4x16x128x1 ![0, 1, 2] bcast_S4x16x128_S4x16x128x1_0_1_2 (res_main_while0b_v107 V0))) (broadcastInDim S4x16x128x128 ![0, 1, 2, 3] bcast_S4x16x1x128_S4x16x128x128_0_1_2_3 (broadcastInDim S4x16x1x128 ![0, 1, 3] bcast_S4x16x128_S4x16x1x128_0_1_3 (mulf (broadcastInDim S4x16x128 ![0, 1, 2] bcast_S4x16x1_S4x16x128_0_1_2 (broadcastInDim S4x16x1 ![0, 1] bcast_S4x16_S4x16x1_0_1 (shapeCast S4x16 (Host.dynamicSlice S1x4x16 (V0 (Proc.devRef .tc main_v84_4)) (fun k => (((![V0 (Proc.devRef .tc main_v84_5), constantI S_ 32 0#32, constantI S_ 32 0#32] : Fin 3 → (⟨S_, .i32⟩ : BufTy).Contents (Elt F))) k (Shape.Idx.first h_S_)).toInt) sliceFits_S4096x4x16_S1x4x16) shapeCasts_S1x4x16_S4x16))) (subf (shapeCast S4x16x128 (Host.dynamicSlice S1x4x16x128 (V0 (Proc.devRef .tc main_v84_2)) (fun k => (((![V0 (Proc.devRef .tc main_v84_5), constantI S_ 32 0#32, constantI S_ 32 0#32, constantI S_ 32 0#32] : Fin 4 → (⟨S_, .i32⟩ : BufTy).Contents (Elt F))) k (Shape.Idx.first h_S_)).toInt) sliceFits_S4096x4x16x128_S1x4x16x128) shapeCasts_S1x4x16x128_S4x16x128) (Host.dotGeneral dot_S4x16x128x128_S4x16x128_S4x16x128_2_2_3_n_01_01 none (res_main_while0b_v113 V0) (res_main_while0b_v107 V0)))))) : (Proc.devRef .tc main_while0b_v123 : DevRef τ sig).ty.Contents (Elt F)) = Cert.ReferenceIdeal.Step.b35 j s := by
  unfold Cert.ReferenceIdeal.Step.b35
  rw [← al_33 h, ← al_34 h]
  try rfl
set_option maxRecDepth 8192 in
theorem al_36 (h : Holds V0 s j) : (res_main_while0b_v124 V0 : (Proc.devRef .tc main_while0b_v124 : DevRef τ sig).ty.Contents (Elt F)) = Cert.ReferenceIdeal.Step.b36 j s := by
  unfold res_main_while0b_v124 Cert.ReferenceIdeal.Step.b36
  rw [← al_25 h, ← al_35 h]
  try rfl
set_option maxRecDepth 8192 in
theorem al_37 (h : Holds V0 s j) : (Host.dotGeneral dot_S4x16x128x128_S4x16x128_S4x16x128_2_2_3_n_01_01 none (res_main_while0b_v124 V0) (shapeCast S4x16x128 (Host.dynamicSlice S1x4x16x128 (V0 (Proc.devRef .tc main_v84_0)) (fun k => (((![V0 (Proc.devRef .tc main_v84_5), constantI S_ 32 0#32, constantI S_ 32 0#32, constantI S_ 32 0#32] : Fin 4 → (⟨S_, .i32⟩ : BufTy).Contents (Elt F))) k (Shape.Idx.first h_S_)).toInt) sliceFits_S4096x4x16x128_S1x4x16x128) shapeCasts_S1x4x16x128_S4x16x128) : (Proc.devRef .tc main_while0b_v125 : DevRef τ sig).ty.Contents (Elt F)) = Cert.ReferenceIdeal.Step.b37 j s := by
  unfold Cert.ReferenceIdeal.Step.b37
  rw [← al_36 h, ← al_4 h]
  try rfl
set_option maxRecDepth 8192 in
theorem al_38 (h : Holds V0 s j) : (broadcastInDim S1x4x16x128 ![1, 2, 3] bcast_S4x16x128_S1x4x16x128_1_2_3 (Host.dotGeneral dot_S4x16x128x128_S4x16x128_S4x16x128_2_2_3_n_01_01 none (res_main_while0b_v124 V0) (shapeCast S4x16x128 (Host.dynamicSlice S1x4x16x128 (V0 (Proc.devRef .tc main_v84_0)) (fun k => (((![V0 (Proc.devRef .tc main_v84_5), constantI S_ 32 0#32, constantI S_ 32 0#32, constantI S_ 32 0#32] : Fin 4 → (⟨S_, .i32⟩ : BufTy).Contents (Elt F))) k (Shape.Idx.first h_S_)).toInt) sliceFits_S4096x4x16x128_S1x4x16x128) shapeCasts_S1x4x16x128_S4x16x128)) : (Proc.devRef .tc main_while0b_call8_v0 : DevRef τ sig).ty.Contents (Elt F)) = Cert.ReferenceIdeal.Step.b38 j s := by
  unfold Cert.ReferenceIdeal.Step.b38
  rw [← al_37 h]
  try rfl
set_option maxRecDepth 8192 in
theorem al_39 (h : Holds V0 s j) : (constantI S_ 32 0#32 : (Proc.devRef .tc main_while0b_call8_c : DevRef τ sig).ty.Contents (Elt F)) = Cert.ReferenceIdeal.Step.b39 j s := by
  unfold Cert.ReferenceIdeal.Step.b39
  rfl
set_option maxRecDepth 8192 in
theorem al_40 (h : Holds V0 s j) : (constantI S_ 32 0#32 : (Proc.devRef .tc main_while0b_call8_c_0 : DevRef τ sig).ty.Contents (Elt F)) = Cert.ReferenceIdeal.Step.b40 j s := by
  unfold Cert.ReferenceIdeal.Step.b40
  rfl
set_option maxRecDepth 8192 in
theorem al_41 (h : Holds V0 s j) : (constantI S_ 32 0#32 : (Proc.devRef .tc main_while0b_call8_c_1 : DevRef τ sig).ty.Contents (Elt F)) = Cert.ReferenceIdeal.Step.b41 j s := by
  unfold Cert.ReferenceIdeal.Step.b41
  rfl
set_option maxRecDepth 8192 in
theorem al_42 (h : Holds V0 s j) : (Host.dynamicUpdateSlice (V0 (Proc.devRef .tc main_v84_7)) (broadcastInDim S1x4x16x128 ![1, 2, 3] bcast_S4x16x128_S1x4x16x128_1_2_3 (Host.dotGeneral dot_S4x16x128x128_S4x16x128_S4x16x128_2_2_3_n_01_01 none (res_main_while0b_v124 V0) (shapeCast S4x16x128 (Host.dynamicSlice S1x4x16x128 (V0 (Proc.devRef .tc main_v84_0)) (fun k => (((![V0 (Proc.devRef .tc main_v84_5), constantI S_ 32 0#32, constantI S_ 32 0#32, constantI S_ 32 0#32] : Fin 4 → (⟨S_, .i32⟩ : BufTy).Contents (Elt F))) k (Shape.Idx.first h_S_)).toInt) sliceFits_S4096x4x16x128_S1x4x16x128) shapeCasts_S1x4x16x128_S4x16x128))) (fun k => (((![V0 (Proc.devRef .tc main_v84_5), constantI S_ 32 0#32, constantI S_ 32 0#32, constantI S_ 32 0#32] : Fin 4 → (⟨S_, .i32⟩ : BufTy).Contents (Elt F))) k (Shape.Idx.first h_S_)).toInt) updateFits_S4096x4x16x128_S1x4x16x128 : (Proc.devRef .tc main_while0b_v126 : DevRef τ sig).ty.Contents (Elt F)) = Cert.ReferenceIdeal.Step.b42 j s := by
  unfold Cert.ReferenceIdeal.Step.b42
  rw [← al_38 h, ← al_39 h, ← al_40 h, ← al_41 h, h.f_7, h.n_5]
  try rfl

/-! One trip's step of the carried values is `step`, field by field; a counter steps to the next number. -/

theorem step_6 (h : Holds V0 s j) : step_main_v84_6 V0 = (step j s).main_v84_6 := by
  unfold step_main_v84_6 Cert.ReferenceIdeal.Step.step
  show id (res_main_while0b_v124 V0) = _
  rw [al_36 h]
  try rfl
theorem step_7 (h : Holds V0 s j) : step_main_v84_7 V0 = (step j s).main_v84_7 := by
  unfold step_main_v84_7 Cert.ReferenceIdeal.Step.step
  show id (Host.dynamicUpdateSlice (V0 (Proc.devRef .tc main_v84_7)) (broadcastInDim S1x4x16x128 ![1, 2, 3] bcast_S4x16x128_S1x4x16x128_1_2_3 (Host.dotGeneral dot_S4x16x128x128_S4x16x128_S4x16x128_2_2_3_n_01_01 none (res_main_while0b_v124 V0) (shapeCast S4x16x128 (Host.dynamicSlice S1x4x16x128 (V0 (Proc.devRef .tc main_v84_0)) (fun k => (((![V0 (Proc.devRef .tc main_v84_5), constantI S_ 32 0#32, constantI S_ 32 0#32, constantI S_ 32 0#32] : Fin 4 → (⟨S_, .i32⟩ : BufTy).Contents (Elt F))) k (Shape.Idx.first h_S_)).toInt) sliceFits_S4096x4x16x128_S1x4x16x128) shapeCasts_S1x4x16x128_S4x16x128))) (fun k => (((![V0 (Proc.devRef .tc main_v84_5), constantI S_ 32 0#32, constantI S_ 32 0#32, constantI S_ 32 0#32] : Fin 4 → (⟨S_, .i32⟩ : BufTy).Contents (Elt F))) k (Shape.Idx.first h_S_)).toInt) updateFits_S4096x4x16x128_S1x4x16x128) = _
  exact al_42 h
theorem step_5 (h : Holds V0 s j) : step_main_v84_5 V0 = constantI S_ 32 (BitVec.ofNat 32 (j + 1)) := by
  unfold step_main_v84_5
  rw [h.n_5]
  funext i
  show BitVec.ofNat 32 j + 1#32 = BitVec.ofNat 32 (j + 1)
  simp only [BitVec.ofNat_add]

set_option maxRecDepth 8192 in
theorem out_main_v105_holds (h : Holds V0 s j) {x_main_arg0 : (⟨S4x4096x17408, .bf16⟩ : BufTy).Contents (Elt F)} (h_main_arg0 : V0 (Proc.devRef .tc main_arg0) = x_main_arg0) {x_main_arg5 : (⟨S128, .f32⟩ : BufTy).Contents (Elt F)} (h_main_arg5 : V0 (Proc.devRef .tc main_arg5) = x_main_arg5) : out_main_v105 V0 = Cert.ReferenceIdeal.Step.R_main_v105 s x_main_arg0 x_main_arg5 := by
  unfold out_main_v105 Cert.ReferenceIdeal.Step.R_main_v105
  rw [h.f_7, h_main_arg0, h_main_arg5]
  try rfl

/-- One trip keeps the valuation holding: `step` of the state, the same set-up values, the next number. -/
theorem holds_step (h : Holds V0 s j) : Holds (STEP V0) (step j s) (j + 1) where
  f_6 := (STEP_main_v84_6 V0).trans (step_6 h)
  f_7 := (STEP_main_v84_7 V0).trans (step_7 h)
  n_5 := (STEP_main_v84_5 V0).trans (step_5 h)
  f_0 := (STEP_main_v84_0 V0).trans h.f_0
  f_1 := (STEP_main_v84_1 V0).trans h.f_1
  f_2 := (STEP_main_v84_2 V0).trans h.f_2
  f_3 := (STEP_main_v84_3 V0).trans h.f_3
  f_4 := (STEP_main_v84_4 V0).trans h.f_4

/-- The state the first trip starts from, of the memory the run starts from. -/
abbrev initState (m : (ℓ : Loc nD τ sig) → Buf (Elt F) ℓ) (c : Dev nD) : State F :=
  init (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))

variable (m : (ℓ : Loc nD τ sig) → Buf (Elt F) ℓ) (c : Dev nD)

set_option maxRecDepth 65536 in
set_option maxHeartbeats 700000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 4096 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v105) = Cert.ReferenceIdeal.Step.R_main_v105 (it c 4096) (m ((c.tc : Thread nD τ).loc main_arg0)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    have hk := holds_iter m c (it c) (h0 c) (hs c) 4096
    ⟨(h c).1.trans (out_main_v105_holds hk (iter_main_arg0 m c 4096) (iter_main_arg5 m c 4096)), (h c).2.1, (h c).2.2.1, (h c).2.2.2.1, (h c).2.2.2.2.1, (h c).2.2.2.2.2.1, (h c).2.2.2.2.2.2⟩) (Value.run m ρ)

end Cert.GdnLoop

end
-- ==== Proof.Result.lean ====
module

public import proofs.«01_k».proof.Defs
public import proofs.«01_k».proof.Proof.RefLoop
public import proofs.«01_k».proof.Proof.LoopRun
public import proofs.«01_k».proof.Proof.Gen.Pre_finite

/-! Finite arguments, and the two programs' equal results. -/

@[expose] public section

noncomputable section

namespace Cert.Gdn

open Idealize.ShloMosaic.ValueIdx Idealize.SL.Sem Idealize.ShloMosaic.TcCoe
open Idealize.ShloMosaic hiding ix0 ix1 ix2 ix3 ix4 ix5 eq_ix1 eq_ix2 eq_ix3 eq_ix4

/-- A number whose absolute value is below something is real. -/
theorem real_of_abs_lt {φ : FTy} {x T : Ideal φ} (h : Scalar.cmpf .olt (FloatOps.absf x) T = 1#1) : (x : EReal) = ((EReal.toReal x : ℝ) : EReal) := by
  have h' : max (x : EReal) (-x) < T := by
    by_contra hn
    have : Scalar.cmpf .olt (FloatOps.absf x) T = 0#1 := by
      show BitVec.ofBool (decide (max (x : EReal) (-x) < T)) = 0#1
      rw [decide_eq_false hn]; rfl
    rw [this] at h
    exact absurd h (by decide)
  refine (EReal.coe_toReal ?_ ?_).symm
  · rintro rfl
    exact absurd h' (by simp)
  · rintro rfl
    exact absurd h' (by simp)

/-- A row of a three-axis array at plain numbers. -/
def nat3 {a b c : ℕ} (X : (⟨3, ![a, b, c]⟩ : Shape).Idx → EReal) (i j k : ℕ) : ℝ :=
  if h : i < a ∧ j < b ∧ k < c then (X (ix3 ⟨i, h.1⟩ ⟨j, h.2.1⟩ ⟨k, h.2.2⟩)).toReal else 0
def nat2 {a b : ℕ} (X : (⟨2, ![a, b]⟩ : Shape).Idx → EReal) (i j : ℕ) : ℝ :=
  if h : i < a ∧ j < b then (X (ix2 ⟨i, h.1⟩ ⟨j, h.2⟩)).toReal else 0
def nat1 {a : ℕ} (X : (⟨1, ![a]⟩ : Shape).Idx → EReal) (i : ℕ) : ℝ :=
  if h : i < a then (X (ix1 ⟨i, h⟩)).toReal else 0

/-- The real numbers six arrays hold. -/
def arraysOf (x0 : FVec Ideal Cert.KernelIdeal.S4x4096x17408 .bf16) (x1 : FVec Ideal Cert.KernelIdeal.S4x4096x768 .f32) (x2 : FVec Ideal Cert.KernelIdeal.S4x6144 .f32)
    (x3 x4 : FVec Ideal Cert.KernelIdeal.S16 .f32) (x5 : FVec Ideal Cert.KernelIdeal.S128 .f32) : Arrays where
  P3 := nat3 (a := 4) (b := 4096) (c := 17408) x0
  PS := nat3 (a := 4) (b := 4096) (c := 768) x1
  CW := nat2 (a := 4) (b := 6144) x2
  AL := nat1 (a := 16) x3
  DT := nat1 (a := 16) x4
  OG := nat1 (a := 128) x5

section
variable {x0 : FVec Ideal Cert.KernelIdeal.S4x4096x17408 .bf16} {x1 : FVec Ideal Cert.KernelIdeal.S4x4096x768 .f32} {x2 : FVec Ideal Cert.KernelIdeal.S4x6144 .f32}
  {x3 x4 : FVec Ideal Cert.KernelIdeal.S16 .f32} {x5 : FVec Ideal Cert.KernelIdeal.S128 .f32}

theorem args_are (h : (Cert.Pre_finite.fn (F := Ideal) x0 x1 x2 x3 x4 x5).1 = (fun _ => 1#1)
    ∧ (Cert.Pre_finite.fn (F := Ideal) x0 x1 x2 x3 x4 x5).2.1 = (fun _ => 1#1)
    ∧ (Cert.Pre_finite.fn (F := Ideal) x0 x1 x2 x3 x4 x5).2.2.1 = (fun _ => 1#1)
    ∧ (Cert.Pre_finite.fn (F := Ideal) x0 x1 x2 x3 x4 x5).2.2.2.1 = (fun _ => 1#1)
    ∧ (Cert.Pre_finite.fn (F := Ideal) x0 x1 x2 x3 x4 x5).2.2.2.2.1 = (fun _ => 1#1)
    ∧ (Cert.Pre_finite.fn (F := Ideal) x0 x1 x2 x3 x4 x5).2.2.2.2.2 = (fun _ => 1#1)) :
    Ref.ArgsAre x0 x1 x2 x3 x4 x5 (arraysOf x0 x1 x2 x3 x4 x5) := by
  obtain ⟨h0, h1, h2, h3, h4, h5⟩ := h
  refine ⟨fun i j k => ?_, fun i j k => ?_, fun i j => ?_, fun i => ?_, fun i => ?_, fun i => ?_⟩
  · refine (real_of_abs_lt (congrFun h0 (ix3 i j k))).trans ?_
    show _ = ((nat3 (a := 4) (b := 4096) (c := 17408) x0 i j k : ℝ) : EReal)
    unfold nat3; rw [dif_pos ⟨i.isLt, j.isLt, k.isLt⟩]
  · refine (real_of_abs_lt (congrFun h1 (ix3 i j k))).trans ?_
    show _ = ((nat3 (a := 4) (b := 4096) (c := 768) x1 i j k : ℝ) : EReal)
    unfold nat3; rw [dif_pos ⟨i.isLt, j.isLt, k.isLt⟩]
  · refine (real_of_abs_lt (congrFun h2 (ix2 i j))).trans ?_
    show _ = ((nat2 (a := 4) (b := 6144) x2 i j : ℝ) : EReal)
    unfold nat2; rw [dif_pos ⟨i.isLt, j.isLt⟩]
  · refine (real_of_abs_lt (congrFun h3 (ix1 i))).trans ?_
    show _ = ((nat1 (a := 16) x3 i : ℝ) : EReal)
    unfold nat1; rw [dif_pos i.isLt]
  · refine (real_of_abs_lt (congrFun h4 (ix1 i))).trans ?_
    show _ = ((nat1 (a := 16) x4 i : ℝ) : EReal)
    unfold nat1; rw [dif_pos i.isLt]
  · refine (real_of_abs_lt (congrFun h5 (ix1 i))).trans ?_
    show _ = ((nat1 (a := 128) x5 i : ℝ) : EReal)
    unfold nat1; rw [dif_pos i.isLt]
end

theorem algebraic : Cert.algebraic_KernelIdeal_ReferenceIdeal_pre_finite := by
  intro m g m' g' hp ha
  let A : (c : Dev Cert.KernelIdeal.nD) → Arrays := fun c =>
    arraysOf (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5))
  have hA := fun c => args_are (hp c)
  refine ⟨fun c => filled (A c), ?_, ?_⟩
  · refine (θ_run Cert.KernelIdeal.defs _ _).mono (fun _ h c => ⟨(h c).1.trans ?_, (h c).2⟩) (Cert.KernelIdeal.Value.run_blocks m g)
    exact filled_eq (A := A c) ⟨(hA c).p3, (hA c).ps, (hA c).cw, (hA c).al, (hA c).dt, (hA c).og⟩
  · refine (θ_run Cert.ReferenceIdeal.defs _ _).mono (fun _ h c => ⟨(h c).1.trans ?_, (h c).2⟩)
      (Cert.GdnLoop.run_iter m' g' (fun c => Ref.iter (Cert.GdnLoop.initState m' c)) (fun _ => rfl) (fun _ _ => rfl))
    obtain ⟨e0, e1, e2, e3, e4, e5⟩ := ha c
    unfold Cert.GdnLoop.initState
    rw [e0, e1, e2, e3, e4, e5]
    exact Ref.result_eq (hA c)

end Cert.Gdn
-- ==== Proof.lean ====
/- The claims together: the three programs run and keep their arguments, and the kernel's result is the reference's. -/
module

public import proofs.«01_k».proof.Defs
public import proofs.«01_k».proof.Proof.Gen.Kernel2.Frame
public import proofs.«01_k».proof.Proof.Gen.Kernel3.Frame
public import proofs.«01_k».proof.Proof.Gen.Kernel4.Frame
public import proofs.«01_k».proof.Proof.Gen.Kernel5.Frame
public import proofs.«01_k».proof.Proof.Down
public import proofs.«01_k».proof.Proof.Up
public import proofs.«01_k».proof.Proof.Merge
public import proofs.«01_k».proof.Proof.Out
public import proofs.«01_k».proof.Proof.Project
public import proofs.«01_k».proof.Proof.Gen.Kernel
public import proofs.«01_k».proof.Proof.Gen.Kernel.Frame
public import proofs.«01_k».proof.Proof.Result
public import Idealize.ShloMosaic.Adequacy
public import Idealize.ShloMosaic.Init

@[expose] public section

noncomputable section

namespace Cert.Proof

open Idealize.ShloMosaic Idealize.SL.Sem

/-- The kernel as printed runs and keeps its arguments. -/
theorem frame_kernel : Cert.quiescent_Kernel := fun m ρ _ => Cert.Kernel.Gen.frame m ρ

/-- The kernel over the extended reals runs and keeps its arguments. -/
theorem frame_ideal : Cert.quiescent_KernelIdeal := fun m ρ _ => Cert.KernelIdeal.Gen.frame m ρ

/-- The reference runs and keeps its arguments; it has no counters. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The reference of the call in `Down` runs and keeps its arguments. -/
theorem frame_reference2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The reference of the call in `Up` runs and keeps its arguments. -/
theorem frame_reference3 : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- The reference of the call in `Merge` runs and keeps its arguments. -/
theorem frame_reference4 : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- The reference of the call in `Out` runs and keeps its arguments. -/
theorem frame_reference5 : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

/-- The reference of the call in `Project` runs and keeps its arguments. -/
theorem frame_reference6 : Cert.quiescent_Reference6Ideal := fun m ρ _ =>
  (θ_run Cert.Reference6Ideal.defs _ _).mono (fun r h => ⟨fun c => (h c).2.2, sem_eq_zero_of_no_sems (by decide) r.2⟩)
    (Cert.Reference6Ideal.Value.run (F := Ideal) m ρ)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Pre_finite.Gen.facts,
  frame_kernel, frame_ideal, fun m ρ _ => frame_ideal m ρ trivial, frame_reference, fun m ρ _ => frame_reference m ρ trivial,
  fun m ρ _ => Cert.Kernel2.Gen.frame m ρ, fun m ρ _ => Cert.Kernel2Ideal.Gen.frame m ρ, frame_reference2,
  fun m ρ _ => Cert.Kernel3.Gen.frame m ρ, fun m ρ _ => Cert.Kernel3Ideal.Gen.frame m ρ, frame_reference3,
  fun m ρ _ => Cert.Kernel4.Gen.frame m ρ, fun m ρ _ => Cert.Kernel4Ideal.Gen.frame m ρ, frame_reference4,
  fun m ρ _ => Cert.Kernel5.Gen.frame m ρ, fun m ρ _ => Cert.Kernel5Ideal.Gen.frame m ρ, frame_reference5,
  Cert.Dense.Proj.frame, fun m ρ _ => Cert.Dense.Proj.frame6 m ρ, frame_reference6,
  trivial, Cert.Gdn.algebraic, trivial, Cert.Dense.Down.algebraic, trivial, Cert.Dense.Up.algebraic, trivial, Cert.Dense.Merge.algebraic, trivial, Cert.Dense.Out.algebraic, trivial, Cert.Dense.Proj.algebraic⟩

end Cert.Proof

end
